-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4x1x4096x96 : Shape := ⟨5, ![8, 4, 1, 4096, 96]⟩
abbrev S8x4x256x96 : Shape := ⟨4, ![8, 4, 256, 96]⟩
abbrev S8x4x4096x96 : Shape := ⟨4, ![8, 4, 4096, 96]⟩
abbrev S8x4x256x64 : Shape := ⟨4, ![8, 4, 256, 64]⟩
abbrev S8x4x4096x64 : Shape := ⟨4, ![8, 4, 4096, 64]⟩
abbrev S_ : Shape := ⟨0, ![]⟩

class Facts : Prop where
  bcast_S_S8x4x1x4096x96 : S_.BroadcastsInDim S8x4x1x4096x96 (![] : Fin 0 → Fin S8x4x1x4096x96.rank)
  reducesTo_S8x4x1x4096x96_S_d0_1_2_3_4 : S8x4x1x4096x96.ReducesTo [0, 1, 2, 3, 4] S_
  h_S_ : 0 < S_.numel
  bcast_S_S8x4x256x96 : S_.BroadcastsInDim S8x4x256x96 (![] : Fin 0 → Fin S8x4x256x96.rank)
  reducesTo_S8x4x256x96_S_d0_1_2_3 : S8x4x256x96.ReducesTo [0, 1, 2, 3] S_
  bcast_S_S8x4x4096x96 : S_.BroadcastsInDim S8x4x4096x96 (![] : Fin 0 → Fin S8x4x4096x96.rank)
  reducesTo_S8x4x4096x96_S_d0_1_2_3 : S8x4x4096x96.ReducesTo [0, 1, 2, 3] S_

variable [Facts]

def fn {F : FTy → Type} [FloatOps F] (main_arg0 : FVec F S8x4x1x4096x96 .f32) (main_arg1 : FVec F S8x4x256x96 .f32) (main_arg2 : FVec F S8x4x4096x96 .f32) (main_arg3 : FVec F S8x4x256x64 .f32) (main_arg4 : FVec F S8x4x4096x64 .f32) : IVec S_ 1 :=
  let main_v0 : FVec F S8x4x1x4096x96 .f32 := Host.absf main_arg0
  let main_cst : FVec F S_ .f32 := constant S_ .f32 0x7F800000#32
  let main_v1 : FVec F S8x4x1x4096x96 .f32 := broadcastInDim S8x4x1x4096x96 ![] bcast_S_S8x4x1x4096x96 main_cst
  let main_v2 : IVec S8x4x1x4096x96 1 := cmpf .olt main_v0 main_v1
  let main_c : IVec S_ 1 := constantI S_ 1 1#1
  let main_v3 : IVec S_ 1 := (fun x v => Host.reduce IntOp.andi x v reducesTo_S8x4x1x4096x96_S_d0_1_2_3_4 h_S_) main_v2 main_c
  let main_v4 : FVec F S8x4x256x96 .f32 := Host.absf main_arg1
  let main_cst_0 : FVec F S_ .f32 := constant S_ .f32 0x7F800000#32
  let main_v5 : FVec F S8x4x256x96 .f32 := broadcastInDim S8x4x256x96 ![] bcast_S_S8x4x256x96 main_cst_0
  let main_v6 : IVec S8x4x256x96 1 := cmpf .olt main_v4 main_v5
  let main_c_1 : IVec S_ 1 := constantI S_ 1 1#1
  let main_v7 : IVec S_ 1 := (fun x v => Host.reduce IntOp.andi x v reducesTo_S8x4x256x96_S_d0_1_2_3 h_S_) main_v6 main_c_1
  let main_v8 : IVec S_ 1 := andi main_v3 main_v7
  let main_v9 : FVec F S8x4x4096x96 .f32 := Host.absf main_arg2
  let main_cst_2 : FVec F S_ .f32 := constant S_ .f32 0x7F800000#32
  let main_v10 : FVec F S8x4x4096x96 .f32 := broadcastInDim S8x4x4096x96 ![] bcast_S_S8x4x4096x96 main_cst_2
  let main_v11 : IVec S8x4x4096x96 1 := cmpf .olt main_v9 main_v10
  let main_c_3 : IVec S_ 1 := constantI S_ 1 1#1
  let main_v12 : IVec S_ 1 := (fun x v => Host.reduce IntOp.andi x v reducesTo_S8x4x4096x96_S_d0_1_2_3 h_S_) main_v11 main_c_3
  let main_v13 : IVec S_ 1 := andi main_v8 main_v12
  main_v13
-- ==== Kernel.lean ====
abbrev S8x4x1x4096x96 : Shape := ⟨5, ![8, 4, 1, 4096, 96]⟩
abbrev S8x4x256x96 : Shape := ⟨4, ![8, 4, 256, 96]⟩
abbrev S8x4x4096x96 : Shape := ⟨4, ![8, 4, 4096, 96]⟩
abbrev S8x4x256x64 : Shape := ⟨4, ![8, 4, 256, 64]⟩
abbrev S8x4x4096x64 : Shape := ⟨4, ![8, 4, 4096, 64]⟩
abbrev S_ : Shape := ⟨0, ![]⟩
abbrev S8x4x256x32 : Shape := ⟨4, ![8, 4, 256, 32]⟩
abbrev S8x4x256x128 : Shape := ⟨4, ![8, 4, 256, 128]⟩
abbrev S8x256x4x128 : Shape := ⟨4, ![8, 256, 4, 128]⟩
abbrev S8x256x512 : Shape := ⟨3, ![8, 256, 512]⟩
abbrev S8x4x4096x32 : Shape := ⟨4, ![8, 4, 4096, 32]⟩
abbrev S8x4x4096x128 : Shape := ⟨4, ![8, 4, 4096, 128]⟩
abbrev S8x4096x4x128 : Shape := ⟨4, ![8, 4096, 4, 128]⟩
abbrev S8x4096x512 : Shape := ⟨3, ![8, 4096, 512]⟩
abbrev S8x4096x1024 : Shape := ⟨3, ![8, 4096, 1024]⟩
abbrev S8x4096x2560 : Shape := ⟨3, ![8, 4096, 2560]⟩
abbrev S8x256x1024 : Shape := ⟨3, ![8, 256, 1024]⟩
abbrev S8x256x2560 : Shape := ⟨3, ![8, 256, 2560]⟩
abbrev S8x4096x256 : Shape := ⟨3, ![8, 4096, 256]⟩
abbrev S1x512x512 : Shape := ⟨3, ![1, 512, 512]⟩
abbrev S1x4096x512 : Shape := ⟨3, ![1, 4096, 512]⟩
abbrev S1x256x512 : Shape := ⟨3, ![1, 256, 512]⟩
abbrev S1x512x256 : Shape := ⟨3, ![1, 512, 256]⟩
abbrev S2x512x4352 : Shape := ⟨3, ![2, 512, 4352]⟩
abbrev S2x512x128 : Shape := ⟨3, ![2, 512, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x128 : Shape := ⟨2, ![1, 128]⟩

abbrev nBuf : Space → Nat
  | .hbm => 55
  | .vmem => 22
  | .smem => 0
  | _ => 0

abbrev bufTy : (tb : Table) → Fin (tcTables nBuf tb) → BufTy
  | .hbm, ⟨0, _⟩ => ⟨S8x4x1x4096x96, .f32⟩
  | .hbm, ⟨1, _⟩ => ⟨S8x4x256x96, .f32⟩
  | .hbm, ⟨2, _⟩ => ⟨S8x4x4096x96, .f32⟩
  | .hbm, ⟨3, _⟩ => ⟨S8x4x256x64, .f32⟩
  | .hbm, ⟨4, _⟩ => ⟨S8x4x4096x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4x256x32, .f32⟩
  | .hbm, ⟨10, _⟩ => ⟨S8x4x256x64, .f32⟩
  | .hbm, ⟨11, _⟩ => ⟨S8x4x256x96, .f32⟩
  | .hbm, ⟨12, _⟩ => ⟨S_, .f32⟩
  | .hbm, ⟨13, _⟩ => ⟨S8x4x256x128, .f32⟩
  | .hbm, ⟨14, _⟩ => ⟨S8x256x4x128, .f32⟩
  | .hbm, ⟨15, _⟩ => ⟨S8x256x512, .f32⟩
  | .hbm, ⟨16, _⟩ => ⟨S8x256x512, .bf16⟩
  | .hbm, ⟨17, _⟩ => ⟨S8x4x4096x32, .f32⟩
  | .hbm, ⟨18, _⟩ => ⟨S8x4x4096x64, .f32⟩
  | .hbm, ⟨19, _⟩ => ⟨S8x4x4096x96, .f32⟩
  | .hbm, ⟨20, _⟩ => ⟨S_, .f32⟩
  | .hbm, ⟨21, _⟩ => ⟨S8x4x4096x128, .f32⟩
  | .hbm, ⟨22, _⟩ => ⟨S8x4096x4x128, .f32⟩
  | .hbm, ⟨23, _⟩ => ⟨S8x4096x512, .f32⟩
  | .hbm, ⟨24, _⟩ => ⟨S8x4096x512, .bf16⟩
  | .hbm, ⟨25, _⟩ => ⟨S8x4x4096x96, .f32⟩
  | .hbm, ⟨26, _⟩ => ⟨S8x4x4096x96, .f32⟩
  | .hbm, ⟨27, _⟩ => ⟨S8x4x4096x96, .f32⟩
  | .hbm, ⟨28, _⟩ => ⟨S8x4x4096x32, .f32⟩
  | .hbm, ⟨29, _⟩ => ⟨S8x4x4096x64, .f32⟩
  | .hbm, ⟨30, _⟩ => ⟨S8x4x4096x96, .f32⟩
  | .hbm, ⟨31, _⟩ => ⟨S_, .f32⟩
  | .hbm, ⟨32, _⟩ => ⟨S8x4x4096x128, .f32⟩
  | .hbm, ⟨33, _⟩ => ⟨S8x4096x4x128, .f32⟩
  | .hbm, ⟨34, _⟩ => ⟨S8x4096x512, .f32⟩
  | .hbm, ⟨35, _⟩ => ⟨S8x4096x512, .bf16⟩
  | .hbm, ⟨36, _⟩ => ⟨S_, .f32⟩
  | .hbm, ⟨37, _⟩ => ⟨S8x4x4096x128, .f32⟩
  | .hbm, ⟨38, _⟩ => ⟨S8x4096x4x128, .f32⟩
  | .hbm, ⟨39, _⟩ => ⟨S8x4096x512, .f32⟩
  | .hbm, ⟨40, _⟩ => ⟨S8x4096x512, .bf16⟩
  | .hbm, ⟨41, _⟩ => ⟨S_, .bf16⟩
  | .hbm, ⟨42, _⟩ => ⟨S8x4096x1024, .bf16⟩
  | .hbm, ⟨43, _⟩ => ⟨S8x4096x2560, .bf16⟩
  | .hbm, ⟨44, _⟩ => ⟨S_, .bf16⟩
  | .hbm, ⟨45, _⟩ => ⟨S8x256x512, .bf16⟩
  | .hbm, ⟨46, _⟩ => ⟨S_, .f32⟩
  | .hbm, ⟨47, _⟩ => ⟨S8x4x256x128, .f32⟩
  | .hbm, ⟨48, _⟩ => ⟨S8x256x4x128, .f32⟩
  | .hbm, ⟨49, _⟩ => ⟨S8x256x512, .f32⟩
  | .hbm, ⟨50, _⟩ => ⟨S8x256x512, .bf16⟩
  | .hbm, ⟨51, _⟩ => ⟨S_, .bf16⟩
  | .hbm, ⟨52, _⟩ => ⟨S8x256x1024, .bf16⟩
  | .hbm, ⟨53, _⟩ => ⟨S8x256x2560, .bf16⟩
  | .hbm, ⟨54, _⟩ => ⟨S8x4096x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x4096x512, .bf16⟩
  | .local _ .vmem, ⟨13, _⟩ => ⟨S1x4096x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x512x256, .bf16⟩
  | .local _ .vmem, ⟨17, _⟩ => ⟨S1x512x256, .bf16⟩
  | .local _ .vmem, ⟨18, _⟩ => ⟨S2x512x4352, .f32⟩
  | .local _ .vmem, ⟨19, _⟩ => ⟨S2x512x128, .f32⟩
  | .local _ .vmem, ⟨20, _⟩ => ⟨S2x512x128, .f32⟩
  | .local _ .vmem, ⟨21, _⟩ => ⟨S2x512x128, .f32⟩
  | _, _ => ⟨S8x4x1x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c7_i32_0 : BitVec 32 := 7#32
  let v2 : BitVec 32 := Scalar.minsi v1 c7_i32_0
  let v3 : BitVec 32 := Scalar.select v0 v2 arg0
  let c7_i32_1 : BitVec 32 := 7#32
  let v4 : BitVec 1 := Scalar.cmpi .eq arg1 c7_i32_1
  let c1_i32_2 : BitVec 32 := 1#32
  let v5 : BitVec 32 := Scalar.addi arg1 c1_i32_2
  let c0_i32 : BitVec 32 := 0#32
  let v6 : BitVec 32 := Scalar.select v4 c0_i32 v5
  let c0_i32_3 : BitVec 32 := 0#32
  let c0_i32_4 : BitVec 32 := 0#32
  ![v3.toNat, v6.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c1_i32_0 : BitVec 32 := 1#32
  let c0_i32_1 : BitVec 32 := 0#32
  ![v1.toNat, c0_i32.toNat, c1_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c1_i32_0 : BitVec 32 := 1#32
  let c0_i32_1 : BitVec 32 := 0#32
  ![v1.toNat, c0_i32.toNat, c1_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4x1x4096x96 : Shape := ⟨5, ![8, 4, 1, 4096, 96]⟩
abbrev S8x4x256x96 : Shape := ⟨4, ![8, 4, 256, 96]⟩
abbrev S8x4x4096x96 : Shape := ⟨4, ![8, 4, 4096, 96]⟩
abbrev S8x4x256x64 : Shape := ⟨4, ![8, 4, 256, 64]⟩
abbrev S8x4x4096x64 : Shape := ⟨4, ![8, 4, 4096, 64]⟩
abbrev S8x4x4352x96 : Shape := ⟨4, ![8, 4, 4352, 96]⟩
abbrev S8x4x4352x64 : Shape := ⟨4, ![8, 4, 4352, 64]⟩
abbrev S8x4x1x4096x4352 : Shape := ⟨5, ![8, 4, 1, 4096, 4352]⟩
abbrev S_ : Shape := ⟨0, ![]⟩
abbrev S8x4x1x4096 : Shape := ⟨4, ![8, 4, 1, 4096]⟩
abbrev S8x4x1x4096x1 : Shape := ⟨5, ![8, 4, 1, 4096, 1]⟩
abbrev S8x4x1x4096x64 : Shape := ⟨5, ![8, 4, 1, 4096, 64]⟩
abbrev S8x4096x4x64 : Shape := ⟨4, ![8, 4096, 4, 64]⟩
abbrev S8x4096x256 : Shape := ⟨3, ![8, 4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x4x1x4096x96, .f32⟩
  | .hbm, ⟨1, _⟩ => ⟨S8x4x256x96, .f32⟩
  | .hbm, ⟨2, _⟩ => ⟨S8x4x4096x96, .f32⟩
  | .hbm, ⟨3, _⟩ => ⟨S8x4x256x64, .f32⟩
  | .hbm, ⟨4, _⟩ => ⟨S8x4x4096x64, .f32⟩
  | .hbm, ⟨5, _⟩ => ⟨S8x4x4352x96, .f32⟩
  | .hbm, ⟨6, _⟩ => ⟨S8x4x4352x64, .f32⟩
  | .hbm, ⟨7, _⟩ => ⟨S8x4x1x4096x4352, .f32⟩
  | .hbm, ⟨8, _⟩ => ⟨S_, .f32⟩
  | .hbm, ⟨9, _⟩ => ⟨S8x4x1x4096x4352, .f32⟩
  | .hbm, ⟨10, _⟩ => ⟨S8x4x1x4096x4352, .f32⟩
  | .hbm, ⟨11, _⟩ => ⟨S_, .f32⟩
  | .hbm, ⟨12, _⟩ => ⟨S8x4x1x4096, .f32⟩
  | .hbm, ⟨13, _⟩ => ⟨S_, .f32⟩
  | .hbm, ⟨14, _⟩ => ⟨S8x4x1x4096, .f32⟩
  | .hbm, ⟨15, _⟩ => ⟨S8x4x1x4096, .f32⟩
  | .hbm, ⟨16, _⟩ => ⟨S8x4x1x4096x1, .f32⟩
  | .hbm, ⟨17, _⟩ => ⟨S8x4x1x4096x4352, .f32⟩
  | .hbm, ⟨18, _⟩ => ⟨S8x4x1x4096x4352, .f32⟩
  | .hbm, ⟨19, _⟩ => ⟨S8x4x1x4096x4352, .f32⟩
  | .hbm, ⟨20, _⟩ => ⟨S_, .f32⟩
  | .hbm, ⟨21, _⟩ => ⟨S8x4x1x4096, .f32⟩
  | .hbm, ⟨22, _⟩ => ⟨S8x4x1x4096x1, .f32⟩
  | .hbm, ⟨23, _⟩ => ⟨S8x4x1x4096x4352, .f32⟩
  | .hbm, ⟨24, _⟩ => ⟨S8x4x1x4096x4352, .f32⟩
  | .hbm, ⟨25, _⟩ => ⟨S8x4x1x4096x64, .f32⟩
  | .hbm, ⟨26, _⟩ => ⟨S8x4x4096x64, .f32⟩
  | .hbm, ⟨27, _⟩ => ⟨S8x4096x4x64, .f32⟩
  | .hbm, ⟨28, _⟩ => ⟨S8x4096x256, .f32⟩
  | .hbm, ⟨29, _⟩ => ⟨S8x4096x256, .bf16⟩
  | _, _ => ⟨S8x4x1x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x256 : Shape := ⟨3, ![8, 4096, 256]⟩
abbrev S8x6x1024 : Shape := ⟨3, ![8, 6, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S1x512x1024 : Shape := ⟨3, ![1, 512, 1024]⟩
abbrev S1x512x256 : Shape := ⟨3, ![1, 512, 256]⟩
abbrev S1x6x1024 : Shape := ⟨3, ![1, 6, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 19
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x6x1024, .f32⟩
  | .hbm, ⟨6, _⟩ => ⟨S4x1024x1024, .f32⟩
  | .hbm, ⟨7, _⟩ => ⟨S4x1024x4096, .f32⟩
  | .hbm, ⟨8, _⟩ => ⟨S4x4096x1024, .f32⟩
  | .hbm, ⟨9, _⟩ => ⟨S1024, .f32⟩
  | .hbm, ⟨10, _⟩ => ⟨S8x4096x256, .bf16⟩
  | .hbm, ⟨11, _⟩ => ⟨S8x4096x256, .bf16⟩
  | .hbm, ⟨12, _⟩ => ⟨S8x4096x256, .bf16⟩
  | .hbm, ⟨13, _⟩ => ⟨S8x4096x256, .bf16⟩
  | .hbm, ⟨14, _⟩ => ⟨S4x1024x1024, .bf16⟩
  | .hbm, ⟨15, _⟩ => ⟨S4x1024x4096, .bf16⟩
  | .hbm, ⟨16, _⟩ => ⟨S4x4096x1024, .bf16⟩
  | .hbm, ⟨17, _⟩ => ⟨S1x1024, .f32⟩
  | .hbm, ⟨18, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x6x1024, .f32⟩
  | .local _ .vmem, ⟨11, _⟩ => ⟨S1x6x1024, .f32⟩
  | .local _ .vmem, ⟨12, _⟩ => ⟨S1x1024x1024, .bf16⟩
  | .local _ .vmem, ⟨13, _⟩ => ⟨S1x1024x4096, .bf16⟩
  | .local _ .vmem, ⟨14, _⟩ => ⟨S1x4096x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S8x4096x256 : Shape := ⟨3, ![8, 4096, 256]⟩
abbrev S8x6x1024 : Shape := ⟨3, ![8, 6, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S8x1x1024 : Shape := ⟨3, ![8, 1, 1024]⟩
abbrev S8x1024 : Shape := ⟨2, ![8, 1024]⟩
abbrev S1x1024x1024 : Shape := ⟨3, ![1, 1024, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x6x1024, .f32⟩
  | .hbm, ⟨6, _⟩ => ⟨S4x1024x1024, .f32⟩
  | .hbm, ⟨7, _⟩ => ⟨S4x1024x4096, .f32⟩
  | .hbm, ⟨8, _⟩ => ⟨S4x4096x1024, .f32⟩
  | .hbm, ⟨9, _⟩ => ⟨S1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S8x4096x1024, .f32⟩
  | .hbm, ⟨29, _⟩ => ⟨S1x1024x1024, .f32⟩
  | .hbm, ⟨30, _⟩ => ⟨S1024x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x1x1024, .f32⟩
  | .hbm, ⟨50, _⟩ => ⟨S8x1x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S1x1024x4096, .f32⟩
  | .hbm, ⟨56, _⟩ => ⟨S1024x4096, .f32⟩
  | .hbm, ⟨57, _⟩ => ⟨S1x4096x1024, .f32⟩
  | .hbm, ⟨58, _⟩ => ⟨S4096x1024, .f32⟩
  | .hbm, ⟨59, _⟩ => ⟨S8x4096x4096, .f32⟩
  | .hbm, ⟨60, _⟩ => ⟨S_, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_cst : Ref sig .tc := ⟨.hbm, 60, rfl⟩
abbrev main_call0_v0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_3 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel3.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩

abbrev nBuf : Space → Nat
  | .hbm => 76
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S16x1024, .f32⟩
  | .hbm, ⟨38, _⟩ => ⟨S16x1024, .f32⟩
  | .hbm, ⟨39, _⟩ => ⟨S_, .f32⟩
  | .hbm, ⟨40, _⟩ => ⟨S16x1024, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S1x1024x6144, .f32⟩
  | .hbm, ⟨47, _⟩ => ⟨S1024x6144, .f32⟩
  | .hbm, ⟨48, _⟩ => ⟨S16x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S16x6144, .f32⟩
  | .hbm, ⟨53, _⟩ => ⟨S16x6144, .f32⟩
  | .hbm, ⟨54, _⟩ => ⟨S16x1024, .f32⟩
  | .hbm, ⟨55, _⟩ => ⟨S16x1024, .f32⟩
  | .hbm, ⟨56, _⟩ => ⟨S_, .f32⟩
  | .hbm, ⟨57, _⟩ => ⟨S16x1024, .f32⟩
  | .hbm, ⟨58, _⟩ => ⟨S16x1024, .f32⟩
  | .hbm, ⟨59, _⟩ => ⟨S_, .f32⟩
  | .hbm, ⟨60, _⟩ => ⟨S16x1024, .f32⟩
  | .hbm, ⟨61, _⟩ => ⟨S16x1024, .f32⟩
  | .hbm, ⟨62, _⟩ => ⟨S16x1024, .f32⟩
  | .hbm, ⟨63, _⟩ => ⟨S1x1024x6144, .f32⟩
  | .hbm, ⟨64, _⟩ => ⟨S1024x6144, .f32⟩
  | .hbm, ⟨65, _⟩ => ⟨S16x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S16x6144, .f32⟩
  | .hbm, ⟨70, _⟩ => ⟨S16x6144, .f32⟩
  | .hbm, ⟨71, _⟩ => ⟨S1x16x6144, .f32⟩
  | .hbm, ⟨72, _⟩ => ⟨S1x16x6144, .f32⟩
  | .hbm, ⟨73, _⟩ => ⟨S1x16x6144, .f32⟩
  | .hbm, ⟨74, _⟩ => ⟨S1x16x6144, .f32⟩
  | .hbm, ⟨75, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Kernel4.lean ====
abbrev S8x256x1024 : Shape := ⟨3, ![8, 256, 1024]⟩
abbrev S8x256x256 : Shape := ⟨3, ![8, 256, 256]⟩
abbrev S1x6x1024 : Shape := ⟨3, ![1, 6, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x256x1024 : Shape := ⟨3, ![1, 256, 1024]⟩
abbrev S1x256x256 : Shape := ⟨3, ![1, 256, 256]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256x256 : Shape := ⟨2, ![256, 256]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S8x256x256, .f32⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S1x6x1024, .f32⟩
  | .hbm, ⟨6, _⟩ => ⟨S4x1024x1024, .f32⟩
  | .hbm, ⟨7, _⟩ => ⟨S4x1024x4096, .f32⟩
  | .hbm, ⟨8, _⟩ => ⟨S4x4096x1024, .f32⟩
  | .hbm, ⟨9, _⟩ => ⟨S8x256x256, .bf16⟩
  | .hbm, ⟨10, _⟩ => ⟨S8x256x256, .bf16⟩
  | .hbm, ⟨11, _⟩ => ⟨S8x256x256, .bf16⟩
  | .hbm, ⟨12, _⟩ => ⟨S8x256x256, .bf16⟩
  | .hbm, ⟨13, _⟩ => ⟨S4x1024x1024, .bf16⟩
  | .hbm, ⟨14, _⟩ => ⟨S4x1024x4096, .bf16⟩
  | .hbm, ⟨15, _⟩ => ⟨S4x4096x1024, .bf16⟩
  | .hbm, ⟨16, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x6x1024, .f32⟩
  | .local _ .vmem, ⟨11, _⟩ => ⟨S1x1024x1024, .bf16⟩
  | .local _ .vmem, ⟨12, _⟩ => ⟨S1x1024x4096, .bf16⟩
  | .local _ .vmem, ⟨13, _⟩ => ⟨S1x4096x1024, .bf16⟩
  | .local _ .vmem, ⟨14, _⟩ => ⟨S1x256x1024, .f32⟩
  | .local _ .vmem, ⟨15, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x256x1024 : Shape := ⟨3, ![8, 256, 1024]⟩
abbrev S8x256x256 : Shape := ⟨3, ![8, 256, 256]⟩
abbrev S1x6x1024 : Shape := ⟨3, ![1, 6, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x256x4096 : Shape := ⟨3, ![8, 256, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x256, .f32⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S1x6x1024, .f32⟩
  | .hbm, ⟨6, _⟩ => ⟨S4x1024x1024, .f32⟩
  | .hbm, ⟨7, _⟩ => ⟨S4x1024x4096, .f32⟩
  | .hbm, ⟨8, _⟩ => ⟨S4x4096x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1x1024, .f32⟩
  | .hbm, ⟨16, _⟩ => ⟨S1x1024, .f32⟩
  | .hbm, ⟨17, _⟩ => ⟨S1x1x1024, .f32⟩
  | .hbm, ⟨18, _⟩ => ⟨S1x1x1024, .f32⟩
  | .hbm, ⟨19, _⟩ => ⟨S1x1024, .f32⟩
  | .hbm, ⟨20, _⟩ => ⟨S1x1x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1x1024, .f32⟩
  | .hbm, ⟨25, _⟩ => ⟨S1x1024, .f32⟩
  | .hbm, ⟨26, _⟩ => ⟨S1x1x1024, .f32⟩
  | .hbm, ⟨27, _⟩ => ⟨S8x256x1024, .f32⟩
  | .hbm, ⟨28, _⟩ => ⟨S1x1024x1024, .f32⟩
  | .hbm, ⟨29, _⟩ => ⟨S1024x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S_, .f32⟩
  | .hbm, ⟨36, _⟩ => ⟨S8x256, .f32⟩
  | .hbm, ⟨37, _⟩ => ⟨S8x256x1, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S8x256x1, .f32⟩
  | .hbm, ⟨45, _⟩ => ⟨S8x256x1024, .f32⟩
  | .hbm, ⟨46, _⟩ => ⟨S8x256x1024, .f32⟩
  | .hbm, ⟨47, _⟩ => ⟨S_, .f32⟩
  | .hbm, ⟨48, _⟩ => ⟨S1x1x1024, .f32⟩
  | .hbm, ⟨49, _⟩ => ⟨S1x1x1024, .f32⟩
  | .hbm, ⟨50, _⟩ => ⟨S8x256x1024, .f32⟩
  | .hbm, ⟨51, _⟩ => ⟨S8x256x1024, .f32⟩
  | .hbm, ⟨52, _⟩ => ⟨S8x256x1024, .f32⟩
  | .hbm, ⟨53, _⟩ => ⟨S8x256x1024, .f32⟩
  | .hbm, ⟨54, _⟩ => ⟨S1x1024x4096, .f32⟩
  | .hbm, ⟨55, _⟩ => ⟨S1024x4096, .f32⟩
  | .hbm, ⟨56, _⟩ => ⟨S1x4096x1024, .f32⟩
  | .hbm, ⟨57, _⟩ => ⟨S4096x1024, .f32⟩
  | .hbm, ⟨58, _⟩ => ⟨S8x256x4096, .f32⟩
  | .hbm, ⟨59, _⟩ => ⟨S_, .f32⟩
  | .hbm, ⟨60, _⟩ => ⟨S8x256x4096, .f32⟩
  | .hbm, ⟨61, _⟩ => ⟨S8x256x4096, .f32⟩
  | .hbm, ⟨62, _⟩ => ⟨S8x256x4096, .f32⟩
  | .hbm, ⟨63, _⟩ => ⟨S8x256x1024, .f32⟩
  | .hbm, ⟨64, _⟩ => ⟨S8x256x1024, .f32⟩
  | .hbm, ⟨65, _⟩ => ⟨S8x256x1024, .f32⟩
  | .hbm, ⟨66, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_cst : Ref sig .tc := ⟨.hbm, 59, rfl⟩
abbrev main_call0_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x256 : Shape := ⟨3, ![8, 4096, 256]⟩
abbrev S8x6x1024 : Shape := ⟨3, ![8, 6, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x512x1024 : Shape := ⟨3, ![1, 512, 1024]⟩
abbrev S1x512x256 : Shape := ⟨3, ![1, 512, 256]⟩
abbrev S1x6x1024 : Shape := ⟨3, ![1, 6, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 17
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x6x1024, .f32⟩
  | .hbm, ⟨6, _⟩ => ⟨S4x1024x1024, .f32⟩
  | .hbm, ⟨7, _⟩ => ⟨S4x1024x4096, .f32⟩
  | .hbm, ⟨8, _⟩ => ⟨S4x4096x1024, .f32⟩
  | .hbm, ⟨9, _⟩ => ⟨S8x4096x256, .bf16⟩
  | .hbm, ⟨10, _⟩ => ⟨S8x4096x256, .bf16⟩
  | .hbm, ⟨11, _⟩ => ⟨S8x4096x256, .bf16⟩
  | .hbm, ⟨12, _⟩ => ⟨S8x4096x256, .bf16⟩
  | .hbm, ⟨13, _⟩ => ⟨S4x1024x1024, .bf16⟩
  | .hbm, ⟨14, _⟩ => ⟨S4x1024x4096, .bf16⟩
  | .hbm, ⟨15, _⟩ => ⟨S4x4096x1024, .bf16⟩
  | .hbm, ⟨16, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x6x1024, .f32⟩
  | .local _ .vmem, ⟨11, _⟩ => ⟨S1x6x1024, .f32⟩
  | .local _ .vmem, ⟨12, _⟩ => ⟨S1x1024x1024, .bf16⟩
  | .local _ .vmem, ⟨13, _⟩ => ⟨S1x1024x4096, .bf16⟩
  | .local _ .vmem, ⟨14, _⟩ => ⟨S1x4096x1024, .bf16⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x4096x1024 : Shape := ⟨3, ![8, 4096, 1024]⟩
abbrev S8x4096x256 : Shape := ⟨3, ![8, 4096, 256]⟩
abbrev S8x6x1024 : Shape := ⟨3, ![8, 6, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S8x1x1024 : Shape := ⟨3, ![8, 1, 1024]⟩
abbrev S8x1024 : Shape := ⟨2, ![8, 1024]⟩
abbrev S1x1024x1024 : Shape := ⟨3, ![1, 1024, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x6x1024, .f32⟩
  | .hbm, ⟨6, _⟩ => ⟨S4x1024x1024, .f32⟩
  | .hbm, ⟨7, _⟩ => ⟨S4x1024x4096, .f32⟩
  | .hbm, ⟨8, _⟩ => ⟨S4x4096x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x4096x1024, .f32⟩
  | .hbm, ⟨28, _⟩ => ⟨S1x1024x1024, .f32⟩
  | .hbm, ⟨29, _⟩ => ⟨S1024x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S1x1024x4096, .f32⟩
  | .hbm, ⟨55, _⟩ => ⟨S1024x4096, .f32⟩
  | .hbm, ⟨56, _⟩ => ⟨S1x4096x1024, .f32⟩
  | .hbm, ⟨57, _⟩ => ⟨S4096x1024, .f32⟩
  | .hbm, ⟨58, _⟩ => ⟨S8x4096x4096, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_cst : Ref sig .tc := ⟨.hbm, 59, rfl⟩
abbrev main_call0_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Softmax.lean ====
/- The softmax equation over the extended reals: weights taken by powers of two of scaled scores and divided once at the end are
   the weights taken by `exp` and divided one by one. -/
module

public import Idealize.ShloMosaic.PureOps.Ideal
public import Idealize.ShloMosaic.Lib.Pipeline.ValueKit

@[expose] public section

noncomputable section

namespace Cert.Attn

open Idealize.ShloMosaic

/-- A nonnegative real factor distributes over a sum of two extended reals. -/
theorem coe_mul_add {r : ℝ} (hr : 0 ≤ r) (a b : EReal) : (r : EReal) * (a + b) = (r : EReal) * a + (r : EReal) * b :=
  EReal.left_distrib_of_nonneg_of_ne_top (by exact_mod_cast hr) (EReal.coe_ne_top r) a b

/-- A nonnegative real factor goes through a finite sum of extended reals. -/
theorem coe_mul_sum {ι : Type} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- The sum of real numbers taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Powers of two of a scaled number are powers of `e`. -/
theorem exp2_scaled (x : ℝ) : Ideal.exp2 ((x * (1 / Real.log 2) : ℝ) : EReal) = (Real.exp x : EReal) := by
  have h2 : Real.log 2 ≠ 0 := ne_of_gt (Real.log_pos (by norm_num))
  rw [Ideal.exp2_coe]
  congr 1
  change (2 : ℝ) ^ (x * (1 / Real.log 2)) = Real.exp x
  rw [Real.rpow_def_of_pos (by norm_num)]
  congr 1
  field_simp

/-- The weighted mean of `v` under the softmax of the scores `s`: on the left by powers of two of the scaled scores over their
    greatest, divided once; on the right by `exp` of the scores over their greatest, divided one by one. -/
theorem softmax_mean {ι : Type} [Fintype ι] [Nonempty ι] (s : ι → ℝ) (v : ι → EReal) (K : ι → EReal)
    (hK : ∀ i, K i = ((s i * (1 / Real.log 2) : ℝ) : EReal)) :
    Ideal.div (∑ i, Ideal.exp2 (K i - Finset.univ.sup K) * v i) (∑ i, Ideal.exp2 (K i - Finset.univ.sup K) * 1)
      = ∑ i, Ideal.div (Ideal.exp ((s i : EReal) - Finset.univ.sup fun k => (s k : EReal)))
          (∑ j, Ideal.exp ((s j : EReal) - Finset.univ.sup fun k => (s k : EReal))) * v i := by
  obtain ⟨i₀, -, h₀⟩ := Finset.exists_max_image Finset.univ s Finset.univ_nonempty
  have hl : 0 < 1 / Real.log 2 := by have := Real.log_pos (x := 2) (by norm_num); positivity
  have hm : (Finset.univ.sup fun k => (s k : EReal)) = (s i₀ : EReal) :=
    le_antisymm (Finset.sup_le fun k hk => by exact_mod_cast h₀ k hk) (Finset.le_sup (f := fun k => (s k : EReal)) (Finset.mem_univ i₀))
  have hM : Finset.univ.sup K = ((s i₀ * (1 / Real.log 2) : ℝ) : EReal) := by
    rw [← hK i₀]
    refine le_antisymm (Finset.sup_le fun k hk => ?_) (Finset.le_sup (Finset.mem_univ i₀))
    rw [hK, hK]
    exact_mod_cast mul_le_mul_of_nonneg_right (h₀ k hk) hl.le
  have he : ∀ i, Ideal.exp2 (K i - Finset.univ.sup K) = ((Real.exp (s i - s i₀) : ℝ) : EReal) := fun i => by
    rw [hM, hK, ← EReal.coe_sub, ← sub_mul, exp2_scaled]
  have he' : ∀ i, Ideal.exp ((s i : EReal) - Finset.univ.sup fun k => (s k : EReal)) = ((Real.exp (s i - s i₀) : ℝ) : EReal) := fun i => by
    rw [hm, ← EReal.coe_sub, Ideal.exp_coe]
  have hP : 0 < ∑ i, Real.exp (s i - s i₀) := Finset.sum_pos (fun i _ => Real.exp_pos _) Finset.univ_nonempty
  simp only [he, he', mul_one, ← coe_sum, Ideal.div_coe hP.ne']
  rw [mul_comm, coe_mul_sum (by positivity)]
  refine Finset.sum_congr rfl fun i _ => ?_
  rw [← mul_assoc, mul_comm ((1 / _ : ℝ) : EReal)]

end Cert.Attn

end
-- ==== Proof.Ops.lean ====
/- The kernel's vector steps, each named once and read at an index: a block of scores, its lane maxima, the row maximum spread over
   the lanes, and a block of weighted values. -/
module

public import proofs.«01_k».proof.Proof.Gen.KernelIdeal.Skeleton
public import proofs.«01_k».proof.Proof.Softmax
public import Idealize.ShloMosaic.Lib.Pipeline.ValueKit
public import Idealize.ShloMosaic.Lib.MatmulPlain
public import Idealize.ShloMosaic.Lib.ValueLayout

@[expose] public section

set_option maxRecDepth 16384

noncomputable section

namespace Cert.KernelIdeal.Attn

open Idealize.ShloMosaic

/-- A block of scores: 512 queries against 256 keys, over 128 lanes. -/
def scoreV (q : FVec Ideal S512x128 .bf16) (k : FVec Ideal S256x128 .bf16) : FVec Ideal S512x256 .f32 :=
  matmul dot_S512x128_S256x128_S512x256_1_1_0_0_n_n none q k (constant S512x256 .f32 0x00000000#32)

/-- The block as it is stored. -/
def scoreS (q : FVec Ideal S512x128 .bf16) (k : FVec Ideal S256x128 .bf16) : FVec Ideal S1x512x256 .f32 :=
  shapeCast S1x512x256 (scoreV q k) Gen.shapeCasts_S512x256_S1x512x256

/-- The larger of the block's two halves, lane by lane. -/
def halfMax (q : FVec Ideal S512x128 .bf16) (k : FVec Ideal S256x128 .bf16) : FVec Ideal S512x128 .f32 :=
  maximumf (extractStridedSlice S512x128 ![0, 0] (scoreV q k) Gen.slices_S512x256_o0_0_S512x128)
    (extractStridedSlice S512x128 ![0, 128] (scoreV q k) Gen.slices_S512x256_o0_128_S512x128)

/-- A row's running maxima spread: the maximum over the lanes, in every lane. -/
def rowMax (m : FVec Ideal S512x128 .f32) : FVec Ideal S512x128 .f32 :=
  broadcastTo S512x128
    (shapeCast S512x1 (shapeCast S512x1 (multiReduction .maximumf [1] S512 m 0xFF800000#32 Gen.reduces_S512x128_S512 (.inl rfl) rfl)
      Gen.shapeCasts_S512_S512x1) Gen.shapeCasts_S512x1_S512x1) Gen.broadcasts_S512x1_S512x128

/-- Weighted values of a block: powers of two of the two halves' scores less the row's maximum, times the block's values. -/
def valueV (m s0 s1 : FVec Ideal S512x128 .f32) (v : FVec Ideal S256x128 .bf16) : FVec Ideal S512x128 .f32 :=
  matmul dot_S512x256_S256x128_S512x128_1_0_0_1_n_n none
    (concatenate S512x256 1 [⟨S512x128, truncf .bf16 (exp2 (subf s0 m)) Gen.bitsLt_bf16_f32⟩,
      ⟨S512x128, truncf .bf16 (exp2 (subf s1 m)) Gen.bitsLt_bf16_f32⟩] Gen.concatenates_S512x128_S512x128_S512x256_d1)
    v (constant S512x128 .f32 0x00000000#32)

/-- Two heads' sums made into one pair of columns: the first head's values over its weights, then the second's. -/
def pairOut (a0 a1 : FVec Ideal S512x128 .f32) : FVec Ideal S512x128 .bf16 :=
  truncf .bf16 (select (broadcastTo S512x128 (shapeCast S1x128 (cmpi .slt (iota .tc S1x128 32 [1] Gen.iota_S1x128_d1_w32)
      (broadcast S1x128 64#32)) Gen.shapeCasts_S1x128_S1x128) Gen.broadcasts_S1x128_S512x128)
    (divf a0 (dynamicRotate 1 64#32 none a0 Gen.rotates_S512x128_d1))
    (divf (dynamicRotate 1 64#32 none a1 Gen.rotates_S512x128_d1) a1)) Gen.bitsLt_bf16_f32

/-- A block with its leading unit axis dropped. -/
def flat (x : FVec Ideal S1x512x128 .f32) : FVec Ideal S512x128 .f32 := shapeCast S512x128 x Gen.shapeCasts_S1x512x128_S512x128

/-- A block with a leading unit axis put on. -/
def lift (x : FVec Ideal S512x128 .f32) : FVec Ideal S1x512x128 .f32 := shapeCast S1x512x128 x Gen.shapeCasts_S512x128_S1x512x128

theorem scoreV_apply (q : FVec Ideal S512x128 .bf16) (k : FVec Ideal S256x128 .bf16) (r : Fin 512) (j : Fin 256) :
    scoreV q k (ix2 r j) = ∑ l : Fin 128, q (ix2 r l) * k (ix2 j l) := by
  unfold scoreV
  pointwise
  done

theorem scoreS_apply (q : FVec Ideal S512x128 .bf16) (k : FVec Ideal S256x128 .bf16) (u : Fin 1) (r : Fin 512) (j : Fin 256) :
    scoreS q k (ix3 u r j) = scoreV q k (ix2 r j) := by
  unfold scoreS
  generalize scoreV q k = s
  pointwise

theorem halfMax_apply (q : FVec Ideal S512x128 .bf16) (k : FVec Ideal S256x128 .bf16) (r : Fin 512) (l : Fin 128) :
    halfMax q k (ix2 r l) = max (scoreV q k (ix2 r ⟨l.val, by omega⟩)) (scoreV q k (ix2 r ⟨128 + l.val, by omega⟩)) := by
  unfold halfMax
  generalize scoreV q k = s
  pointwise
  done

theorem rowMax_apply (m : FVec Ideal S512x128 .f32) (r : Fin 512) (l : Fin 128) :
    rowMax m (ix2 r l) = Finset.univ.sup fun l' : Fin 128 => m (ix2 r l') := by
  unfold rowMax
  pointwise
  rw [show Ideal.ofBits .f32 0xFF800000#32 = (⊥ : EReal) by simp [Ideal.ofBits, Ideal.ieee]]
  rfl

theorem valueV_apply (m s0 s1 : FVec Ideal S512x128 .f32) (v : FVec Ideal S256x128 .bf16) {S : Fin 512 → Fin 256 → EReal}
    {M : Fin 512 → EReal} {V : Fin 256 → Fin 128 → EReal} (hm : ∀ r l, m (ix2 r l) = M r)
    (h0 : ∀ r (l : Fin 128), s0 (ix2 r l) = S r ⟨l.val, by omega⟩) (h1 : ∀ r (l : Fin 128), s1 (ix2 r l) = S r ⟨128 + l.val, by omega⟩)
    (hv : ∀ j l, v (ix2 j l) = V j l) (r : Fin 512) (l : Fin 128) :
    valueV m s0 s1 v (ix2 r l) = ∑ j : Fin 256, Ideal.exp2 (S r j - M r) * V j l := by
  rw [Fin.sum_univ_add (a := 128) (b := 128) fun j : Fin 256 => Ideal.exp2 (S r j - M r) * V j l]
  unfold valueV
  pointwise
  simp only [hm, h0, h1, hv]
  rfl

theorem pairOut_apply (a0 a1 : FVec Ideal S512x128 .f32) (r : Fin 512) (l : Fin 128) :
    pairOut a0 a1 (ix2 r l) = if l.val < 64 then Ideal.div (a0 (ix2 r l)) (a0 (ix2 r ⟨(l.val + 64) % 128, by omega⟩))
      else Ideal.div (a1 (ix2 r ⟨(l.val + 64) % 128, by omega⟩)) (a1 (ix2 r l)) := by
  unfold pairOut
  pointwise
  have hc : IntOp.cmpi .slt (BitVec.ofNat 32 l.val) 64#32 = 1#1 ↔ l.val < 64 := by
    rw [IntOp.cmpi_slt]
    have := l.isLt
    rw [show (64#32).toInt = 64 from rfl, BitVec.toInt_eq_toNat_cond, BitVec.toNat_ofNat, Nat.mod_eq_of_lt (by omega), if_pos (by omega)]
    omega
  have e : (l.val + 128 - 64) % 128 = (l.val + 64) % 128 := by omega
  simp only [Scalar.select, e]
  exact if_congr hc rfl rfl

theorem flat_apply (x : FVec Ideal S1x512x128 .f32) (r : Fin 512) (l : Fin 128) : flat x (ix2 r l) = x (ix3 0 r l) := by
  unfold flat
  pointwise
  done

theorem lift_apply (x : FVec Ideal S512x128 .f32) (u : Fin 1) (r : Fin 512) (l : Fin 128) : lift x (ix3 u r l) = x (ix2 r l) := by
  unfold lift
  pointwise
  done

end Cert.KernelIdeal.Attn
-- ==== Proof.Machine.lean ====
/- The order of the kernel's work inside one grid point: while the weighted values of one block of keys are added up, the scores of
   the block eighteen further on are computed. A block of 256 keys of one head is a unit; unit `u` is chunk `u % 17` of head `u / 17`,
   heads 4 and 5 being the first two of the next point. This file states what the scratch buffers hold after `n` units, and that one
   more unit keeps it. -/
module

public import proofs.«01_k».proof.Proof.Ops

@[expose] public section

set_option maxRecDepth 16384

noncomputable section

namespace Cert.KernelIdeal.Attn

open Idealize.ShloMosaic

/-- What a point's units are computed from: the query rows of a head, the key rows and the value rows of a unit. -/
structure Tile where
  Q : ℕ → Fin 512 → Fin 128 → EReal
  K : ℕ → Fin 256 → Fin 128 → EReal
  V : ℕ → Fin 256 → Fin 128 → EReal

namespace Tile

variable (T : Tile)

/-- The scores of unit `u`. -/
def sc (u : ℕ) (r : Fin 512) (j : Fin 256) : EReal := ∑ l : Fin 128, T.Q (u / 17) r l * T.K u j l

/-- The larger of the two halves of unit `u`'s scores, lane by lane. -/
def cm (u : ℕ) (r : Fin 512) (l : Fin 128) : EReal := max (T.sc u r ⟨l.val, by omega⟩) (T.sc u r ⟨128 + l.val, by omega⟩)

/-- The running maximum of head `h` after chunks `0 … c`. -/
def mx (h : ℕ) : ℕ → Fin 512 → Fin 128 → EReal
  | 0, r, l => T.cm (17 * h) r l
  | c + 1, r, l => max (mx h c r l) (T.cm (17 * h + (c + 1)) r l)

/-- The row maximum of head `h`. -/
def mb (h : ℕ) (r : Fin 512) : EReal := Finset.univ.sup fun l : Fin 128 => T.mx h 16 r l

/-- The weighted values of unit `u`. -/
def pv (u : ℕ) (r : Fin 512) (l : Fin 128) : EReal := ∑ j : Fin 256, Ideal.exp2 (T.sc u r j - T.mb (u / 17) r) * T.V u j l

/-- The sum of the weighted values of head `h` over chunks `0 … c`. -/
def ac (h : ℕ) : ℕ → Fin 512 → Fin 128 → EReal
  | 0, r, l => T.pv (17 * h) r l
  | c + 1, r, l => ac h c r l + T.pv (17 * h + (c + 1)) r l

/-- Columns `128 p …` of the point's result: heads `2 p` and `2 p + 1`, each its values over its weights. -/
def out (p : ℕ) (r : Fin 512) (l : Fin 128) : EReal :=
  if l.val < 64 then Ideal.div (T.ac (2 * p) 16 r l) (T.ac (2 * p) 16 r ⟨(l.val + 64) % 128, by omega⟩)
  else Ideal.div (T.ac (2 * p + 1) 16 r ⟨(l.val + 64) % 128, by omega⟩) (T.ac (2 * p + 1) 16 r l)

end Tile

variable {T : Tile}

/-- `q` holds the query rows of head `h`. -/
structure IsQ (T : Tile) (h : ℕ) (q : FVec Ideal S512x128 .bf16) : Prop where
  eq : ∀ r l, q (ix2 r l) = T.Q h r l
/-- `k` holds the key rows of unit `u`. -/
structure IsK (T : Tile) (u : ℕ) (k : FVec Ideal S256x128 .bf16) : Prop where
  eq : ∀ j l, k (ix2 j l) = T.K u j l
/-- `v` holds the value rows of unit `u`. -/
structure IsV (T : Tile) (u : ℕ) (v : FVec Ideal S256x128 .bf16) : Prop where
  eq : ∀ j l, v (ix2 j l) = T.V u j l
/-- `s` holds the first half of unit `u`'s scores. -/
structure IsLo (T : Tile) (u : ℕ) (s : FVec Ideal S512x128 .f32) : Prop where
  eq : ∀ r (l : Fin 128), s (ix2 r l) = T.sc u r ⟨l.val, by omega⟩
/-- `s` holds the second half. -/
structure IsHi (T : Tile) (u : ℕ) (s : FVec Ideal S512x128 .f32) : Prop where
  eq : ∀ r (l : Fin 128), s (ix2 r l) = T.sc u r ⟨128 + l.val, by omega⟩
/-- `m` holds the running maximum of head `h` after chunk `c`. -/
structure IsMx (T : Tile) (h c : ℕ) (m : FVec Ideal S1x512x128 .f32) : Prop where
  eq : ∀ r l, m (ix3 0 r l) = T.mx h c r l
/-- `m` holds the row maximum of head `h` in every lane. -/
structure IsMb (T : Tile) (h : ℕ) (m : FVec Ideal S1x512x128 .f32) : Prop where
  eq : ∀ r l, m (ix3 0 r l) = T.mb h r

theorem scoreV_eq {h u : ℕ} {q : FVec Ideal S512x128 .bf16} {k : FVec Ideal S256x128 .bf16} (hu : u / 17 = h) (hq : IsQ T h q)
    (hk : IsK T u k) (r : Fin 512) (j : Fin 256) : scoreV q k (ix2 r j) = T.sc u r j := by
  rw [scoreV_apply, Tile.sc, hu]
  exact Finset.sum_congr rfl fun l _ => by rw [hq.eq, hk.eq]

theorem halfMax_eq {h u : ℕ} {q : FVec Ideal S512x128 .bf16} {k : FVec Ideal S256x128 .bf16} (hu : u / 17 = h) (hq : IsQ T h q)
    (hk : IsK T u k) (r : Fin 512) (l : Fin 128) : halfMax q k (ix2 r l) = T.cm u r l := by
  rw [halfMax_apply, scoreV_eq hu hq hk, scoreV_eq hu hq hk, Tile.cm]

/-! ## The running maximum -/

section
variable {sig : RefSig} {κ : Kind} {sp : Space} {w : View sig κ sp S2x512x128 .f32} {o : Fin 3 → ℕ}
  {inb : ∀ a, o a + S1x512x128.size a ≤ S2x512x128.size a} {L : List (View.Piece (Elt Ideal) S2x512x128 .f32)}
  {q : FVec Ideal S512x128 .bf16} {k : FVec Ideal S256x128 .bf16} {m : FVec Ideal S1x512x128 .f32}

/-- What is loaded back through the rectangle just stored is the payload. -/
theorem load_back (x : FVec Ideal S1x512x128 .f32) :
    w.readCov (⟨Rect.unit (s := S2x512x128) o S1x512x128.size inb, x⟩ :: L) (Rect.unit (s := S2x512x128) o S1x512x128.size inb).toLoadRect = x :=
  View.readCov_cons_toLoadRect (Val := Elt Ideal) w (Rect.unit (s := S2x512x128) o S1x512x128.size inb) x L

theorem IsMx.first {h : ℕ} (hq : IsQ T h q) (hk : IsK T (17 * h) k) : IsMx T h 0 (lift (halfMax q k)) :=
  ⟨fun r l => by rw [lift_apply, halfMax_eq (by omega) hq hk, Tile.mx]⟩

theorem IsMx.next {h c : ℕ} (hc : c < 16) (hm : IsMx T h c m) (hq : IsQ T h q) (hk : IsK T (17 * h + (c + 1)) k) :
    IsMx T h (c + 1) (lift (maximumf (flat m) (halfMax q k))) :=
  ⟨fun r l => by
    rw [lift_apply, show maximumf (flat m) (halfMax q k) (ix2 r l) = max (flat m (ix2 r l)) (halfMax q k (ix2 r l)) from rfl, flat_apply, hm.eq, halfMax_eq (by omega) hq hk, Tile.mx]⟩

/-- The same, loaded back. -/
theorem IsMx.firstL {h : ℕ} (hq : IsQ T h q) (hk : IsK T (17 * h) k) :
    IsMx T h 0 (w.readCov (⟨Rect.unit (s := S2x512x128) o S1x512x128.size inb, lift (halfMax q k)⟩ :: L) (Rect.unit (s := S2x512x128) o S1x512x128.size inb).toLoadRect) := by
  rw [load_back]; exact .first hq hk

theorem IsMx.nextL {h c : ℕ} (hc : c < 16) (hm : IsMx T h c m) (hq : IsQ T h q) (hk : IsK T (17 * h + (c + 1)) k) :
    IsMx T h (c + 1) (w.readCov (⟨Rect.unit (s := S2x512x128) o S1x512x128.size inb, lift (maximumf (flat m) (halfMax q k))⟩ :: L)
      (Rect.unit (s := S2x512x128) o S1x512x128.size inb).toLoadRect) := by
  rw [load_back]; exact .next hc hm hq hk

theorem IsMb.of {h : ℕ} (hm : IsMx T h 16 m) : IsMb T h (lift (rowMax (flat m))) :=
  ⟨fun r l => by rw [lift_apply, rowMax_apply, Tile.mb]; exact congrArg _ (funext fun l' => by rw [flat_apply, hm.eq])⟩

theorem IsMb.ofL {h : ℕ} (hm : IsMx T h 16 m) :
    IsMb T h (w.readCov (⟨Rect.unit (s := S2x512x128) o S1x512x128.size inb, lift (rowMax (flat m))⟩ :: L) (Rect.unit (s := S2x512x128) o S1x512x128.size inb).toLoadRect) := by
  rw [load_back]; exact .of hm

/-- Past a store into the other slot. -/
theorem IsMb.skip {h : ℕ} {o' : Fin 3 → ℕ} {inb' : ∀ a, o' a + S1x512x128.size a ≤ S2x512x128.size a} {x : FVec Ideal S1x512x128 .f32}
    (hm : IsMb T h (w.readCov L (Rect.unit (s := S2x512x128) o S1x512x128.size inb).toLoadRect)) (ho : o' 0 ≠ o 0) :
    IsMb T h (w.readCov (⟨Rect.unit (s := S2x512x128) o' S1x512x128.size inb', x⟩ :: L)
      (Rect.unit (s := S2x512x128) o S1x512x128.size inb).toLoadRect) := by
  rw [View.readCov_eq_canon'] at hm ⊢
  refine ⟨fun r l => (View.canon_cons_of_not_mem _ _ fun hm' => ?_).trans (hm.eq r l)⟩
  have e0 := (Rect.mem_set_unit (inb := inb')).1 hm' 0
  have e : o' 0 ≤ o 0 + 1 * 0 ∧ o 0 + 1 * 0 < o' 0 + 1 := e0
  omega

end

/-! ## The score buffer and the sums -/

/-- Row `r`, place `j` of unit `u` in the score buffer. -/
abbrev sAt (u : ℕ) (r : Fin 512) (j : Fin 256) : S2x512x4352.Idx :=
  ix3 (⟨u / 17 % 2, by omega⟩ : Fin 2) r (⟨u % 17 * 256 + j.val, by omega⟩ : Fin 4352)

/-- Row `r`, lane `l` of head `h`'s slot. -/
abbrev aAt (h : ℕ) (r : Fin 512) (l : Fin 128) : S2x512x128.Idx := ix3 (⟨h % 2, by omega⟩ : Fin 2) r l

/-- After `n` units: the scores of the next eighteen are in the score buffer (those from unit `lo` on, stored in this point), the
    sum so far is in its head's slot, and the head before's sum is in the other. -/
structure St (T : Tile) (lo n : ℕ) (Ls : List (View.Piece (Elt Ideal) S2x512x4352 .f32)) (La : List (View.Piece (Elt Ideal) S2x512x128 .f32)) :
    Prop where
  s : ∀ u, lo ≤ u → n ≤ u → u < n + 18 → ∀ r j, View.canon Ls (sAt u r j) = T.sc u r j
  a : ∀ h c, c ≤ 16 → (n = 17 * h + c + 1 ∨ (c = 16 ∧ 17 * h + 17 ≤ n ∧ n ≤ 17 * h + 34)) →
    ∀ r l, View.canon La (aAt h r l) = T.ac h c r l

section
variable {lo n : ℕ} {Ls : List (View.Piece (Elt Ideal) S2x512x4352 .f32)} {La : List (View.Piece (Elt Ideal) S2x512x128 .f32)}
  {sig : RefSig} {κ : Kind} {sp : Space}

theorem sAt_emb (o : Fin 3 → ℕ) (inb : ∀ a, o a + S1x512x256.size a ≤ S2x512x4352.size a) (u : ℕ) (h0 : o 0 = u / 17 % 2) (h1 : o 1 = 0)
    (h2 : o 2 = u % 17 * 256) (r : Fin 512) (j : Fin 256) : (Rect.unit (s := S2x512x4352) o S1x512x256.size inb).emb (ix3 0 r j) = sAt u r j := by
  funext a
  apply Fin.ext
  rw [ValueKit.rect_emb_unit_val]
  match a with
  | ⟨0, _⟩ => exact h0
  | ⟨1, _⟩ => exact (congrArg (· + r.val) h1).trans (Nat.zero_add _)
  | ⟨2, _⟩ => exact congrArg (· + j.val) h2

theorem aAt_emb (o : Fin 3 → ℕ) (inb : ∀ a, o a + S1x512x128.size a ≤ S2x512x128.size a) (h : ℕ) (h0 : o 0 = h % 2) (h1 : o 1 = 0)
    (h2 : o 2 = 0) (r : Fin 512) (l : Fin 128) : (Rect.unit (s := S2x512x128) o S1x512x128.size inb).emb (ix3 0 r l) = aAt h r l := by
  funext a
  apply Fin.ext
  rw [ValueKit.rect_emb_unit_val]
  match a with
  | ⟨0, _⟩ => exact h0
  | ⟨1, _⟩ => exact (congrArg (· + r.val) h1).trans (Nat.zero_add _)
  | ⟨2, _⟩ => exact (congrArg (· + l.val) h2).trans (Nat.zero_add _)

/-- Storing a unit's scores leaves every other unit's that is within thirty-three of it. -/
theorem canon_sAt (o : Fin 3 → ℕ) (inb : ∀ a, o a + S1x512x256.size a ≤ S2x512x4352.size a) (p : FVec Ideal S1x512x256 .f32) (U u : ℕ)
    (h0 : o 0 = U / 17 % 2) (h1 : o 1 = 0) (h2 : o 2 = U % 17 * 256) (hu : u < U) (hU : U ≤ u + 33) (r : Fin 512) (j : Fin 256) :
    View.canon (⟨Rect.unit (s := S2x512x4352) o S1x512x256.size inb, p⟩ :: Ls) (sAt u r j) = View.canon Ls (sAt u r j) := by
  refine View.canon_cons_of_not_mem _ _ fun hm => ?_
  have hm' := (Rect.mem_set_unit (inb := inb)).1 hm
  have a0 := hm' 0
  have a2 := hm' 2
  have e0 : o 0 ≤ u / 17 % 2 ∧ u / 17 % 2 < o 0 + 1 := a0
  have e2 : o 2 ≤ u % 17 * 256 + j.val ∧ u % 17 * 256 + j.val < o 2 + 256 := a2
  have := j.isLt
  omega

theorem canon_aAt (o : Fin 3 → ℕ) (inb : ∀ a, o a + S1x512x128.size a ≤ S2x512x128.size a) (p : FVec Ideal S1x512x128 .f32) (h h' : ℕ)
    (h0 : o 0 = h % 2) (hh : h' % 2 ≠ h % 2) (r : Fin 512) (l : Fin 128) :
    View.canon (⟨Rect.unit (s := S2x512x128) o S1x512x128.size inb, p⟩ :: La) (aAt h' r l) = View.canon La (aAt h' r l) := by
  refine View.canon_cons_of_not_mem _ _ fun hm => ?_
  have e0 : o 0 ≤ h' % 2 ∧ h' % 2 < o 0 + 1 := (Rect.mem_set_unit (inb := inb)).1 hm 0
  omega

/-- The first `k` units' scores are in the score buffer. -/
structure Pre (T : Tile) (k : ℕ) (Ls : List (View.Piece (Elt Ideal) S2x512x4352 .f32)) : Prop where
  s : ∀ u, u < k → ∀ r j, View.canon Ls (sAt u r j) = T.sc u r j

theorem Pre.next {k : ℕ} {os : Fin 3 → ℕ} {inbs : ∀ a, os a + S1x512x256.size a ≤ S2x512x4352.size a} {q : FVec Ideal S512x128 .bf16}
    {v : FVec Ideal S256x128 .bf16} (hk : k < 34) (P : Pre T k Ls) (hq : IsQ T (k / 17) q) (hv : IsK T k v)
    (s0 : os 0 = k / 17 % 2) (s1 : os 1 = 0) (s2 : os 2 = k % 17 * 256) :
    Pre T (k + 1) (⟨Rect.unit (s := S2x512x4352) os S1x512x256.size inbs, scoreS q v⟩ :: Ls) where
  s u hu r j := by
    rcases Nat.lt_or_ge u k with h | h
    · rw [canon_sAt os inbs _ k u s0 s1 s2 h (by omega)]
      exact P.s u h r j
    · obtain rfl : u = k := by omega
      rw [← sAt_emb os inbs u s0 s1 s2, View.canon_cons_emb]
      exact (scoreS_apply q v 0 r j).trans (scoreV_eq rfl hq hv r j)

theorem Pre.st (P : Pre T 18 Ls) : St T 0 0 Ls [] := ⟨fun u _ _ h => P.s u h, fun h c _ hh => by omega⟩

/-- One more unit: its sum stored, and the scores of the unit eighteen on. -/
theorem St.step (P : St T lo n Ls La) {os oa : Fin 3 → ℕ} {inbs : ∀ a, os a + S1x512x256.size a ≤ S2x512x4352.size a}
    {inba : ∀ a, oa a + S1x512x128.size a ≤ S2x512x128.size a} {p : FVec Ideal S1x512x256 .f32} {w : FVec Ideal S1x512x128 .f32}
    (s0 : os 0 = (n + 18) / 17 % 2) (s1 : os 1 = 0) (s2 : os 2 = (n + 18) % 17 * 256) (a0 : oa 0 = n / 17 % 2) (a1 : oa 1 = 0) (a2 : oa 2 = 0)
    (hp : ∀ r j, p (ix3 0 r j) = T.sc (n + 18) r j) (hw : ∀ r l, w (ix3 0 r l) = T.ac (n / 17) (n % 17) r l) :
    St T lo (n + 1) (⟨Rect.unit (s := S2x512x4352) os S1x512x256.size inbs, p⟩ :: Ls) (⟨Rect.unit (s := S2x512x128) oa S1x512x128.size inba, w⟩ :: La) where
  s u hlo hn hu r j := by
    rcases Nat.lt_or_ge u (n + 18) with h | h
    · rw [canon_sAt os inbs p (n + 18) u s0 s1 s2 h (by omega)]
      exact P.s u hlo (by omega) h r j
    · obtain rfl : u = n + 18 := by omega
      rw [← sAt_emb os inbs (n + 18) s0 s1 s2, View.canon_cons_emb]
      exact hp r j
  a h c hc hh r l := by
    by_cases e : n = 17 * h + c
    · have e1 : n / 17 = h := by omega
      have e2 : n % 17 = c := by omega
      rw [← aAt_emb oa inba h (by rw [a0, e1]) a1 a2, View.canon_cons_emb, hw, e1, e2]
    · rw [canon_aAt oa inba w (n / 17) h a0 (by omega)]
      exact P.a h c hc (by omega) r l

/-- The half of a unit's scores a load reads. -/
theorem St.loadLo (P : St T lo n Ls La) {v : View sig κ sp S2x512x4352 .f32} {o : Fin 3 → ℕ} {inb : ∀ a, o a + S1x512x128.size a ≤ S2x512x4352.size a}
    (hlo : lo ≤ n) (h0 : o 0 = n / 17 % 2) (h1 : o 1 = 0) (h2 : o 2 = n % 17 * 256) :
    IsLo T n (flat (v.readCov Ls (Rect.unit (s := S2x512x4352) o S1x512x128.size inb).toLoadRect)) :=
  ⟨fun r l => by
    rw [flat_apply, View.readCov_eq_canon', ← P.s n hlo le_rfl (by omega)]
    refine congrArg (View.canon Ls) (funext fun a => Fin.ext ?_)
    rw [Rect.idx_unit_val]
    match a with
    | ⟨0, _⟩ => exact h0
    | ⟨1, _⟩ => exact (congrArg (· + r.val) h1).trans (Nat.zero_add _)
    | ⟨2, _⟩ => exact congrArg (· + l.val) h2⟩

theorem St.loadHi (P : St T lo n Ls La) {v : View sig κ sp S2x512x4352 .f32} {o : Fin 3 → ℕ} {inb : ∀ a, o a + S1x512x128.size a ≤ S2x512x4352.size a}
    (hlo : lo ≤ n) (h0 : o 0 = n / 17 % 2) (h1 : o 1 = 0) (h2 : o 2 = n % 17 * 256 + 128) :
    IsHi T n (flat (v.readCov Ls (Rect.unit (s := S2x512x4352) o S1x512x128.size inb).toLoadRect)) :=
  ⟨fun r l => by
    rw [flat_apply, View.readCov_eq_canon', ← P.s n hlo le_rfl (by omega)]
    refine congrArg (View.canon Ls) (funext fun a => Fin.ext ?_)
    rw [Rect.idx_unit_val]
    match a with
    | ⟨0, _⟩ => exact h0
    | ⟨1, _⟩ => exact (congrArg (· + r.val) h1).trans (Nat.zero_add _)
    | ⟨2, _⟩ => exact (congrArg (· + l.val) h2).trans (Nat.add_assoc _ _ _)⟩

/-- A head's sum so far, loaded back. -/
theorem St.acc (P : St T lo n Ls La) {v : View sig κ sp S2x512x128 .f32} {o : Fin 3 → ℕ} {inb : ∀ a, o a + S1x512x128.size a ≤ S2x512x128.size a}
    (h c : ℕ) (hc : c ≤ 16) (hh : n = 17 * h + c + 1 ∨ (c = 16 ∧ 17 * h + 17 ≤ n ∧ n ≤ 17 * h + 34)) (h0 : o 0 = h % 2) (h1 : o 1 = 0)
    (h2 : o 2 = 0) (r : Fin 512) (l : Fin 128) :
    flat (v.readCov La (Rect.unit (s := S2x512x128) o S1x512x128.size inb).toLoadRect) (ix2 r l) = T.ac h c r l := by
  rw [flat_apply, View.readCov_eq_canon', ← P.a h c hc hh]
  refine congrArg (View.canon La) (funext fun a => Fin.ext ?_)
  rw [Rect.idx_unit_val]
  match a with
  | ⟨0, _⟩ => exact h0
  | ⟨1, _⟩ => exact (congrArg (· + r.val) h1).trans (Nat.zero_add _)
  | ⟨2, _⟩ => exact (congrArg (· + l.val) h2).trans (Nat.zero_add _)

variable {os oa : Fin 3 → ℕ} {inbs : ∀ a, os a + S1x512x256.size a ≤ S2x512x4352.size a}
  {inba : ∀ a, oa a + S1x512x128.size a ≤ S2x512x128.size a} {q : FVec Ideal S512x128 .bf16} {k v : FVec Ideal S256x128 .bf16}
  {m : FVec Ideal S1x512x128 .f32} {x0 x1 : FVec Ideal S512x128 .f32}

/-- The first unit of a head, then the scores of the unit eighteen on. -/
theorem St.first (h17 : n % 17 = 0) (P : St T lo n Ls La) (hx0 : St T lo n Ls La → IsLo T n x0) (hx1 : St T lo n Ls La → IsHi T n x1)
    (hm : IsMb T (n / 17) m) (hv : IsV T n v) (hq : IsQ T ((n + 18) / 17) q) (hk : IsK T (n + 18) k)
    (s0 : os 0 = (n + 18) / 17 % 2) (s1 : os 1 = 0) (s2 : os 2 = (n + 18) % 17 * 256) (a0 : oa 0 = n / 17 % 2) (a1 : oa 1 = 0) (a2 : oa 2 = 0) :
    St T lo (n + 1) (⟨Rect.unit (s := S2x512x4352) os S1x512x256.size inbs, scoreS q k⟩ :: Ls)
      (⟨Rect.unit (s := S2x512x128) oa S1x512x128.size inba, lift (valueV (flat m) x0 x1 v)⟩ :: La) :=
  P.step s0 s1 s2 a0 a1 a2 (fun r j => (scoreS_apply q k 0 r j).trans (scoreV_eq rfl hq hk r j)) fun r l => by
    rw [lift_apply, valueV_apply _ _ _ _ (fun r l => by rw [flat_apply, hm.eq]) (hx0 P).eq (hx1 P).eq hv.eq, h17, Tile.ac,
      show 17 * (n / 17) = n by omega, Tile.pv]

/-- A later unit of a head. -/
theorem St.next {w : View sig κ sp S2x512x128 .f32} {inbl : ∀ a, oa a + S1x512x128.size a ≤ S2x512x128.size a}
    (h17 : n % 17 ≠ 0) (P : St T lo n Ls La) (hx0 : St T lo n Ls La → IsLo T n x0) (hx1 : St T lo n Ls La → IsHi T n x1)
    (hm : IsMb T (n / 17) m) (hv : IsV T n v) (hq : IsQ T ((n + 18) / 17) q) (hk : IsK T (n + 18) k)
    (s0 : os 0 = (n + 18) / 17 % 2) (s1 : os 1 = 0) (s2 : os 2 = (n + 18) % 17 * 256) (a0 : oa 0 = n / 17 % 2) (a1 : oa 1 = 0) (a2 : oa 2 = 0) :
    St T lo (n + 1) (⟨Rect.unit (s := S2x512x4352) os S1x512x256.size inbs, scoreS q k⟩ :: Ls)
      (⟨Rect.unit (s := S2x512x128) oa S1x512x128.size inba,
        lift (addf (flat (w.readCov La (Rect.unit (s := S2x512x128) oa S1x512x128.size inbl).toLoadRect)) (valueV (flat m) x0 x1 v))⟩ :: La) :=
  P.step s0 s1 s2 a0 a1 a2 (fun r j => (scoreS_apply q k 0 r j).trans (scoreV_eq rfl hq hk r j)) fun r l => by
    obtain ⟨c, hc⟩ : ∃ c, n % 17 = c + 1 := ⟨n % 17 - 1, by omega⟩
    rw [lift_apply, show ∀ x y : FVec Ideal S512x128 .f32, addf x y (ix2 r l) = x (ix2 r l) + y (ix2 r l) from fun _ _ => rfl,
      P.acc (n / 17) c (by omega) (.inl (by omega)) a0 a1 a2,
      valueV_apply _ _ _ _ (fun r l => by rw [flat_apply, hm.eq]) (hx0 P).eq (hx1 P).eq hv.eq, hc, Tile.ac,
      show 17 * (n / 17) + (c + 1) = n by omega, Tile.pv]

/-- A pair of heads' columns, stored. -/
def pairS (a0 a1 : FVec Ideal S512x128 .f32) : FVec Ideal S1x512x128 .bf16 :=
  shapeCast S1x512x128 (pairOut a0 a1) Gen.shapeCasts_S512x128_S1x512x128

theorem pairS_eq {p : ℕ} {a0 a1 : FVec Ideal S512x128 .f32} (h0 : ∀ r l, a0 (ix2 r l) = T.ac (2 * p) 16 r l)
    (h1 : ∀ r l, a1 (ix2 r l) = T.ac (2 * p + 1) 16 r l) (r : Fin 512) (l : Fin 128) : pairS a0 a1 (ix3 0 r l) = T.out p r l := by
  have e : pairS a0 a1 (ix3 0 r l) = pairOut a0 a1 (ix2 r l) := by
    unfold pairS
    generalize pairOut a0 a1 = y
    pointwise
  rw [e, pairOut_apply, h0, h0, h1, h1, Tile.out]

/-- The output block after both pairs are stored. -/
theorem out_eq {a0 a1 b0 b1 : FVec Ideal S512x128 .f32} {o0 o1 : Fin 3 → ℕ} {inb0 : ∀ a, o0 a + S1x512x128.size a ≤ S1x512x256.size a}
    {inb1 : ∀ a, o1 a + S1x512x128.size a ≤ S1x512x256.size a} (e0 : o0 = ![0, 0, 0]) (e1 : o1 = ![0, 0, 128])
    (h0 : ∀ r l, a0 (ix2 r l) = T.ac 0 16 r l) (h1 : ∀ r l, a1 (ix2 r l) = T.ac 1 16 r l)
    (h2 : ∀ r l, b0 (ix2 r l) = T.ac 2 16 r l) (h3 : ∀ r l, b1 (ix2 r l) = T.ac 3 16 r l) (r : Fin 512) (z : Fin 256) :
    View.canon (Val := Elt Ideal) (s := S1x512x256) (e := .bf16) [⟨Rect.unit (s := S1x512x256) o1 S1x512x128.size inb1, pairS b0 b1⟩,
      ⟨Rect.unit (s := S1x512x256) o0 S1x512x128.size inb0, pairS a0 a1⟩] (ix3 0 r z)
      = T.out (z.val / 128) r ⟨z.val % 128, by omega⟩ := by
  subst e0 e1
  rcases Nat.lt_or_ge z.val 128 with h | h
  · rw [View.canon_cons_of_not_mem _ _ fun hm => by
      have e : 128 ≤ z.val ∧ _ := (Rect.mem_set_unit (inb := inb1)).1 hm 2
      omega]
    rw [show (ix3 0 r z : S1x512x256.Idx) = (Rect.unit (s := S1x512x256) ![0, 0, 0] S1x512x128.size inb0).emb (ix3 0 r ⟨z.val, h⟩) from
      funext fun a => Fin.ext (by
        rw [ValueKit.rect_emb_unit_val]
        match a with
        | ⟨0, _⟩ => rfl
        | ⟨1, _⟩ => exact (Nat.zero_add _).symm
        | ⟨2, _⟩ => exact (Nat.zero_add _).symm), View.canon_cons_emb, pairS_eq (p := 0) h0 h1, Nat.div_eq_of_lt h]
    exact congrArg (T.out 0 r) (Fin.ext (Nat.mod_eq_of_lt h).symm)
  · rw [show (ix3 0 r z : S1x512x256.Idx) = (Rect.unit (s := S1x512x256) ![0, 0, 128] S1x512x128.size inb1).emb
        (ix3 0 r ⟨z.val - 128, by omega⟩) from
      funext fun a => Fin.ext (by
        rw [ValueKit.rect_emb_unit_val]
        match a with
        | ⟨0, _⟩ => rfl
        | ⟨1, _⟩ => exact (Nat.zero_add _).symm
        | ⟨2, _⟩ => exact (Nat.add_sub_of_le h).symm), View.canon_cons_emb, pairS_eq (p := 1) h2 h3,
      show z.val / 128 = 1 by omega]
    exact congrArg (T.out 1 r) (Fin.ext (show z.val - 128 = z.val % 128 by omega))

end

end Cert.KernelIdeal.Attn
-- ==== Proof.Closed.lean ====
/- A head's result in closed form: its running maximum is the maximum of all its scores, its running sum the sum over all its keys,
   and their quotient the softmax mean of the values. -/
module

public import proofs.«01_k».proof.Proof.Machine
public import proofs.«01_k».proof.Proof.Softmax

@[expose] public section

set_option maxRecDepth 16384

noncomputable section

namespace Cert.KernelIdeal.Attn

open Idealize.ShloMosaic

variable (T : Tile)

theorem Tile.cm_le (u : ℕ) (r : Fin 512) (B : EReal) : (∀ l, T.cm u r l ≤ B) ↔ ∀ j, T.sc u r j ≤ B := by
  constructor
  · intro h j
    by_cases hj : j.val < 128
    · exact (le_max_left _ _).trans (h ⟨j.val, hj⟩)
    · have := (le_max_right _ _).trans (h ⟨j.val - 128, by omega⟩)
      refine le_of_eq_of_le (congrArg (T.sc u r) (Fin.ext ?_)) this
      show j.val = 128 + (j.val - 128)
      omega
  · intro h l
    exact max_le (h _) (h _)

theorem Tile.mx_le (h n : ℕ) (r : Fin 512) (B : EReal) : (∀ l, T.mx h n r l ≤ B) ↔ ∀ k, k < n + 1 → ∀ j, T.sc (17 * h + k) r j ≤ B := by
  induction n with
  | zero =>
    simp only [Tile.mx]
    rw [Tile.cm_le]
    exact ⟨fun H k hk => by obtain rfl : k = 0 := by omega
                            exact H, fun H => H 0 (by omega)⟩
  | succ n ih =>
    simp only [Tile.mx, max_le_iff, forall_and]
    rw [ih, Tile.cm_le]
    constructor
    · rintro ⟨h1, h2⟩ k hk
      by_cases e : k = n + 1
      · subst e; exact h2
      · exact h1 k (by omega)
    · intro H
      exact ⟨fun k hk => H k (by omega), H (n + 1) (by omega)⟩

/-- The row maximum is the maximum over the head's seventeen chunks of keys. -/
theorem Tile.mb_eq (h : ℕ) (r : Fin 512) : T.mb h r = Finset.univ.sup fun κ : Fin 17 × Fin 256 => T.sc (17 * h + κ.1.val) r κ.2 := by
  refine eq_of_forall_ge_iff fun B => ?_
  rw [Tile.mb, Finset.sup_le_iff, Finset.sup_le_iff]
  simp only [Finset.mem_univ, forall_true_left]
  rw [Tile.mx_le]
  exact ⟨fun H κ => H κ.1.val (by omega) κ.2, fun H k hk j => H (⟨k, hk⟩, j)⟩

theorem Tile.ac_range (h n : ℕ) (r : Fin 512) (l : Fin 128) : T.ac h n r l = ∑ k ∈ Finset.range (n + 1), T.pv (17 * h + k) r l := by
  induction n with
  | zero => simp [Tile.ac]
  | succ n ih => rw [Tile.ac, ih, Finset.sum_range_succ _ (n + 1)]

theorem Tile.ac_eq (h : ℕ) (r : Fin 512) (l : Fin 128) : T.ac h 16 r l
    = ∑ κ : Fin 17 × Fin 256, Ideal.exp2 (T.sc (17 * h + κ.1.val) r κ.2 - T.mb h r) * T.V (17 * h + κ.1.val) κ.2 l := by
  rw [Tile.ac_range, Finset.sum_range, Fintype.sum_prod_type]
  refine Finset.sum_congr rfl fun k _ => ?_
  rw [Tile.pv, show (17 * h + k.val) / 17 = h by omega]

/-- The kernel takes the latent keys first and the context keys last: the place of its key in the reference's order. -/
def place (κ : Fin 17 × Fin 256) : Fin 4352 := ⟨(256 + 256 * κ.1.val + κ.2.val) % 4352, by omega⟩

theorem place_bij : Function.Bijective place := by
  refine (Fintype.bijective_iff_injective_and_card _).2 ⟨fun a b h => ?_, by simp⟩
  have h := congrArg Fin.val h
  simp only [place] at h
  exact Prod.ext (Fin.ext (by omega)) (Fin.ext (by omega))

/-- The softmax mean over the reference's order. -/
def mean (s : Fin 4352 → EReal) (v : Fin 4352 → EReal) : EReal :=
  ∑ κ, Ideal.div (Ideal.exp (s κ - Finset.univ.sup s)) (∑ j, Ideal.exp (s j - Finset.univ.sup s)) * v κ

theorem Tile.head_eq (h : ℕ) (r : Fin 512) (l l' : Fin 128) (s : Fin 4352 → ℝ) (v : Fin 4352 → EReal)
    (hs : ∀ κ, T.sc (17 * h + κ.1.val) r κ.2 = ((s (place κ) * (1 / Real.log 2) : ℝ) : EReal))
    (hv : ∀ κ, T.V (17 * h + κ.1.val) κ.2 l = v (place κ)) (h1 : ∀ κ : Fin 17 × Fin 256, T.V (17 * h + κ.1.val) κ.2 l' = 1) :
    Ideal.div (T.ac h 16 r l) (T.ac h 16 r l') = mean (fun κ => (s κ : EReal)) v := by
  rw [Tile.ac_eq, Tile.ac_eq]
  simp only [hv, h1, Tile.mb_eq]
  rw [Cert.Attn.softmax_mean (fun κ => s (place κ)) (fun κ => v (place κ)) _ hs]
  have hsup : (Finset.univ.sup fun κ : Fin 17 × Fin 256 => (s (place κ) : EReal)) = Finset.univ.sup fun κ => (s κ : EReal) := by
    refine eq_of_forall_ge_iff fun B => ?_
    rw [Finset.sup_le_iff, Finset.sup_le_iff]
    simp only [Finset.mem_univ, forall_true_left]
    exact ⟨fun H κ => by obtain ⟨k, rfl⟩ := place_bij.2 κ; exact H k, fun H κ => H _⟩
  rw [hsup, place_bij.sum_comp (fun j => Ideal.exp ((s j : EReal) - Finset.univ.sup fun κ => (s κ : EReal)))]
  exact place_bij.sum_comp (fun j => Ideal.div (Ideal.exp ((s j : EReal) - Finset.univ.sup fun κ => (s κ : EReal)))
    (∑ j, Ideal.exp ((s j : EReal) - Finset.univ.sup fun κ => (s κ : EReal))) * v j)

end Cert.KernelIdeal.Attn
-- ==== Proof.Refer.lean ====
/- The reference read at an index: the softmax mean of the values, context keys first. -/
module

public import proofs.«01_k».proof.Proof.Closed
public import proofs.«01_k».proof.Proof.Gen.ReferenceIdeal.Run

@[expose] public section

set_option maxRecDepth 16384

noncomputable section

namespace Cert.ReferenceIdeal.Attn

open Idealize.ShloMosaic Gen

def scoreV (q : FVec Ideal S8x4x1x4096x96 .f32) (kc : FVec Ideal S8x4x256x96 .f32) (kl : FVec Ideal S8x4x4096x96 .f32) : FVec Ideal S8x4x1x4096x4352 .f32 :=
  mulf (Host.dotGeneral dot_S8x4x1x4096x96_S8x4x4352x96_S8x4x1x4096x4352_4_3_23_2_01_01 none q (concatenate S8x4x4352x96 2 [⟨S8x4x256x96, kc⟩, ⟨S8x4x4096x96, kl⟩] concatenates_S8x4x256x96_S8x4x4096x96_S8x4x4352x96_d2)) (broadcastInDim S8x4x1x4096x4352 ![] bcast_S_S8x4x1x4096x4352 (constant S_ .f32 0x3DD105EC#32))

def maxV (s : FVec Ideal S8x4x1x4096x4352 .f32) : FVec Ideal S8x4x1x4096 .f32 :=
  maximumf (broadcastInDim S8x4x1x4096 ![] bcast_S_S8x4x1x4096 (constant S_ .f32 0xFF800000#32)) (Host.reduce FloatOps.maximumf s (constant S_ .f32 0xFF800000#32) reducesTo_S8x4x1x4096x4352_S8x4x1x4096_d4 h_S_)

def catV (vc : FVec Ideal S8x4x256x64 .f32) (vl : FVec Ideal S8x4x4096x64 .f32) : FVec Ideal S8x4x4352x64 .f32 :=
  concatenate S8x4x4352x64 2 [⟨S8x4x256x64, vc⟩, ⟨S8x4x4096x64, vl⟩] concatenates_S8x4x256x64_S8x4x4096x64_S8x4x4352x64_d2

def weightV (s : FVec Ideal S8x4x1x4096x4352 .f32) : FVec Ideal S8x4x1x4096x4352 .f32 :=
  Host.exp (subf s (broadcastInDim S8x4x1x4096x4352 ![0, 1, 2, 3, 4] bcast_S8x4x1x4096x1_S8x4x1x4096x4352_0_1_2_3_4 (broadcastInDim S8x4x1x4096x1 ![0, 1, 2, 3] bcast_S8x4x1x4096_S8x4x1x4096x1_0_1_2_3 (maxV s))))

def meanV (s : FVec Ideal S8x4x1x4096x4352 .f32) (vc : FVec Ideal S8x4x256x64 .f32) (vl : FVec Ideal S8x4x4096x64 .f32) : FVec Ideal S8x4096x256 .bf16 :=
  truncf .bf16 (shapeCast S8x4096x256 (transpose S8x4096x4x64 [0, 2, 1, 3] (shapeCast S8x4x4096x64 (Host.dotGeneral dot_S8x4x1x4096x4352_S8x4x4352x64_S8x4x1x4096x64_4_2_23_3_01_01 none (Host.divf (weightV s) (broadcastInDim S8x4x1x4096x4352 ![0, 1, 2, 3, 4] bcast_S8x4x1x4096x1_S8x4x1x4096x4352_0_1_2_3_4 (broadcastInDim S8x4x1x4096x1 ![0, 1, 2, 3] bcast_S8x4x1x4096_S8x4x1x4096x1_0_1_2_3 (Host.reduceAdd (weightV s) (constant S_ .f32 0x00000000#32) reducesTo_S8x4x1x4096x4352_S8x4x1x4096_d4 h_S_)))) (catV vc vl)) shapeCasts_S8x4x1x4096x64_S8x4x4096x64) transposes_S8x4x4096x64_S8x4096x4x64_0_2_1_3) shapeCasts_S8x4096x4x64_S8x4096x256) bitsLt_bf16_f32

/-- Key (or value) `κ` of a head: the context's, then the latents'. -/
def row {n : ℕ} (xc : Fin 256 → Fin n → EReal) (xl : Fin 4096 → Fin n → EReal) (κ : Fin 4352) (d : Fin n) : EReal :=
  if h : κ.val < 256 then xc ⟨κ.val, h⟩ d else xl ⟨κ.val - 256, by omega⟩ d

theorem scoreV_apply (q : FVec Ideal S8x4x1x4096x96 .f32) (kc : FVec Ideal S8x4x256x96 .f32) (kl : FVec Ideal S8x4x4096x96 .f32) (b : Fin 8) (h : Fin 4) (r : Fin 4096) (κ : Fin 4352) :
    scoreV q kc kl (ix5 b h 0 r κ) = (∑ d : Fin 96, q (ix5 b h 0 r d) * row (fun j d => kc (ix4 b h j d)) (fun j d => kl (ix4 b h j d)) κ d)
      * Ideal.ofBits .f32 0x3DD105EC#32 := by
  pointwise [scoreV, row]

theorem max_fold (s : FVec Ideal S8x4x1x4096x4352 .f32) (b : Fin 8) (h : Fin 4) (r : Fin 4096) :
    Host.reduce FloatOps.maximumf s (constant S_ .f32 0xFF800000#32) reducesTo_S8x4x1x4096x4352_S8x4x1x4096_d4 h_S_ (ix4 b h 0 r)
      = Finset.univ.fold (FloatOps.maximumf (F := Ideal) (φ := .f32)) (⊥ : EReal) fun κ => s (ix5 b h 0 r κ) := by
  rw [Host.reduce_eq_fold, Shape.ReducesTo.fold_fiber_r5_a4]
  rw [show constant (F := Ideal) S_ .f32 0xFF800000#32 (Shape.Idx.first h_S_) = (⊥ : EReal) by
    show Ideal.ofBits .f32 0xFF800000#32 = _
    simp [Ideal.ofBits, Ideal.ieee]]
  exact Finset.fold_congr fun κ _ => rfl

theorem fold_sup {n : ℕ} (f : Fin n → EReal) : Finset.univ.fold (FloatOps.maximumf (F := Ideal) (φ := .f32)) (⊥ : EReal) f = Finset.univ.sup f := rfl

theorem floor_apply (m : FVec Ideal S8x4x1x4096 .f32) (b : Fin 8) (h : Fin 4) (r : Fin 4096) :
  maximumf (broadcastInDim S8x4x1x4096 ![] bcast_S_S8x4x1x4096 (constant S_ .f32 0xFF800000#32)) m (ix4 b h 0 r)
      = m (ix4 b h 0 r) := by
  show max (Ideal.ofBits .f32 0xFF800000#32) (m (ix4 b h 0 r)) = _
  rw [show Ideal.ofBits .f32 0xFF800000#32 = (⊥ : EReal) by simp [Ideal.ofBits, Ideal.ieee]]
  exact bot_sup_eq _

theorem maxV_apply (s : FVec Ideal S8x4x1x4096x4352 .f32) (b : Fin 8) (h : Fin 4) (r : Fin 4096) :
    maxV s (ix4 b h 0 r) = Finset.univ.sup fun κ => s (ix5 b h 0 r κ) := by
  unfold maxV
  exact (floor_apply _ b h r).trans ((max_fold s b h r).trans (fold_sup _))

theorem weightV_apply (s : FVec Ideal S8x4x1x4096x4352 .f32) (b : Fin 8) (h : Fin 4) (r : Fin 4096) (κ : Fin 4352) :
    weightV s (ix5 b h 0 r κ) = Ideal.exp (s (ix5 b h 0 r κ) - maxV s (ix4 b h 0 r)) := by
  unfold weightV
  generalize maxV s = m
  pointwise

theorem catV_apply (vc : FVec Ideal S8x4x256x64 .f32) (vl : FVec Ideal S8x4x4096x64 .f32) (b : Fin 8) (h : Fin 4) (κ : Fin 4352) (d : Fin 64) :
    catV vc vl (ix4 b h κ d) = row (fun j d => vc (ix4 b h j d)) (fun j d => vl (ix4 b h j d)) κ d := by
  pointwise [catV, row]

theorem meanV_apply (s : FVec Ideal S8x4x1x4096x4352 .f32) (vc : FVec Ideal S8x4x256x64 .f32) (vl : FVec Ideal S8x4x4096x64 .f32) (b : Fin 8) (r : Fin 4096) (z : Fin 256) :
    meanV s vc vl (ix3 b r z) = Cert.KernelIdeal.Attn.mean (fun κ => s (ix5 b ⟨z.val / 64, by omega⟩ 0 r κ))
      (fun κ => row (fun j d => vc (ix4 b ⟨z.val / 64, by omega⟩ j d)) (fun j d => vl (ix4 b ⟨z.val / 64, by omega⟩ j d)) κ ⟨z.val % 64, by omega⟩) := by
  have e : meanV s vc vl (ix3 b r z) = ∑ κ, Ideal.div (weightV s (ix5 b ⟨z.val / 64, by omega⟩ 0 r κ)) (∑ κ, weightV s (ix5 b ⟨z.val / 64, by omega⟩ 0 r κ))
      * catV vc vl (ix4 b ⟨z.val / 64, by omega⟩ κ ⟨z.val % 64, by omega⟩) := by
    unfold meanV
    generalize weightV s = w
    generalize catV vc vl = v
    pointwise
  rw [e]
  simp only [weightV_apply, maxV_apply, catV_apply]
  rfl

end Cert.ReferenceIdeal.Attn
-- ==== Proof.Loads.lean ====
/- The kernel's loads read at an index: the query, key and value rows of a unit, from the windows of one grid point. -/
module

public import proofs.«01_k».proof.Proof.Machine

@[expose] public section

set_option maxRecDepth 16384

noncomputable section

namespace Cert.KernelIdeal.Attn

open Idealize.ShloMosaic

section
variable (x0 x1 : Vec Ideal S1x512x512 .bf16) (x2 : Vec Ideal S1x4096x512 .bf16) (x3 : Vec Ideal S1x256x512 .bf16)
  (x4 : Vec Ideal S1x4096x512 .bf16) (x5 : Vec Ideal S1x256x512 .bf16) (x6 : Vec Ideal S1x4096x512 .bf16) (x7 : Vec Ideal S1x256x512 .bf16)

/-- Row `j`, lane `l` of chunk `c` of head `h`: sixteen chunks of the first array, then the second. -/
def keyRow (a : Vec Ideal S1x4096x512 .bf16) (b : Vec Ideal S1x256x512 .bf16) (h c : ℕ) (j : Fin 256) (l : Fin 128) : EReal :=
  if c < 16 then a (ix3 0 ⟨(256 * c + j.val) % 4096, by omega⟩ ⟨(128 * h + l.val) % 512, by omega⟩)
  else b (ix3 0 j ⟨(128 * h + l.val) % 512, by omega⟩)

/-- Row `r`, lane `l` of head `h` of a query tile. -/
def queryRow (a : Vec Ideal S1x512x512 .bf16) (h : ℕ) (r : Fin 512) (l : Fin 128) : EReal :=
  a (ix3 0 r ⟨(128 * h + l.val) % 512, by omega⟩)

/-- A grid point's units: four heads of this tile, then heads of the next, whose keys are the next row's where `b` is set. -/
def tile (b : BitVec 1) : Tile where
  Q h := if h < 4 then queryRow x0 h else queryRow x1 (h - 4)
  K u := if u < 68 then keyRow x2 x3 (u / 17) (u % 17)
    else if b = 1 then keyRow x4 x5 (u / 17 - 4) (u % 17) else keyRow x2 x3 (u / 17 - 4) (u % 17)
  V u := keyRow x6 x7 (u / 17) (u % 17)

variable {x0 x1 x2 x3 x4 x5 x6 x7} {b : BitVec 1}

theorem flatQ_apply (y : FVec Ideal S1x512x128 .bf16) (h) (r : Fin 512) (l : Fin 128) :
    shapeCast S512x128 y h (ix2 r l) = y (ix3 0 r l) := by
  pointwise

theorem flatK_apply (y : FVec Ideal S1x256x128 .bf16) (h) (j : Fin 256) (l : Fin 128) :
    shapeCast S256x128 y h (ix2 j l) = y (ix3 0 j l) := by
  pointwise

section
variable {aq : Memref sig .tc .vmem S1x512x512 .bf16} {wq : aq.IsWhole} {al : Memref sig .tc .vmem S1x4096x512 .bf16} {wl : al.IsWhole}
  {ac : Memref sig .tc .vmem S1x256x512 .bf16} {wc : ac.IsWhole}

theorem loadQ {x : Vec Ideal S1x512x512 .bf16} {o : Fin 3 → ℕ} {inb : ∀ a, o a + S1x512x128.size a ≤ S1x512x512.size a} {h} {n : ℕ}
    (hn : n < 4) (h0 : o 0 = 0) (h1 : o 1 = 0) (h2 : o 2 = 128 * n) (r : Fin 512) (l : Fin 128) :
    shapeCast S512x128 (View.readAt (Elt Ideal) aq.view (Rect.unit (s := S1x512x512) o S1x512x128.size inb).toLoadRect (wq.unread x)) h (ix2 r l)
      = queryRow x n r l := by
  rw [flatQ_apply, View.readAt_apply, wq.read_unread]
  refine congrArg x (funext fun a => Fin.ext ?_)
  rw [Rect.idx_unit_val]
  match a with
  | ⟨0, _⟩ => exact h0
  | ⟨1, _⟩ => exact (congrArg (· + r.val) h1).trans (Nat.zero_add _)
  | ⟨2, _⟩ => exact (congrArg (· + l.val) h2).trans (Nat.mod_eq_of_lt (by omega)).symm

theorem loadL {x : Vec Ideal S1x4096x512 .bf16} {y : Vec Ideal S1x256x512 .bf16} {o : Fin 3 → ℕ}
    {inb : ∀ a, o a + S1x256x128.size a ≤ S1x4096x512.size a} {h} {n c : ℕ} (hn : n < 4) (hc : c < 16) (h0 : o 0 = 0) (h1 : o 1 = 256 * c)
    (h2 : o 2 = 128 * n) (j : Fin 256) (l : Fin 128) :
    shapeCast S256x128 (View.readAt (Elt Ideal) al.view (Rect.unit (s := S1x4096x512) o S1x256x128.size inb).toLoadRect (wl.unread x)) h
      (ix2 j l) = keyRow x y n c j l := by
  rw [flatK_apply, View.readAt_apply, wl.read_unread, keyRow, if_pos hc]
  refine congrArg x (funext fun a => Fin.ext ?_)
  rw [Rect.idx_unit_val]
  match a with
  | ⟨0, _⟩ => exact h0
  | ⟨1, _⟩ => exact (congrArg (· + j.val) h1).trans (Nat.mod_eq_of_lt (by omega)).symm
  | ⟨2, _⟩ => exact (congrArg (· + l.val) h2).trans (Nat.mod_eq_of_lt (by omega)).symm

theorem loadC {x : Vec Ideal S1x4096x512 .bf16} {y : Vec Ideal S1x256x512 .bf16} {o : Fin 3 → ℕ}
    {inb : ∀ a, o a + S1x256x128.size a ≤ S1x256x512.size a} {h} {n c : ℕ} (hn : n < 4) (hc : ¬c < 16) (h0 : o 0 = 0) (h1 : o 1 = 0)
    (h2 : o 2 = 128 * n) (j : Fin 256) (l : Fin 128) :
    shapeCast S256x128 (View.readAt (Elt Ideal) ac.view (Rect.unit (s := S1x256x512) o S1x256x128.size inb).toLoadRect (wc.unread y)) h
      (ix2 j l) = keyRow x y n c j l := by
  rw [flatK_apply, View.readAt_apply, wc.read_unread, keyRow, if_neg hc]
  refine congrArg y (funext fun a => Fin.ext ?_)
  rw [Rect.idx_unit_val]
  match a with
  | ⟨0, _⟩ => exact h0
  | ⟨1, _⟩ => exact (congrArg (· + j.val) h1).trans (Nat.zero_add _)
  | ⟨2, _⟩ => exact (congrArg (· + l.val) h2).trans (Nat.mod_eq_of_lt (by omega)).symm

/-- A head's query rows. -/
theorem IsQ.this {o : Fin 3 → ℕ} {inb : ∀ a, o a + S1x512x128.size a ≤ S1x512x512.size a} {h} {n : ℕ} (hn : n < 4) (h0 : o 0 = 0)
    (h1 : o 1 = 0) (h2 : o 2 = 128 * n) :
    IsQ (tile x0 x1 x2 x3 x4 x5 x6 x7 b) n (shapeCast S512x128
      (View.readAt (Elt Ideal) aq.view (Rect.unit (s := S1x512x512) o S1x512x128.size inb).toLoadRect (wq.unread x0)) h) :=
  ⟨fun r l => (loadQ hn h0 h1 h2 r l).trans (congrFun (congrFun (if_pos hn).symm r) l)⟩

/-- A head of the next tile. -/
theorem IsQ.ahead {o : Fin 3 → ℕ} {inb : ∀ a, o a + S1x512x128.size a ≤ S1x512x512.size a} {h} {n : ℕ} (hn : 4 ≤ n ∧ n < 8) (h0 : o 0 = 0)
    (h1 : o 1 = 0) (h2 : o 2 = 128 * (n - 4)) :
    IsQ (tile x0 x1 x2 x3 x4 x5 x6 x7 b) n (shapeCast S512x128
      (View.readAt (Elt Ideal) aq.view (Rect.unit (s := S1x512x512) o S1x512x128.size inb).toLoadRect (wq.unread x1)) h) :=
  ⟨fun r l => (loadQ (by omega) h0 h1 h2 r l).trans (congrFun (congrFun (if_neg (by omega)).symm r) l)⟩

theorem IsK.lat {o : Fin 3 → ℕ} {inb : ∀ a, o a + S1x256x128.size a ≤ S1x4096x512.size a} {h} {u : ℕ} (hu : u < 68 ∧ u % 17 < 16)
    (h0 : o 0 = 0) (h1 : o 1 = 256 * (u % 17)) (h2 : o 2 = 128 * (u / 17)) :
    IsK (tile x0 x1 x2 x3 x4 x5 x6 x7 b) u (shapeCast S256x128
      (View.readAt (Elt Ideal) al.view (Rect.unit (s := S1x4096x512) o S1x256x128.size inb).toLoadRect (wl.unread x2)) h) :=
  ⟨fun j l => (loadL (by omega) hu.2 h0 h1 h2 j l).trans (congrFun (congrFun (if_pos hu.1).symm j) l)⟩

theorem IsK.ctx {o : Fin 3 → ℕ} {inb : ∀ a, o a + S1x256x128.size a ≤ S1x256x512.size a} {h} {u : ℕ} (hu : u < 68 ∧ ¬u % 17 < 16)
    (h0 : o 0 = 0) (h1 : o 1 = 0) (h2 : o 2 = 128 * (u / 17)) :
    IsK (tile x0 x1 x2 x3 x4 x5 x6 x7 b) u (shapeCast S256x128
      (View.readAt (Elt Ideal) ac.view (Rect.unit (s := S1x256x512) o S1x256x128.size inb).toLoadRect (wc.unread x3)) h) :=
  ⟨fun j l => (loadC (by omega) hu.2 h0 h1 h2 j l).trans (congrFun (congrFun (if_pos hu.1).symm j) l)⟩

theorem IsV.lat {o : Fin 3 → ℕ} {inb : ∀ a, o a + S1x256x128.size a ≤ S1x4096x512.size a} {h} {u : ℕ} (hu : u < 68 ∧ u % 17 < 16)
    (h0 : o 0 = 0) (h1 : o 1 = 256 * (u % 17)) (h2 : o 2 = 128 * (u / 17)) :
    IsV (tile x0 x1 x2 x3 x4 x5 x6 x7 b) u (shapeCast S256x128
      (View.readAt (Elt Ideal) al.view (Rect.unit (s := S1x4096x512) o S1x256x128.size inb).toLoadRect (wl.unread x6)) h) :=
  ⟨fun j l => loadL (by omega) hu.2 h0 h1 h2 j l⟩

theorem IsV.ctx {o : Fin 3 → ℕ} {inb : ∀ a, o a + S1x256x128.size a ≤ S1x256x512.size a} {h} {u : ℕ} (hu : u < 68 ∧ ¬u % 17 < 16)
    (h0 : o 0 = 0) (h1 : o 1 = 0) (h2 : o 2 = 128 * (u / 17)) :
    IsV (tile x0 x1 x2 x3 x4 x5 x6 x7 b) u (shapeCast S256x128
      (View.readAt (Elt Ideal) ac.view (Rect.unit (s := S1x256x512) o S1x256x128.size inb).toLoadRect (wc.unread x7)) h) :=
  ⟨fun j l => loadC (by omega) hu.2 h0 h1 h2 j l⟩

theorem select_apply {ι : Type} (b : BitVec 1) (f g : ι → EReal) (i : ι) : Scalar.select b f g i = if b = 1 then f i else g i := by
  unfold Scalar.select
  split <;> rfl

theorem tile_ahead {u : ℕ} (hu : 68 ≤ u) (j : Fin 256) (l : Fin 128) : (tile x0 x1 x2 x3 x4 x5 x6 x7 b).K u j l
    = if b = 1 then keyRow x4 x5 (u / 17 - 4) (u % 17) j l else keyRow x2 x3 (u / 17 - 4) (u % 17) j l := by
  simp only [tile]
  rw [if_neg (by omega)]
  split <;> rfl

/-- The keys of the next tile: the next row's where `b` is set. -/
theorem IsK.latAhead {al' : Memref sig .tc .vmem S1x4096x512 .bf16} {wl' : al'.IsWhole} {o : Fin 3 → ℕ}
    {inb inb' : ∀ a, o a + S1x256x128.size a ≤ S1x4096x512.size a} {h h'} {u : ℕ} (hu : 68 ≤ u ∧ u < 136 ∧ u % 17 < 16)
    (h0 : o 0 = 0) (h1 : o 1 = 256 * (u % 17)) (h2 : o 2 = 128 * (u / 17 - 4)) :
    IsK (tile x0 x1 x2 x3 x4 x5 x6 x7 b) u (Scalar.select b (shapeCast S256x128
        (View.readAt (Elt Ideal) al'.view (Rect.unit (s := S1x4096x512) o S1x256x128.size inb').toLoadRect (wl'.unread x4)) h')
      (shapeCast S256x128
        (View.readAt (Elt Ideal) al.view (Rect.unit (s := S1x4096x512) o S1x256x128.size inb).toLoadRect (wl.unread x2)) h)) :=
  ⟨fun j l => by
    rw [select_apply, loadL (y := x5) (by omega) hu.2.2 h0 h1 h2 j l, loadL (y := x3) (by omega) hu.2.2 h0 h1 h2 j l, tile_ahead hu.1]⟩

theorem IsK.ctxAhead {ac' : Memref sig .tc .vmem S1x256x512 .bf16} {wc' : ac'.IsWhole} {o : Fin 3 → ℕ}
    {inb inb' : ∀ a, o a + S1x256x128.size a ≤ S1x256x512.size a} {h h'} {u : ℕ} (hu : 68 ≤ u ∧ u < 136 ∧ ¬u % 17 < 16)
    (h0 : o 0 = 0) (h1 : o 1 = 0) (h2 : o 2 = 128 * (u / 17 - 4)) :
    IsK (tile x0 x1 x2 x3 x4 x5 x6 x7 b) u (Scalar.select b (shapeCast S256x128
        (View.readAt (Elt Ideal) ac'.view (Rect.unit (s := S1x256x512) o S1x256x128.size inb').toLoadRect (wc'.unread x5)) h')
      (shapeCast S256x128
        (View.readAt (Elt Ideal) ac.view (Rect.unit (s := S1x256x512) o S1x256x128.size inb).toLoadRect (wc.unread x3)) h)) :=
  ⟨fun j l => by
    rw [select_apply, loadC (x := x4) (by omega) hu.2.2 h0 h1 h2 j l, loadC (x := x2) (by omega) hu.2.2 h0 h1 h2 j l, tile_ahead hu.1]⟩

end

/-- What a point finds in the carried buffers: the first eighteen units' scores, head 1's maximum over its first chunk, and head 0's
    row maximum. -/
structure Carried (T : Tile) (xs0 : Vec Ideal S2x512x4352 .f32) (xs1 xs2 : Vec Ideal S2x512x128 .f32) : Prop where
  s : ∀ u, u < 18 → ∀ r j, xs0 (sAt u r j) = T.sc u r j
  m : ∀ r l, xs1 (aAt 1 r l) = T.mx 1 0 r l
  b : ∀ r l, xs2 (aAt 0 r l) = T.mb 0 r

section
variable {T : Tile} {xs0 : Vec Ideal S2x512x4352 .f32} {xs1 xs2 : Vec Ideal S2x512x128 .f32} {a : Memref sig .tc .vmem S2x512x4352 .f32}
  {w : a.IsWhole} {am : Memref sig .tc .vmem S2x512x128 .f32} {wm : am.IsWhole}

theorem Carried.lo (C : Carried T xs0 xs1 xs2) {o : Fin 3 → ℕ} {inb : ∀ a, o a + S1x512x128.size a ≤ S2x512x4352.size a} {n : ℕ} (hn : n < 18)
    (h0 : o 0 = n / 17 % 2) (h1 : o 1 = 0) (h2 : o 2 = n % 17 * 256) :
    IsLo T n (flat (View.readAt (Elt Ideal) a.view (Rect.unit (s := S2x512x4352) o S1x512x128.size inb).toLoadRect (w.unread xs0))) :=
  ⟨fun r l => by
    rw [flat_apply, View.readAt_apply, w.read_unread, ← C.s n hn]
    refine congrArg xs0 (funext fun a => Fin.ext ?_)
    rw [Rect.idx_unit_val]
    match a with
    | ⟨0, _⟩ => exact h0
    | ⟨1, _⟩ => exact (congrArg (· + r.val) h1).trans (Nat.zero_add _)
    | ⟨2, _⟩ => exact congrArg (· + l.val) h2⟩

theorem Carried.hi (C : Carried T xs0 xs1 xs2) {o : Fin 3 → ℕ} {inb : ∀ a, o a + S1x512x128.size a ≤ S2x512x4352.size a} {n : ℕ} (hn : n < 18)
    (h0 : o 0 = n / 17 % 2) (h1 : o 1 = 0) (h2 : o 2 = n % 17 * 256 + 128) :
    IsHi T n (flat (View.readAt (Elt Ideal) a.view (Rect.unit (s := S2x512x4352) o S1x512x128.size inb).toLoadRect (w.unread xs0))) :=
  ⟨fun r l => by
    rw [flat_apply, View.readAt_apply, w.read_unread, ← C.s n hn]
    refine congrArg xs0 (funext fun a => Fin.ext ?_)
    rw [Rect.idx_unit_val]
    match a with
    | ⟨0, _⟩ => exact h0
    | ⟨1, _⟩ => exact (congrArg (· + r.val) h1).trans (Nat.zero_add _)
    | ⟨2, _⟩ => exact (congrArg (· + l.val) h2).trans (Nat.add_assoc _ _ _)⟩

theorem carried_read {x : Vec Ideal S2x512x128 .f32} {o : Fin 3 → ℕ} {inb : ∀ a, o a + S1x512x128.size a ≤ S2x512x128.size a} {h : ℕ}
    (h0 : o 0 = h % 2) (h1 : o 1 = 0) (h2 : o 2 = 0) (r : Fin 512) (l : Fin 128) :
    View.readAt (Elt Ideal) am.view (Rect.unit (s := S2x512x128) o S1x512x128.size inb).toLoadRect (wm.unread x) (ix3 0 r l) = x (aAt h r l) := by
  rw [View.readAt_apply, wm.read_unread]
  refine congrArg x (funext fun a => Fin.ext ?_)
  rw [Rect.idx_unit_val]
  match a with
  | ⟨0, _⟩ => exact h0
  | ⟨1, _⟩ => exact (congrArg (· + r.val) h1).trans (Nat.zero_add _)
  | ⟨2, _⟩ => exact (congrArg (· + l.val) h2).trans (Nat.zero_add _)

theorem Carried.mx (C : Carried T xs0 xs1 xs2) {o : Fin 3 → ℕ} {inb : ∀ a, o a + S1x512x128.size a ≤ S2x512x128.size a}
    (h0 : o 0 = 1) (h1 : o 1 = 0) (h2 : o 2 = 0) :
    IsMx T 1 0 (View.readAt (Elt Ideal) am.view (Rect.unit (s := S2x512x128) o S1x512x128.size inb).toLoadRect (wm.unread xs1)) :=
  ⟨fun r l => (carried_read (h := 1) h0 h1 h2 r l).trans (C.m r l)⟩

theorem Carried.mb (C : Carried T xs0 xs1 xs2) {o : Fin 3 → ℕ} {inb : ∀ a, o a + S1x512x128.size a ≤ S2x512x128.size a}
    (h0 : o 0 = 0) (h1 : o 1 = 0) (h2 : o 2 = 0) :
    IsMb T 0 (View.readAt (Elt Ideal) am.view (Rect.unit (s := S2x512x128) o S1x512x128.size inb).toLoadRect (wm.unread xs2)) :=
  ⟨fun r l => (carried_read (h := 0) h0 h1 h2 r l).trans (C.b r l)⟩

end

/-- What a point leaves: its result, and the next point's first scores, first lane maximum and first row maximum. -/
structure Left (T : Tile) (y : Vec Ideal S1x512x256 .bf16) (ys0 : Vec Ideal S2x512x4352 .f32) (ys1 ys2 : Vec Ideal S2x512x128 .f32) :
    Prop where
  out : ∀ r (z : Fin 256), y (ix3 0 r z) = T.out (z.val / 128) r ⟨z.val % 128, by omega⟩
  s : ∀ u, 68 ≤ u → u < 86 → ∀ r j, ys0 (sAt u r j) = T.sc u r j
  m : ∀ r l, ys1 (aAt 5 r l) = T.mx 5 0 r l
  b : ∀ r l, ys2 (aAt 4 r l) = T.mb 4 r

theorem Left.of {T : Tile} {L : List (View.Piece (Elt Ideal) S1x512x256 .bf16)} {L0 : List (View.Piece (Elt Ideal) S2x512x4352 .f32)}
    {L1 L2 L3 : List (View.Piece (Elt Ideal) S2x512x128 .f32)} {lo : ℕ} {sp : Space} (v : View sig .tc sp S1x512x256 .bf16)
    (v0 : View sig .tc sp S2x512x4352 .f32) (v1 v2 w1 w2 : View sig .tc sp S2x512x128 .f32) (hlo : lo ≤ 68)
    (hout : ∀ r (z : Fin 256), View.canon L (ix3 0 r z) = T.out (z.val / 128) r ⟨z.val % 128, by omega⟩) (P : St T lo 68 L0 L3)
    {o1 o2 : Fin 3 → ℕ} {inb1 : ∀ a, o1 a + S1x512x128.size a ≤ S2x512x128.size a} {inb2 : ∀ a, o2 a + S1x512x128.size a ≤ S2x512x128.size a}
    (hm : IsMx T 5 0 (w1.readCov L1 (Rect.unit (s := S2x512x128) o1 S1x512x128.size inb1).toLoadRect))
    (hb : IsMb T 4 (w2.readCov L2 (Rect.unit (s := S2x512x128) o2 S1x512x128.size inb2).toLoadRect))
    (h1 : o1 = ![1, 0, 0]) (h2 : o2 = ![0, 0, 0]) :
    Left T (v.read (Elt Ideal) (v.writes (Elt Ideal) v.junk L)) (v0.read (Elt Ideal) (v0.writes (Elt Ideal) v0.junk L0))
      (v1.read (Elt Ideal) (v1.writes (Elt Ideal) v1.junk L1)) (v2.read (Elt Ideal) (v2.writes (Elt Ideal) v2.junk L2)) := by
  subst h1 h2
  rw [View.read_writes_junk_eq_canon, View.read_writes_junk_eq_canon, View.read_writes_junk_eq_canon, View.read_writes_junk_eq_canon]
  rw [View.readCov_eq_canon'] at hm hb
  refine ⟨hout, fun u h h' => P.s u (by omega) h (by omega), fun r l => (congrArg (View.canon L1) ?_).trans (hm.eq r l),
    fun r l => (congrArg (View.canon L2) ?_).trans (hb.eq r l)⟩
  all_goals
    funext a
    apply Fin.ext
    rw [Rect.idx_unit_val]
    match a with
    | ⟨0, _⟩ => first | exact (show 5 % 2 = 1 + 0 from rfl) | exact (show 4 % 2 = 0 + 0 from rfl)
    | ⟨1, _⟩ => exact (Nat.zero_add _).symm
    | ⟨2, _⟩ => exact (Nat.zero_add _).symm

/-- What a point leaves is what the next finds, where the next point's heads and keys are those looked ahead to. -/
theorem Left.carried {T T' : Tile} {y : Vec Ideal S1x512x256 .bf16} {ys0 : Vec Ideal S2x512x4352 .f32} {ys1 ys2 : Vec Ideal S2x512x128 .f32}
    (H : Left T y ys0 ys1 ys2) (hQ : ∀ h, h < 2 → T'.Q h = T.Q (4 + h)) (hK : ∀ u, u < 18 → T'.K u = T.K (68 + u)) :
    Carried T' ys0 ys1 ys2 := by
  have hs : ∀ u, u < 18 → T'.sc u = T.sc (68 + u) := fun u hu => by
    funext r j
    rw [Tile.sc, Tile.sc, hQ _ (by omega), hK u hu, show (68 + u) / 17 = 4 + u / 17 by omega]
  have hc : ∀ u, u < 18 → T'.cm u = T.cm (68 + u) := fun u hu => by
    funext r l
    rw [Tile.cm, Tile.cm, hs u hu]
  have hm : ∀ c, c < 17 → T'.mx 0 c = T.mx 4 c := by
    intro c
    induction c with
    | zero => intro _; funext r l; rw [Tile.mx, Tile.mx, hc _ (by omega)]
    | succ c ih => intro h; funext r l; rw [Tile.mx, Tile.mx, ih (by omega), hc _ (by omega)]; congr 2; omega
  refine ⟨fun u hu r j => ?_, fun r l => ?_, fun r l => ?_⟩
  · rw [hs u hu, ← H.s (68 + u) (by omega) (by omega)]
    refine congrArg ys0 (funext fun a => Fin.ext ?_)
    match a with
    | ⟨0, _⟩ => exact (show u / 17 % 2 = (68 + u) / 17 % 2 by omega)
    | ⟨1, _⟩ => rfl
    | ⟨2, _⟩ => exact (show u % 17 * 256 + j.val = (68 + u) % 17 * 256 + j.val by omega)
  · rw [Tile.mx, hc _ (by omega)]
    exact H.m r l
  · rw [Tile.mb, hm 16 (by omega)]
    exact H.b r l

end

end Cert.KernelIdeal.Attn
-- ==== Proof.Blocks.lean ====
/- A grid point's windows read off the two packed arrays, and each point's look-ahead against the next point's units. -/
module

public import proofs.«01_k».proof.Proof.Loads
public import proofs.«01_k».proof.Proof.Gen.KernelIdeal.Frame

@[expose] public section

set_option maxRecDepth 16384

noncomputable section

namespace Cert.KernelIdeal.Attn

open Idealize.ShloMosaic Gen

variable (m : (ℓ : Loc nD τ sig) → Buf (Elt Ideal) ℓ) (c : Dev nD)

/-- The packed latent array: queries, keys, values. -/
abbrev lat : S8x4096x2560.Idx → EReal := V (F := Ideal) m c main_v31
/-- The packed context array: nothing, keys, values. -/
abbrev ctx : S8x256x2560.Idx → EReal := V (F := Ideal) m c main_v38

/-- The block indices of the eight inputs and the output, decided over the grid. -/
theorem idx0 : ∀ t : Fin cfg0.N, win0_0.index t = ![t.val / 8, t.val % 8, 0] := (by decide +kernel : ∀ t : Fin grid0.N, _)
theorem idx1 : ∀ t : Fin cfg0.N, t.val < 63 → win0_1.index t = ![(t.val + 1) / 8, (t.val + 1) % 8, 0] := (by decide +kernel : ∀ t : Fin grid0.N, _)
theorem idx2 : ∀ t : Fin cfg0.N, win0_2.index t = ![t.val / 8, 0, 1] := (by decide +kernel : ∀ t : Fin grid0.N, _)
theorem idx3 : ∀ t : Fin cfg0.N, win0_3.index t = ![t.val / 8, 0, 1] := (by decide +kernel : ∀ t : Fin grid0.N, _)
theorem idx4 : ∀ t : Fin cfg0.N, t.val < 56 → win0_4.index t = ![t.val / 8 + 1, 0, 1] := (by decide +kernel : ∀ t : Fin grid0.N, _)
theorem idx5 : ∀ t : Fin cfg0.N, t.val < 56 → win0_5.index t = ![t.val / 8 + 1, 0, 1] := (by decide +kernel : ∀ t : Fin grid0.N, _)
theorem idx6 : ∀ t : Fin cfg0.N, win0_6.index t = ![t.val / 8, 0, 2] := (by decide +kernel : ∀ t : Fin grid0.N, _)
theorem idx7 : ∀ t : Fin cfg0.N, win0_7.index t = ![t.val / 8, 0, 2] := (by decide +kernel : ∀ t : Fin grid0.N, _)
theorem idx8 : ∀ t : Fin cfg0.N, win0_8.index t = ![t.val / 8, t.val % 8, 0] := (by decide +kernel : ∀ t : Fin grid0.N, _)
/-- The grid's second coordinate is the last one in a row exactly at the row's last point. -/
theorem last : ∀ t : Fin cfg0.N, (kernelRun0_B.sl.v0 (grid0.coords t) = 1 ↔ t.val % 8 = 7) := (by decide +kernel : ∀ t : Fin grid0.N, _)

theorem lt64 (t : Fin cfg0.N) : t.val < 64 := lt_of_lt_of_eq t.isLt N_0

/-- A tile of queries. -/
def qBlock (n : ℕ) : Vec Ideal S1x512x512 .bf16 :=
  fun y => lat m c (ix3 ⟨n / 8 % 8, by omega⟩ ⟨512 * (n % 8) + (y 1).val, by have := (y 1).isLt; change _ < 512 at this; omega⟩ ⟨(y 2).val, by have := (y 2).isLt; change _ < 512 at this; omega⟩)
/-- A row's latent keys (`o = 512`) or values (`o = 1024`). -/
def latBlock (o n : ℕ) : Vec Ideal S1x4096x512 .bf16 :=
  fun y => lat m c (ix3 ⟨n % 8, by omega⟩ (y 1) ⟨(o + (y 2).val) % 2560, by omega⟩)
/-- A row's context keys or values. -/
def ctxBlock (o n : ℕ) : Vec Ideal S1x256x512 .bf16 :=
  fun y => ctx m c (ix3 ⟨n % 8, by omega⟩ (y 1) ⟨(o + (y 2).val) % 2560, by omega⟩)

theorem iblk0 (t : Fin cfg0.N) : iblk (F := Ideal) m c 0 t = qBlock m c t.val := by
  funext y
  refine congrArg (lat m c) (funext fun a => Fin.ext ?_)
  have e := congrFun (idx0 t)
  have h := lt64 t
  match a with
  | ⟨0, _⟩ => exact (show win0_0.index t 0 * 1 + 1 * (y 0).val = t.val / 8 % 8 by rw [e 0]; have := (y 0).isLt; change _ < 1 at this; simp; omega)
  | ⟨1, _⟩ => exact (show win0_0.index t 1 * 512 + 1 * (y 1).val = 512 * (t.val % 8) + (y 1).val by rw [e 1]; simp; omega)
  | ⟨2, _⟩ => exact (show win0_0.index t 2 * 512 + 1 * (y 2).val = (y 2).val by rw [e 2]; simp)

theorem iblk1 (t : Fin cfg0.N) (ht : t.val < 63) : iblk (F := Ideal) m c 1 t = qBlock m c (t.val + 1) := by
  funext y
  refine congrArg (lat m c) (funext fun a => Fin.ext ?_)
  have e := congrFun (idx1 t ht)
  match a with
  | ⟨0, _⟩ => exact (show win0_1.index t 0 * 1 + 1 * (y 0).val = (t.val + 1) / 8 % 8 by rw [e 0]; have := (y 0).isLt; change _ < 1 at this; simp; omega)
  | ⟨1, _⟩ => exact (show win0_1.index t 1 * 512 + 1 * (y 1).val = 512 * ((t.val + 1) % 8) + (y 1).val by rw [e 1]; simp; omega)
  | ⟨2, _⟩ => exact (show win0_1.index t 2 * 512 + 1 * (y 2).val = (y 2).val by rw [e 2]; simp)

theorem iblk2 (t : Fin cfg0.N) : iblk (F := Ideal) m c 2 t = latBlock m c 512 (t.val / 8) := by
  funext y
  refine congrArg (lat m c) (funext fun a => Fin.ext ?_)
  have e := congrFun (idx2 t)
  have h := lt64 t
  have h2 := (y 2).isLt; change _ < 512 at h2
  match a with
  | ⟨0, _⟩ => exact (show win0_2.index t 0 * 1 + 1 * (y 0).val = t.val / 8 % 8 by rw [e 0]; have := (y 0).isLt; change _ < 1 at this; simp; omega)
  | ⟨1, _⟩ => exact (show win0_2.index t 1 * 4096 + 1 * (y 1).val = (y 1).val by rw [e 1]; simp)
  | ⟨2, _⟩ => exact (show win0_2.index t 2 * 512 + 1 * (y 2).val = (512 + (y 2).val) % 2560 by rw [e 2]; simp; omega)

theorem iblk4 (t : Fin cfg0.N) (ht : t.val < 56) : iblk (F := Ideal) m c 4 t = latBlock m c 512 (t.val / 8 + 1) := by
  funext y
  refine congrArg (lat m c) (funext fun a => Fin.ext ?_)
  have e := congrFun (idx4 t ht)
  have h2 := (y 2).isLt; change _ < 512 at h2
  match a with
  | ⟨0, _⟩ => exact (show win0_4.index t 0 * 1 + 1 * (y 0).val = (t.val / 8 + 1) % 8 by rw [e 0]; have := (y 0).isLt; change _ < 1 at this; simp; omega)
  | ⟨1, _⟩ => exact (show win0_4.index t 1 * 4096 + 1 * (y 1).val = (y 1).val by rw [e 1]; simp)
  | ⟨2, _⟩ => exact (show win0_4.index t 2 * 512 + 1 * (y 2).val = (512 + (y 2).val) % 2560 by rw [e 2]; simp; omega)

theorem iblk6 (t : Fin cfg0.N) : iblk (F := Ideal) m c 6 t = latBlock m c 1024 (t.val / 8) := by
  funext y
  refine congrArg (lat m c) (funext fun a => Fin.ext ?_)
  have e := congrFun (idx6 t)
  have h := lt64 t
  have h2 := (y 2).isLt; change _ < 512 at h2
  match a with
  | ⟨0, _⟩ => exact (show win0_6.index t 0 * 1 + 1 * (y 0).val = t.val / 8 % 8 by rw [e 0]; have := (y 0).isLt; change _ < 1 at this; simp; omega)
  | ⟨1, _⟩ => exact (show win0_6.index t 1 * 4096 + 1 * (y 1).val = (y 1).val by rw [e 1]; simp)
  | ⟨2, _⟩ => exact (show win0_6.index t 2 * 512 + 1 * (y 2).val = (1024 + (y 2).val) % 2560 by rw [e 2]; simp; omega)

theorem iblk3 (t : Fin cfg0.N) : iblk (F := Ideal) m c 3 t = ctxBlock m c 512 (t.val / 8) := by
  funext y
  refine congrArg (ctx m c) (funext fun a => Fin.ext ?_)
  have e := congrFun (idx3 t)
  have h := lt64 t
  have h2 := (y 2).isLt; change _ < 512 at h2
  match a with
  | ⟨0, _⟩ => exact (show win0_3.index t 0 * 1 + 1 * (y 0).val = t.val / 8 % 8 by rw [e 0]; have := (y 0).isLt; change _ < 1 at this; simp; omega)
  | ⟨1, _⟩ => exact (show win0_3.index t 1 * 256 + 1 * (y 1).val = (y 1).val by rw [e 1]; simp)
  | ⟨2, _⟩ => exact (show win0_3.index t 2 * 512 + 1 * (y 2).val = (512 + (y 2).val) % 2560 by rw [e 2]; simp; omega)

theorem iblk5 (t : Fin cfg0.N) (ht : t.val < 56) : iblk (F := Ideal) m c 5 t = ctxBlock m c 512 (t.val / 8 + 1) := by
  funext y
  refine congrArg (ctx m c) (funext fun a => Fin.ext ?_)
  have e := congrFun (idx5 t ht)
  have h2 := (y 2).isLt; change _ < 512 at h2
  match a with
  | ⟨0, _⟩ => exact (show win0_5.index t 0 * 1 + 1 * (y 0).val = (t.val / 8 + 1) % 8 by rw [e 0]; have := (y 0).isLt; change _ < 1 at this; simp; omega)
  | ⟨1, _⟩ => exact (show win0_5.index t 1 * 256 + 1 * (y 1).val = (y 1).val by rw [e 1]; simp)
  | ⟨2, _⟩ => exact (show win0_5.index t 2 * 512 + 1 * (y 2).val = (512 + (y 2).val) % 2560 by rw [e 2]; simp; omega)

theorem iblk7 (t : Fin cfg0.N) : iblk (F := Ideal) m c 7 t = ctxBlock m c 1024 (t.val / 8) := by
  funext y
  refine congrArg (ctx m c) (funext fun a => Fin.ext ?_)
  have e := congrFun (idx7 t)
  have h := lt64 t
  have h2 := (y 2).isLt; change _ < 512 at h2
  match a with
  | ⟨0, _⟩ => exact (show win0_7.index t 0 * 1 + 1 * (y 0).val = t.val / 8 % 8 by rw [e 0]; have := (y 0).isLt; change _ < 1 at this; simp; omega)
  | ⟨1, _⟩ => exact (show win0_7.index t 1 * 256 + 1 * (y 1).val = (y 1).val by rw [e 1]; simp)
  | ⟨2, _⟩ => exact (show win0_7.index t 2 * 512 + 1 * (y 2).val = (1024 + (y 2).val) % 2560 by rw [e 2]; simp; omega)

/-- The units of point `t`. -/
def tileAt (t : Fin cfg0.N) : Tile :=
  tile (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t)
    (kernelRun0_B.sl.v0 (grid0.coords t))

theorem tileAt_Q (t : Fin cfg0.N) {h : ℕ} (hh : h < 4) : (tileAt m c t).Q h = queryRow (qBlock m c t.val) h := by
  unfold tileAt tile
  rw [← iblk0]
  exact if_pos hh

theorem tileAt_K (t : Fin cfg0.N) {u : ℕ} (hu : u < 68) :
    (tileAt m c t).K u = keyRow (latBlock m c 512 (t.val / 8)) (ctxBlock m c 512 (t.val / 8)) (u / 17) (u % 17) := by
  unfold tileAt tile
  rw [← iblk2, ← iblk3]
  exact if_pos hu

theorem tileAt_V (t : Fin cfg0.N) (u : ℕ) :
    (tileAt m c t).V u = keyRow (latBlock m c 1024 (t.val / 8)) (ctxBlock m c 1024 (t.val / 8)) (u / 17) (u % 17) := by
  unfold tileAt tile
  rw [← iblk6, ← iblk7]

/-- The next point's queries are those looked ahead to. -/
theorem ahead_Q (t t' : Fin cfg0.N) (e : t'.val = t.val + 1) {h : ℕ} (hh : h < 2) :
    (tileAt m c t').Q h = (tileAt m c t).Q (4 + h) := by
  rw [tileAt_Q m c t' (by omega), e, ← iblk1 m c t (by have := lt64 t'; omega)]
  unfold tileAt tile
  refine Eq.trans ?_ (if_neg (by omega)).symm
  rw [Nat.add_sub_cancel_left]

/-- So are its keys: this row's, or at the row's last point the next row's. -/
theorem ahead_K (t t' : Fin cfg0.N) (e : t'.val = t.val + 1) {u : ℕ} (hu : u < 18) :
    (tileAt m c t').K u = (tileAt m c t).K (68 + u) := by
  rw [tileAt_K m c t' (by omega)]
  have h' := lt64 t'
  have e1 : (68 + u) / 17 - 4 = u / 17 := by omega
  have e2 : (68 + u) % 17 = u % 17 := by omega
  have hl := last t
  unfold tileAt tile
  show _ = if 68 + u < 68 then _ else if kernelRun0_B.sl.v0 (grid0.coords t) = 1 then _ else _
  rw [if_neg (by omega), e1, e2]
  by_cases hb : t.val % 8 = 7
  · rw [if_pos (hl.2 hb), iblk4 m c t (by omega), iblk5 m c t (by omega), show t'.val / 8 = t.val / 8 + 1 by omega]
  · rw [if_neg (fun h => hb (hl.1 h)), iblk2, iblk3, show t'.val / 8 = t.val / 8 by omega]

end Cert.KernelIdeal.Attn
-- ==== Proof.Host.lean ====
/- The two packed arrays the attention reads, element by element: queries, keys and values of four heads, each head widened to 128 lanes. -/
module

public import proofs.«01_k».proof.Proof.Blocks

@[expose] public section

set_option maxRecDepth 16384

noncomputable section

namespace Cert.KernelIdeal.Attn

open Idealize.ShloMosaic Gen

/-- The query scale: 96 to the power −1/2, over log 2. -/
def scaleV : FVec Ideal S_ .f32 := Host.divf (constant S_ .f32 0x3DD105EC#32) (Host.log (constant S_ .f32 0x40000000#32))

def scaledV (q : FVec Ideal S8x4x1x4096x96 .f32) : FVec Ideal S8x4x4096x96 .f32 :=
  mulf (shapeCast S8x4x4096x96 q shapeCasts_S8x4x1x4096x96_S8x4x4096x96) (broadcastInDim S8x4x4096x96 ![] bcast_S_S8x4x4096x96 scaleV)

/-- Rotary lanes first, then the others, then zeros, heads side by side. -/
def wideL (x : FVec Ideal S8x4x4096x96 .f32) : FVec Ideal S8x4096x512 .bf16 :=
  truncf .bf16 (shapeCast S8x4096x512 (transpose S8x4096x4x128 [0, 2, 1, 3] (pad S8x4x4096x128 ![0, 0, 0, 0] ![0, 0, 0, 32] ![0, 0, 0, 0]
    (concatenate S8x4x4096x96 3 [⟨S8x4x4096x32, extractStridedSlice S8x4x4096x32 ![0, 0, 0, 64] x slices_S8x4x4096x96_S8x4x4096x32_0_0_0_64⟩,
      ⟨S8x4x4096x64, extractStridedSlice S8x4x4096x64 ![0, 0, 0, 0] x slices_S8x4x4096x96_S8x4x4096x64_0_0_0_0⟩] concatenates_S8x4x4096x32_S8x4x4096x64_S8x4x4096x96_d3)
    (constant S_ .f32 0x00000000#32) pads_S8x4x4096x96_S8x4x4096x128_000_000_000_0320 h_S_) transposes_S8x4x4096x128_S8x4096x4x128_0_2_1_3)
    shapeCasts_S8x4096x4x128_S8x4096x512) bitsLt_bf16_f32

def wideC (x : FVec Ideal S8x4x256x96 .f32) : FVec Ideal S8x256x512 .bf16 :=
  truncf .bf16 (shapeCast S8x256x512 (transpose S8x256x4x128 [0, 2, 1, 3] (pad S8x4x256x128 ![0, 0, 0, 0] ![0, 0, 0, 32] ![0, 0, 0, 0]
    (concatenate S8x4x256x96 3 [⟨S8x4x256x32, extractStridedSlice S8x4x256x32 ![0, 0, 0, 64] x slices_S8x4x256x96_S8x4x256x32_0_0_0_64⟩,
      ⟨S8x4x256x64, extractStridedSlice S8x4x256x64 ![0, 0, 0, 0] x slices_S8x4x256x96_S8x4x256x64_0_0_0_0⟩] concatenates_S8x4x256x32_S8x4x256x64_S8x4x256x96_d3)
    (constant S_ .f32 0x00000000#32) pads_S8x4x256x96_S8x4x256x128_000_000_000_0320 h_S_) transposes_S8x4x256x128_S8x256x4x128_0_2_1_3)
    shapeCasts_S8x256x4x128_S8x256x512) bitsLt_bf16_f32

/-- Values, then ones, heads side by side. -/
def onesL (x : FVec Ideal S8x4x4096x64 .f32) : FVec Ideal S8x4096x512 .bf16 :=
  truncf .bf16 (shapeCast S8x4096x512 (transpose S8x4096x4x128 [0, 2, 1, 3] (pad S8x4x4096x128 ![0, 0, 0, 0] ![0, 0, 0, 64] ![0, 0, 0, 0]
    x (constant S_ .f32 0x3F800000#32) pads_S8x4x4096x64_S8x4x4096x128_000_000_000_0640 h_S_) transposes_S8x4x4096x128_S8x4096x4x128_0_2_1_3)
    shapeCasts_S8x4096x4x128_S8x4096x512) bitsLt_bf16_f32

def onesC (x : FVec Ideal S8x4x256x64 .f32) : FVec Ideal S8x256x512 .bf16 :=
  truncf .bf16 (shapeCast S8x256x512 (transpose S8x256x4x128 [0, 2, 1, 3] (pad S8x4x256x128 ![0, 0, 0, 0] ![0, 0, 0, 64] ![0, 0, 0, 0]
    x (constant S_ .f32 0x3F800000#32) pads_S8x4x256x64_S8x4x256x128_000_000_000_0640 h_S_) transposes_S8x4x256x128_S8x256x4x128_0_2_1_3)
    shapeCasts_S8x256x4x128_S8x256x512) bitsLt_bf16_f32

theorem scaledV_apply (q) (b : Fin 8) (h : Fin 4) (r : Fin 4096) (d : Fin 96) : scaledV q (ix4 b h r d)
    = q (ix5 b h 0 r d) * Ideal.div (Ideal.ofBits .f32 0x3DD105EC#32) (Ideal.log (Ideal.ofBits .f32 0x40000000#32)) := by
  pointwise [scaledV, scaleV]

theorem ones_if {α : Type} {p q : Prop} [Decidable q] [Decidable (p ∧ q)] (hp : p) (f : p ∧ q → α) (g : q → α) (a : α) (hfg : ∀ h h', f h = g h') :
    (if h : p ∧ q then f h else a) = if h : q then g h else a := by
  by_cases h : q
  · rw [dif_pos h, dif_pos ⟨hp, h⟩]; exact hfg _ _
  · rw [dif_neg h, dif_neg fun h' => h h'.2]

theorem third_if {α : Type} {p q s : Prop} [Decidable p] [Decidable q] [Decidable s] (hp : ¬p) (hq : ¬q) (hs : s) (f : p → α)
    (g : ¬p → q → α) (k : ¬p → ¬q → s → α) (e : ¬p → ¬q → ¬s → α) (a : α) (hk : ∀ h, k hp hq h = a) :
    (if h : p then f h else if h' : q then g h h' else if h'' : s then k h h' h'' else e h h' h'') = a := by
  rw [dif_neg hp, dif_neg hq, dif_pos hs]
  exact hk _

theorem wide_if {α : Type} {p q s : Prop} [Decidable q] [Decidable (p ∧ q)] [Decidable s] (hp : p) (f : p ∧ q → s → α) (f' : p ∧ q → ¬s → α)
    (g a : α) (h1 : ∀ h h', f h h' = g) (h2 : ∀ h h', f' h h' = g) :
    (if h : p ∧ q then if h' : s then f h h' else f' h h' else a) = if q then g else a := by
  by_cases h : q
  · rw [if_pos h, dif_pos ⟨hp, h⟩]
    by_cases h' : s
    · rw [dif_pos h']; exact h1 _ _
    · rw [dif_neg h']; exact h2 _ _
  · rw [if_neg h, dif_neg fun h' => h h'.2]

theorem wideL_apply (x : FVec Ideal S8x4x4096x96 .f32) (b : Fin 8) (r : Fin 4096) (z : Fin 512) : wideL x (ix3 b r z)
    = if z.val % 128 < 96 then x (ix4 b ⟨z.val / 128, by omega⟩ r ⟨(z.val % 128 + 64) % 96, by omega⟩) else 0 := by
  pointwise [wideL]
  exact wide_if (by omega) _ _ _ _ (fun h h' => congrArg (fun d => x (ix4 b ⟨z.val / 128, h.1⟩ r d)) (Fin.ext (by dsimp only; omega)))
    (fun h h' => congrArg (fun d => x (ix4 b ⟨z.val / 128, h.1⟩ r d)) (Fin.ext (by dsimp only; omega)))

theorem wideC_apply (x : FVec Ideal S8x4x256x96 .f32) (b : Fin 8) (r : Fin 256) (z : Fin 512) : wideC x (ix3 b r z)
    = if z.val % 128 < 96 then x (ix4 b ⟨z.val / 128, by omega⟩ r ⟨(z.val % 128 + 64) % 96, by omega⟩) else 0 := by
  pointwise [wideC]
  exact wide_if (by omega) _ _ _ _ (fun h h' => congrArg (fun d => x (ix4 b ⟨z.val / 128, h.1⟩ r d)) (Fin.ext (by dsimp only; omega)))
    (fun h h' => congrArg (fun d => x (ix4 b ⟨z.val / 128, h.1⟩ r d)) (Fin.ext (by dsimp only; omega)))

theorem onesL_apply (x : FVec Ideal S8x4x4096x64 .f32) (b : Fin 8) (r : Fin 4096) (z : Fin 512) : onesL x (ix3 b r z)
    = if h : z.val % 128 < 64 then x (ix4 b ⟨z.val / 128, by omega⟩ r ⟨z.val % 128, h⟩) else 1 := by
  pointwise [onesL]
  exact ones_if (by omega) _ _ _ fun _ _ => rfl

theorem onesC_apply (x : FVec Ideal S8x4x256x64 .f32) (b : Fin 8) (r : Fin 256) (z : Fin 512) : onesC x (ix3 b r z)
    = if h : z.val % 128 < 64 then x (ix4 b ⟨z.val / 128, by omega⟩ r ⟨z.val % 128, h⟩) else 1 := by
  pointwise [onesC]
  exact ones_if (by omega) _ _ _ fun _ _ => rfl

variable (m : (ℓ : Loc nD τ sig) → Buf (Elt Ideal) ℓ) (c : Dev nD)

/-- A line of operations run in two parts. -/
theorem after_two (p q : List (HloOp τ sig (Elt Ideal))) (F : Valuation τ sig (Elt Ideal)) :
    StableHlo.after (p ++ q) F = StableHlo.after q (StableHlo.after p F) := by
  induction p generalizing F with
  | nil => rfl
  | cons a p ih => exact ih _

/-- The arrays when the packed latent array is about to be written. -/
def atLat : Valuation τ sig (Elt Ideal) := StableHlo.after (List.take 38 (hostOps0 (F := Ideal))) fun b => m (c, b)
/-- The arrays when the packed context array is about to be written. -/
def atCtx : Valuation τ sig (Elt Ideal) := StableHlo.after (List.take 48 (hostOps0 (F := Ideal))) fun b => m (c, b)

set_option maxHeartbeats 4000000 in
theorem lat_cat : lat m c = concatenate S8x4096x2560 2 [⟨S8x4096x512, atLat m c (Proc.devRef .tc main_v25)⟩,
    ⟨S8x4096x512, atLat m c (Proc.devRef .tc main_v15)⟩, ⟨S8x4096x512, atLat m c (Proc.devRef .tc main_v29)⟩, ⟨S8x4096x1024, atLat m c (Proc.devRef .tc main_v30)⟩]
    concatenates_S8x4096x512_S8x4096x512_S8x4096x512_S8x4096x1024_S8x4096x2560_d2 := by
  have e : StableHlo.after (hostOps0 (F := Ideal)) (fun b => m (c, b)) = StableHlo.after (List.drop 38 (hostOps0 (F := Ideal))) (atLat m c) := by
    rw [atLat, ← after_two, List.take_append_drop]
  show StableHlo.after (hostOps0 (F := Ideal)) (fun b => m (c, b)) (Proc.devRef .tc main_v31) = _
  rw [e]
  generalize atLat m c = F
  simp only [hostOps0, List.drop_succ_cons, List.drop_zero]
  after_results <;> rfl

set_option maxHeartbeats 4000000 in
theorem ctx_cat : ctx m c = concatenate S8x256x2560 2 [⟨S8x256x512, atCtx m c (Proc.devRef .tc main_v32)⟩,
    ⟨S8x256x512, atCtx m c (Proc.devRef .tc main_v8)⟩, ⟨S8x256x512, atCtx m c (Proc.devRef .tc main_v36)⟩, ⟨S8x256x1024, atCtx m c (Proc.devRef .tc main_v37)⟩]
    concatenates_S8x256x512_S8x256x512_S8x256x512_S8x256x1024_S8x256x2560_d2 := by
  have e : StableHlo.after (hostOps0 (F := Ideal)) (fun b => m (c, b)) = StableHlo.after (List.drop 48 (hostOps0 (F := Ideal))) (atCtx m c) := by
    rw [atCtx, ← after_two, List.take_append_drop]
  show StableHlo.after (hostOps0 (F := Ideal)) (fun b => m (c, b)) (Proc.devRef .tc main_v38) = _
  rw [e]
  generalize atCtx m c = F
  simp only [hostOps0, List.drop_succ_cons, List.drop_zero]
  after_results <;> rfl

set_option maxHeartbeats 4000000 in
theorem atLat_v25 : atLat m c (Proc.devRef .tc main_v25) = wideL (scaledV (m ((c.tc : Thread nD τ).loc main_arg0))) := by
  unfold atLat
  simp only [hostOps0, List.take_succ_cons, List.take_zero]
  after_results <;> rfl

set_option maxHeartbeats 4000000 in
theorem atLat_v15 : atLat m c (Proc.devRef .tc main_v15) = wideL (m ((c.tc : Thread nD τ).loc main_arg2)) := by
  unfold atLat
  simp only [hostOps0, List.take_succ_cons, List.take_zero]
  after_results <;> rfl

set_option maxHeartbeats 4000000 in
theorem atLat_v29 : atLat m c (Proc.devRef .tc main_v29) = onesL (m ((c.tc : Thread nD τ).loc main_arg4)) := by
  unfold atLat
  simp only [hostOps0, List.take_succ_cons, List.take_zero]
  after_results <;> rfl

set_option maxHeartbeats 4000000 in
theorem atCtx_v8 : atCtx m c (Proc.devRef .tc main_v8) = wideC (m ((c.tc : Thread nD τ).loc main_arg1)) := by
  unfold atCtx
  simp only [hostOps0, List.take_succ_cons, List.take_zero]
  after_results <;> rfl

set_option maxHeartbeats 4000000 in
theorem atCtx_v36 : atCtx m c (Proc.devRef .tc main_v36) = onesC (m ((c.tc : Thread nD τ).loc main_arg3)) := by
  unfold atCtx
  simp only [hostOps0, List.take_succ_cons, List.take_zero]
  after_results <;> rfl

/-- Four arrays side by side, read in each of the first three. -/
theorem lat_at (b : Fin 8) (r : Fin 4096) (z : Fin 512) :
    lat m c (ix3 b r ⟨z.val, by omega⟩) = wideL (scaledV (m ((c.tc : Thread nD τ).loc main_arg0))) (ix3 b r z)
    ∧ lat m c (ix3 b r ⟨512 + z.val, by omega⟩) = wideL (m ((c.tc : Thread nD τ).loc main_arg2)) (ix3 b r z)
    ∧ lat m c (ix3 b r ⟨1024 + z.val, by omega⟩) = onesL (m ((c.tc : Thread nD τ).loc main_arg4)) (ix3 b r z) := by
  rw [lat_cat, atLat_v25, atLat_v15, atLat_v29]
  generalize atLat m c (Proc.devRef .tc main_v30) = w
  generalize wideL (scaledV (m ((c.tc : Thread nD τ).loc main_arg0))) = x
  generalize wideL (m ((c.tc : Thread nD τ).loc main_arg2)) = y
  generalize onesL (m ((c.tc : Thread nD τ).loc main_arg4)) = v
  refine ⟨?_, ?_, ?_⟩
  all_goals pointwise
  exact third_if (by omega) (by omega) (by omega) _ _ _ _ _ fun h => congrArg (fun k => v (ix3 b r k)) (Fin.ext (by dsimp only; omega))

theorem ctx_at (b : Fin 8) (r : Fin 256) (z : Fin 512) :
    ctx m c (ix3 b r ⟨512 + z.val, by omega⟩) = wideC (m ((c.tc : Thread nD τ).loc main_arg1)) (ix3 b r z)
    ∧ ctx m c (ix3 b r ⟨1024 + z.val, by omega⟩) = onesC (m ((c.tc : Thread nD τ).loc main_arg3)) (ix3 b r z) := by
  rw [ctx_cat, atCtx_v8, atCtx_v36]
  generalize atCtx m c (Proc.devRef .tc main_v37) = w
  generalize atCtx m c (Proc.devRef .tc main_v32) = x
  generalize wideC (m ((c.tc : Thread nD τ).loc main_arg1)) = y
  generalize onesC (m ((c.tc : Thread nD τ).loc main_arg3)) = v
  refine ⟨?_, ?_⟩
  all_goals pointwise
  exact third_if (by omega) (by omega) (by omega) _ _ _ _ _ fun h => congrArg (fun k => v (ix3 b r k)) (Fin.ext (by dsimp only; omega))

end Cert.KernelIdeal.Attn
-- ==== Proof.Lanes.lean ====
/- The lanes of one head's score: the 96 columns moved to the first 96 lanes, zeros after them, and the constants of the scale. -/
module

public import proofs.«01_k».proof.Proof.Refer
public import proofs.«01_k».proof.Proof.Host

@[expose] public section

set_option maxRecDepth 16384

noncomputable section

namespace Cert.KernelIdeal.Attn

open Idealize.ShloMosaic Gen
open Cert.ReferenceIdeal.Attn (row)

/-- A head's 96 columns in 128 lanes: the last 32 first, then the first 64, then zeros. -/
def lane (f : Fin 96 → EReal) (l : Fin 128) : EReal := if l.val < 96 then f ⟨(l.val + 64) % 96, by omega⟩ else 0

/-- A head's 64 value columns, then ones. -/
def padded (f : Fin 64 → EReal) (l : Fin 128) : EReal := if h : l.val < 64 then f ⟨l.val, h⟩ else 1

def turn (d : Fin 96) : Fin 96 := ⟨(d.val + 64) % 96, by omega⟩

theorem turn_bij : Function.Bijective turn :=
  (Fintype.bijective_iff_injective_and_card _).2 ⟨fun a b h => Fin.ext (by have := congrArg Fin.val h; simp only [turn] at this; omega), rfl⟩

/-- The product over the lanes is the product over the columns. -/
theorem lane_dot (f g : Fin 96 → EReal) : ∑ l, lane f l * lane g l = ∑ d, f d * g d := by
  rw [Fin.sum_univ_add (a := 96) (b := 32) fun l : Fin 128 => lane f l * lane g l]
  have h2 : ∀ i : Fin 32, lane f (Fin.natAdd 96 i) * lane g (Fin.natAdd 96 i) = 0 := fun i => by
    have h : ¬(Fin.natAdd 96 i : Fin 128).val < 96 := by simp
    unfold lane
    rw [if_neg h, if_neg h, mul_zero]
  have h1 : ∀ i : Fin 96, lane f (Fin.castAdd 32 i) * lane g (Fin.castAdd 32 i) = f (turn i) * g (turn i) := fun i => by
    have h : (Fin.castAdd 32 i : Fin 128).val < 96 := i.isLt
    unfold lane
    rw [if_pos h, if_pos h]
    rfl
  simp only [h1, h2, Finset.sum_const_zero, add_zero]
  exact Fintype.sum_bijective turn turn_bij _ _ fun _ => rfl

theorem lane_row (f : Fin 256 → Fin 96 → EReal) (g : Fin 4096 → Fin 96 → EReal) (κ : Fin 4352) (l : Fin 128) :
    row (fun j => lane (f j)) (fun j => lane (g j)) κ l = lane (row f g κ) l := by
  by_cases h : κ.val < 256
  · rw [show row f g κ = f ⟨κ.val, h⟩ from funext fun d => dif_pos h]
    exact dif_pos h
  · rw [show row f g κ = g ⟨κ.val - 256, by omega⟩ from funext fun d => dif_neg h]
    exact dif_neg h

theorem padded_row (f : Fin 256 → Fin 64 → EReal) (g : Fin 4096 → Fin 64 → EReal) (κ : Fin 4352) (l : Fin 128) :
    row (fun j => padded (f j)) (fun j => padded (g j)) κ l = padded (row f g κ) l := by
  by_cases h : κ.val < 256
  · rw [show row f g κ = f ⟨κ.val, h⟩ from funext fun d => dif_pos h]
    exact dif_pos h
  · rw [show row f g κ = g ⟨κ.val - 256, by omega⟩ from funext fun d => dif_neg h]
    exact dif_neg h

theorem lane_mul (f : Fin 96 → EReal) (a : EReal) (l : Fin 128) : lane (fun d => f d * a) l = lane f l * a := by
  unfold lane
  split_ifs
  · rfl
  · exact (zero_mul a).symm

theorem at_lane (h : Fin 4) (l : Fin 128) : (128 * h.val + l.val) % 128 = l.val ∧ (128 * h.val + l.val) / 128 = h.val := by omega

theorem wideL_lane (x : FVec Ideal S8x4x4096x96 .f32) (b : Fin 8) (h : Fin 4) (r : Fin 4096) (l : Fin 128) :
    wideL x (ix3 b r ⟨128 * h.val + l.val, by omega⟩) = lane (fun d => x (ix4 b h r d)) l := by
  rw [wideL_apply]
  unfold lane
  simp only [(at_lane h l).1, (at_lane h l).2]

theorem wideC_lane (x : FVec Ideal S8x4x256x96 .f32) (b : Fin 8) (h : Fin 4) (r : Fin 256) (l : Fin 128) :
    wideC x (ix3 b r ⟨128 * h.val + l.val, by omega⟩) = lane (fun d => x (ix4 b h r d)) l := by
  rw [wideC_apply]
  unfold lane
  simp only [(at_lane h l).1, (at_lane h l).2]

theorem onesL_lane (x : FVec Ideal S8x4x4096x64 .f32) (b : Fin 8) (h : Fin 4) (r : Fin 4096) (l : Fin 128) :
    onesL x (ix3 b r ⟨128 * h.val + l.val, by omega⟩) = padded (fun d => x (ix4 b h r d)) l := by
  rw [onesL_apply]
  unfold padded
  simp only [(at_lane h l).1, (at_lane h l).2]

theorem onesC_lane (x : FVec Ideal S8x4x256x64 .f32) (b : Fin 8) (h : Fin 4) (r : Fin 256) (l : Fin 128) :
    onesC x (ix3 b r ⟨128 * h.val + l.val, by omega⟩) = padded (fun d => x (ix4 b h r d)) l := by
  rw [onesC_apply]
  unfold padded
  simp only [(at_lane h l).1, (at_lane h l).2]

/-- The printed scale is a real number. -/
theorem scale_real : ∃ ρ : ℝ, Ideal.ofBits .f32 0x3DD105EC#32 = (ρ : EReal) := by
  simp only [Ideal.ofBits, Ideal.ieee]
  rw [if_neg (by decide), if_neg (by decide)]
  exact ⟨_, rfl⟩

theorem two_real : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_real]
  show (if (2 : ℝ) ≤ 0 then (⊥ : EReal) else (Real.log 2 : EReal)) = _
  rw [if_neg (by norm_num)]

/-- A real number over log 2. -/
theorem div_log_two (ρ : ℝ) : Ideal.div (ρ : EReal) ((Real.log 2 : ℝ) : EReal) = ((ρ * (1 / Real.log 2) : ℝ) : EReal) := by
  have h2 : Real.log 2 ≠ 0 := ne_of_gt (Real.log_pos (by norm_num))
  unfold Ideal.div
  rw [if_neg (by exact_mod_cast h2), ← EReal.coe_inv, ← EReal.coe_mul, one_div]

/-- The kernel scales the queries before the products, the reference the products: the same but for log 2. -/
theorem score_real (q k : Fin 96 → ℝ) (ρ : ℝ) :
    ∑ d, ((q d : EReal) * Ideal.div (ρ : EReal) ((Real.log 2 : ℝ) : EReal)) * (k d : EReal)
      = ((((∑ d, q d * k d) * ρ) * (1 / Real.log 2) : ℝ) : EReal) := by
  rw [div_log_two, Finset.sum_mul, Finset.sum_mul, Cert.Attn.coe_sum]
  refine Finset.sum_congr rfl fun d _ => ?_
  rw [← EReal.coe_mul, ← EReal.coe_mul]
  congr 1
  ring

end Cert.KernelIdeal.Attn
-- ==== Proof.RunA.lean ====
/- The first point, which computes its first scores itself: what it leaves in the output block and in the carried buffers. -/
module

public import proofs.«01_k».proof.Proof.Loads
public import proofs.«01_k».proof.Proof.Gen.KernelIdeal.Frame

@[expose] public section

set_option maxRecDepth 16384

noncomputable section

namespace Cert.KernelIdeal.Attn

open Idealize.ShloMosaic Gen

section
variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S1x4096x512 .bf16) (harg6 : arg6.IsWhole) (arg7 : Memref sig .tc .vmem S1x256x512 .bf16) (harg7 : arg7.IsWhole) (arg8 : Memref sig .tc .vmem S1x4096x512 .bf16) (harg8 : arg8.IsWhole) (arg9 : Memref sig .tc .vmem S1x256x512 .bf16) (harg9 : arg9.IsWhole) (arg10 : Memref sig .tc .vmem S1x512x256 .bf16) (harg10 : arg10.IsWhole) (arg11 : Memref sig .tc .vmem S2x512x4352 .f32) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole) (hc0 : cond0_0 i)
    (x0 : Vec Ideal S1x512x512 .bf16) (x1 : Vec Ideal S1x512x512 .bf16) (x2 : Vec Ideal S1x4096x512 .bf16) (x3 : Vec Ideal S1x256x512 .bf16) (x4 : Vec Ideal S1x4096x512 .bf16) (x5 : Vec Ideal S1x256x512 .bf16) (x6 : Vec Ideal S1x4096x512 .bf16) (x7 : Vec Ideal S1x256x512 .bf16)

variable (T : Tile) (hT : T = tile x0 x1 x2 x3 x4 x5 x6 x7 (kernelRun0_A.sl.v0 i))

include hT

theorem mbA0 : IsMb T 0 (kernelRun0_A.sl.v6 c arg2 harg2 arg4 harg4 arg5 harg5 arg12 arg13 x0 x2 x3) := by
  subst hT
  refine IsMb.ofL (w := arg13.view) ?_
  refine IsMx.nextL (w := arg12.view) (h := 0) (by decide) ?_ ?_ ?_
  rotate_left
  · exact IsQ.this (by decide) rfl rfl rfl
  · exact IsK.ctx (by decide) rfl rfl rfl
  iterate 15
    refine IsMx.nextL (w := arg12.view) (h := 0) (by decide) ?_ ?_ ?_
    rotate_left
    · exact IsQ.this (by decide) rfl rfl rfl
    · exact IsK.lat (by decide) rfl rfl rfl
  refine IsMx.firstL (w := arg12.view) ?_ ?_
  · exact IsQ.this (by decide) rfl rfl rfl
  · exact IsK.lat (by decide) rfl rfl rfl

theorem mbA1 : IsMb T 1 (kernelRun0_A.sl.v672 c arg2 harg2 arg4 harg4 arg5 harg5 arg12 arg13 x0 x2 x3) := by
  subst hT
  refine IsMb.ofL (w := arg13.view) ?_
  refine IsMx.nextL (w := arg12.view) (h := 1) (by decide) ?_ ?_ ?_
  rotate_left
  · exact IsQ.this (by decide) rfl rfl rfl
  · exact IsK.ctx (by decide) rfl rfl rfl
  iterate 15
    refine IsMx.nextL (w := arg12.view) (h := 1) (by decide) ?_ ?_ ?_
    rotate_left
    · exact IsQ.this (by decide) rfl rfl rfl
    · exact IsK.lat (by decide) rfl rfl rfl
  refine IsMx.firstL (w := arg12.view) ?_ ?_
  · exact IsQ.this (by decide) rfl rfl rfl
  · exact IsK.lat (by decide) rfl rfl rfl

theorem mbA2 : IsMb T 2 (kernelRun0_A.sl.v1356 c arg2 harg2 arg4 harg4 arg5 harg5 arg12 arg13 x0 x2 x3) := by
  subst hT
  refine IsMb.ofL (w := arg13.view) ?_
  refine IsMx.nextL (w := arg12.view) (h := 2) (by decide) ?_ ?_ ?_
  rotate_left
  · exact IsQ.this (by decide) rfl rfl rfl
  · exact IsK.ctx (by decide) rfl rfl rfl
  iterate 15
    refine IsMx.nextL (w := arg12.view) (h := 2) (by decide) ?_ ?_ ?_
    rotate_left
    · exact IsQ.this (by decide) rfl rfl rfl
    · exact IsK.lat (by decide) rfl rfl rfl
  refine IsMx.firstL (w := arg12.view) ?_ ?_
  · exact IsQ.this (by decide) rfl rfl rfl
  · exact IsK.lat (by decide) rfl rfl rfl

theorem mbA3 : IsMb T 3 (kernelRun0_A.sl.v2025 c arg2 harg2 arg4 harg4 arg5 harg5 arg12 arg13 x0 x2 x3) := by
  subst hT
  refine IsMb.ofL (w := arg13.view) ?_
  refine IsMx.nextL (w := arg12.view) (h := 3) (by decide) ?_ ?_ ?_
  rotate_left
  · exact IsQ.this (by decide) rfl rfl rfl
  · exact IsK.ctx (by decide) rfl rfl rfl
  iterate 15
    refine IsMx.nextL (w := arg12.view) (h := 3) (by decide) ?_ ?_ ?_
    rotate_left
    · exact IsQ.this (by decide) rfl rfl rfl
    · exact IsK.lat (by decide) rfl rfl rfl
  refine IsMx.firstL (w := arg12.view) ?_ ?_
  · exact IsQ.this (by decide) rfl rfl rfl
  · exact IsK.lat (by decide) rfl rfl rfl

theorem mbA4 : IsMb T 4 (arg13.view.readCov (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1
    (Rect.unit (s := S2x512x128) ![0, 0, 0] S1x512x128.size inb_S2x512x128_S1x512x128_0_0_0).toLoadRect) := by
  subst hT
  refine IsMb.ofL (w := arg13.view) ?_
  refine IsMx.nextL (w := arg12.view) (h := 4) (by decide) ?_ ?_ ?_
  rotate_left
  · exact IsQ.ahead (by decide) rfl rfl rfl
  · exact IsK.ctxAhead (by decide) rfl rfl rfl
  iterate 15
    refine IsMx.nextL (w := arg12.view) (h := 4) (by decide) ?_ ?_ ?_
    rotate_left
    · exact IsQ.ahead (by decide) rfl rfl rfl
    · exact IsK.latAhead (by decide) rfl rfl rfl
  refine IsMx.firstL (w := arg12.view) ?_ ?_
  · exact IsQ.ahead (by decide) rfl rfl rfl
  · exact IsK.latAhead (by decide) rfl rfl rfl

theorem mbA0' : IsMb T 0 (kernelRun0_A.sl.v c arg2 harg2 arg4 harg4 arg5 harg5 arg12 arg13 x0 x2 x3) :=
  IsMb.skip (w := arg13.view) (by apply mbA0 (hT := hT)) (by decide)

theorem mbA1' : IsMb T 1 (kernelRun0_A.sl.v1302 c arg2 harg2 arg4 harg4 arg5 harg5 arg12 arg13 x0 x2 x3) :=
  IsMb.skip (w := arg13.view) (by apply mbA1 (hT := hT)) (by decide)

theorem mbA2' : IsMb T 2 (kernelRun0_A.sl.v1986 c arg2 harg2 arg4 harg4 arg5 harg5 arg12 arg13 x0 x2 x3) :=
  IsMb.skip (w := arg13.view) (by apply mbA2 (hT := hT)) (by decide)

theorem mbA3' : IsMb T 3 (kernelRun0_A.sl.v2703 c i arg2 harg2 arg3 harg3 arg4 harg4 arg5 harg5 arg6 harg6 arg7 harg7 arg12 arg13 x0 x1 x2 x3 x4 x5) :=
  IsMb.skip (w := arg13.view) (by apply mbA3 (hT := hT)) (by decide)

theorem mxA5 : IsMx T 5 0 (arg12.view.readCov (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1
    (Rect.unit (s := S2x512x128) ![1, 0, 0] S1x512x128.size inb_S2x512x128_S1x512x128_1_0_0).toLoadRect) := by
  subst hT
  refine IsMx.firstL (w := arg12.view) ?_ ?_
  · exact IsQ.ahead (by decide) rfl rfl rfl
  · exact IsK.latAhead (by decide) rfl rfl rfl

theorem preA : Pre T 18 (kernelRun0_A.sl.HS0_18 c arg2 harg2 arg4 harg4 arg5 harg5 x0 x2 x3) := by
  subst hT
  iterate 18
    refine Pre.next (by decide) ?_ ?_ ?_ (by rfl) (by rfl) (by rfl)
    rotate_left
    · exact IsQ.this (by decide) rfl rfl rfl
    · first | exact IsK.lat (by decide) rfl rfl rfl | exact IsK.ctx (by decide) rfl rfl rfl
  exact ⟨fun u h => absurd h (by omega)⟩

set_option maxHeartbeats 8000000 in
theorem stA34 : St T 0 34 (kernelRun0_A.sl.HS0_52 c arg2 harg2 arg4 harg4 arg5 harg5 x0 x2 x3)
    (kernelRun0_A.sl.HS3_34 c arg2 harg2 arg4 harg4 arg5 harg5 arg8 harg8 arg9 harg9 arg11 arg12 arg13 arg14 x0 x2 x3 x6 x7) := by
  have m0 := mbA0 (hT := hT)
  have m0' := mbA0' (hT := hT)
  have m1 := mbA1 (hT := hT)
  have m1' := mbA1' (hT := hT)
  have P := preA (hT := hT)
  subst hT
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m1'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m1
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m1
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m0'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m0
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m0
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  refine Pre.st ?_
  apply P

set_option maxHeartbeats 8000000 in
theorem stA68 : St T 0 68 (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 := by
  have m2 := mbA2 (hT := hT)
  have m2' := mbA2' (hT := hT)
  have m3 := mbA3 (hT := hT)
  have m3' := mbA3' (hT := hT)
  have P := stA34 (hT := hT)
  subst hT
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m3'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m3
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m3
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m2'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m2
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m2
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  apply P

set_option maxHeartbeats 2000000 in
theorem outA (r : Fin 512) (z : Fin 256) : View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 (ix3 0 r z) = T.out (z.val / 128) r ⟨z.val % 128, by omega⟩ := by
  have P := stA34 (hT := hT)
  have P' := stA68 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 T hT
  subst hT
  refine out_eq (by rfl) (by rfl) ?_ ?_ ?_ ?_ r z
  · exact St.acc (v := arg14.view) (by apply P) 0 16 (by decide) (by decide) rfl rfl rfl
  · exact St.acc (v := arg14.view) (by apply P) 1 16 (by decide) (by decide) rfl rfl rfl
  · exact St.acc (v := arg14.view) P' 2 16 (by decide) (by decide) rfl rfl rfl
  · exact St.acc (v := arg14.view) P' 3 16 (by decide) (by decide) rfl rfl rfl

/-- What such a point leaves. -/
theorem leftA : Left T (out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) :=
  Left.of VO0_8 VS0_0 VS0_1 VS0_2 arg12.view arg13.view (by decide) (outA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 T hT) (stA68 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 T hT)
    (mxA5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 T hT) (mbA4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 T hT) rfl rfl

end

end Cert.KernelIdeal.Attn
-- ==== Proof.RunB.lean ====
/- A point that finds its first scores carried: what it leaves in the output block and in the carried buffers. -/
module

public import proofs.«01_k».proof.Proof.Loads
public import proofs.«01_k».proof.Proof.Gen.KernelIdeal.Frame

@[expose] public section

set_option maxRecDepth 16384

noncomputable section

namespace Cert.KernelIdeal.Attn

open Idealize.ShloMosaic Gen

section
variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S1x4096x512 .bf16) (harg6 : arg6.IsWhole) (arg7 : Memref sig .tc .vmem S1x256x512 .bf16) (harg7 : arg7.IsWhole) (arg8 : Memref sig .tc .vmem S1x4096x512 .bf16) (harg8 : arg8.IsWhole) (arg9 : Memref sig .tc .vmem S1x256x512 .bf16) (harg9 : arg9.IsWhole) (arg10 : Memref sig .tc .vmem S1x512x256 .bf16) (harg10 : arg10.IsWhole) (arg11 : Memref sig .tc .vmem S2x512x4352 .f32) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole) (hc0 : ¬cond0_0 i)
    (x0 : Vec Ideal S1x512x512 .bf16) (x1 : Vec Ideal S1x512x512 .bf16) (x2 : Vec Ideal S1x4096x512 .bf16) (x3 : Vec Ideal S1x256x512 .bf16) (x4 : Vec Ideal S1x4096x512 .bf16) (x5 : Vec Ideal S1x256x512 .bf16) (x6 : Vec Ideal S1x4096x512 .bf16) (x7 : Vec Ideal S1x256x512 .bf16) (xs0 : Vec Ideal S2x512x4352 .f32) (xs1 : Vec Ideal S2x512x128 .f32) (xs2 : Vec Ideal S2x512x128 .f32)

variable (T : Tile) (hT : T = tile x0 x1 x2 x3 x4 x5 x6 x7 (kernelRun0_B.sl.v0 i))
  (C : Carried T xs0 xs1 xs2)

include hT C

theorem mbB1 : IsMb T 1 (kernelRun0_B.sl.v672 c arg2 harg2 arg4 harg4 arg5 harg5 arg12 harg12 arg13 x0 x2 x3 xs1) := by
  subst hT
  refine IsMb.ofL (w := arg13.view) ?_
  refine IsMx.nextL (w := arg12.view) (h := 1) (by decide) ?_ ?_ ?_
  rotate_left
  · exact IsQ.this (by decide) rfl rfl rfl
  · exact IsK.ctx (by decide) rfl rfl rfl
  iterate 15
    refine IsMx.nextL (w := arg12.view) (h := 1) (by decide) ?_ ?_ ?_
    rotate_left
    · exact IsQ.this (by decide) rfl rfl rfl
    · exact IsK.lat (by decide) rfl rfl rfl
  exact C.mx rfl rfl rfl

omit C in
theorem mbB2 : IsMb T 2 (kernelRun0_B.sl.v1356 c arg2 harg2 arg4 harg4 arg5 harg5 arg12 harg12 arg13 x0 x2 x3 xs1) := by
  subst hT
  refine IsMb.ofL (w := arg13.view) ?_
  refine IsMx.nextL (w := arg12.view) (h := 2) (by decide) ?_ ?_ ?_
  rotate_left
  · exact IsQ.this (by decide) rfl rfl rfl
  · exact IsK.ctx (by decide) rfl rfl rfl
  iterate 15
    refine IsMx.nextL (w := arg12.view) (h := 2) (by decide) ?_ ?_ ?_
    rotate_left
    · exact IsQ.this (by decide) rfl rfl rfl
    · exact IsK.lat (by decide) rfl rfl rfl
  refine IsMx.firstL (w := arg12.view) ?_ ?_
  · exact IsQ.this (by decide) rfl rfl rfl
  · exact IsK.lat (by decide) rfl rfl rfl

omit C in
theorem mbB3 : IsMb T 3 (kernelRun0_B.sl.v2025 c arg2 harg2 arg4 harg4 arg5 harg5 arg12 harg12 arg13 x0 x2 x3 xs1) := by
  subst hT
  refine IsMb.ofL (w := arg13.view) ?_
  refine IsMx.nextL (w := arg12.view) (h := 3) (by decide) ?_ ?_ ?_
  rotate_left
  · exact IsQ.this (by decide) rfl rfl rfl
  · exact IsK.ctx (by decide) rfl rfl rfl
  iterate 15
    refine IsMx.nextL (w := arg12.view) (h := 3) (by decide) ?_ ?_ ?_
    rotate_left
    · exact IsQ.this (by decide) rfl rfl rfl
    · exact IsK.lat (by decide) rfl rfl rfl
  refine IsMx.firstL (w := arg12.view) ?_ ?_
  · exact IsQ.this (by decide) rfl rfl rfl
  · exact IsK.lat (by decide) rfl rfl rfl

theorem mbB1' : IsMb T 1 (kernelRun0_B.sl.v1302 c arg2 harg2 arg4 harg4 arg5 harg5 arg12 harg12 arg13 x0 x2 x3 xs1) :=
  IsMb.skip (w := arg13.view) (by apply mbB1 (hT := hT) (C := C)) (by decide)

omit C in
theorem mbB2' : IsMb T 2 (kernelRun0_B.sl.v1986 c arg2 harg2 arg4 harg4 arg5 harg5 arg12 harg12 arg13 x0 x2 x3 xs1) :=
  IsMb.skip (w := arg13.view) (by apply mbB2 (hT := hT)) (by decide)

omit C in
theorem mbB3' : IsMb T 3 (kernelRun0_B.sl.v2703 c i arg2 harg2 arg3 harg3 arg4 harg4 arg5 harg5 arg6 harg6 arg7 harg7 arg12 harg12 arg13 x0 x1 x2 x3 x4 x5 xs1) :=
  IsMb.skip (w := arg13.view) (by apply mbB3 (hT := hT)) (by decide)

omit C in
theorem mbB4 : IsMb T 4 (arg13.view.readCov (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).2.2.2.1
    (Rect.unit (s := S2x512x128) ![0, 0, 0] S1x512x128.size inb_S2x512x128_S1x512x128_0_0_0).toLoadRect) := by
  subst hT
  refine IsMb.ofL (w := arg13.view) ?_
  refine IsMx.nextL (w := arg12.view) (h := 4) (by decide) ?_ ?_ ?_
  rotate_left
  · exact IsQ.ahead (by decide) rfl rfl rfl
  · exact IsK.ctxAhead (by decide) rfl rfl rfl
  iterate 15
    refine IsMx.nextL (w := arg12.view) (h := 4) (by decide) ?_ ?_ ?_
    rotate_left
    · exact IsQ.ahead (by decide) rfl rfl rfl
    · exact IsK.latAhead (by decide) rfl rfl rfl
  refine IsMx.firstL (w := arg12.view) ?_ ?_
  · exact IsQ.ahead (by decide) rfl rfl rfl
  · exact IsK.latAhead (by decide) rfl rfl rfl

omit C in
theorem mxB5 : IsMx T 5 0 (arg12.view.readCov (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).2.2.1
    (Rect.unit (s := S2x512x128) ![1, 0, 0] S1x512x128.size inb_S2x512x128_S1x512x128_1_0_0).toLoadRect) := by
  subst hT
  refine IsMx.firstL (w := arg12.view) ?_ ?_
  · exact IsQ.ahead (by decide) rfl rfl rfl
  · exact IsK.latAhead (by decide) rfl rfl rfl

set_option maxHeartbeats 8000000 in
theorem st18 : St T 18 18 (kernelRun0_B.sl.HS0_18 c arg2 harg2 arg4 harg4 arg5 harg5 x0 x2 x3)
    (kernelRun0_B.sl.HS3_18 c arg2 harg2 arg4 harg4 arg5 harg5 arg8 harg8 arg9 harg9 arg11 harg11 arg12 harg12 arg13 harg13 arg14 x0 x2 x3 x6 x7 xs0 xs1 xs2) := by
  have m1 := mbB1 (hT := hT) (C := C)
  subst hT
  refine St.first (by decide) ?_ ?_ ?_ ?_ ?_ ?_ ?_ (by rfl) (by rfl) (by rfl) (by rfl) (by rfl) (by rfl)
  rotate_left
  · exact fun _ => C.lo (by decide) rfl rfl rfl
  · exact fun _ => C.hi (by decide) rfl rfl rfl
  · apply m1
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 16
    refine St.next (w := arg14.view) (by decide) ?_ ?_ ?_ ?_ ?_ ?_ ?_ (by rfl) (by rfl) (by rfl) (by rfl) (by rfl) (by rfl)
    rotate_left
    · exact fun _ => C.lo (by decide) rfl rfl rfl
    · exact fun _ => C.hi (by decide) rfl rfl rfl
    · exact C.mb rfl rfl rfl
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun _ => C.lo (by decide) rfl rfl rfl
  · exact fun _ => C.hi (by decide) rfl rfl rfl
  · exact C.mb rfl rfl rfl
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  exact ⟨fun u _ _ _ => by omega, fun h c _ _ => by omega⟩

set_option maxHeartbeats 8000000 in
theorem st34 : St T 18 34 (kernelRun0_B.sl.HS0_34 c arg2 harg2 arg4 harg4 arg5 harg5 x0 x2 x3)
    (kernelRun0_B.sl.HS3_34 c arg2 harg2 arg4 harg4 arg5 harg5 arg8 harg8 arg9 harg9 arg11 harg11 arg12 harg12 arg13 harg13 arg14 x0 x2 x3 x6 x7 xs0 xs1 xs2) := by
  have m1 := mbB1 (hT := hT) (C := C)
  have m1' := mbB1' (hT := hT) (C := C)
  have P := st18 (hT := hT) (C := C)
  subst hT
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m1'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m1
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  apply P

set_option maxHeartbeats 8000000 in
theorem st68 : St T 18 68 (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).2.1 (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).2.2.2.2.1 := by
  have m2 := mbB2 (hT := hT)
  have m2' := mbB2' (hT := hT)
  have m3 := mbB3 (hT := hT)
  have m3' := mbB3' (hT := hT)
  have P := st34 (hT := hT) (C := C)
  subst hT
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m3'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m3
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m3
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  refine St.next (w := arg14.view) (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m2'
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  iterate 15
    refine St.next (w := arg14.view) (by decide) ?_ ?_ ?_ ?_ ?_ ?_ ?_ (by rfl) (by rfl) (by rfl) (by rfl) (by rfl) (by rfl)
    rotate_left
    · exact fun P => P.loadLo (by decide) rfl rfl rfl
    · exact fun P => P.loadHi (by decide) rfl rfl rfl
    · apply m2
    · first | exact IsV.lat (by decide) rfl rfl rfl | exact IsV.ctx (by decide) rfl rfl rfl
    · first | exact IsQ.this (by decide) rfl rfl rfl | exact IsQ.ahead (by decide) rfl rfl rfl
    · first | exact IsK.lat (by decide) rfl rfl rfl | exact IsK.ctx (by decide) rfl rfl rfl | exact IsK.latAhead (by decide) rfl rfl rfl | exact IsK.ctxAhead (by decide) rfl rfl rfl
  refine St.first (by decide) ?_ ?_ ?_ ?_ ?_ ?_ ?_ (by rfl) (by rfl) (by rfl) (by rfl) (by rfl) (by rfl)
  rotate_left
  · exact fun P => P.loadLo (by decide) rfl rfl rfl
  · exact fun P => P.loadHi (by decide) rfl rfl rfl
  · apply m2
  · first | exact IsV.lat (by decide) rfl rfl rfl | exact IsV.ctx (by decide) rfl rfl rfl
  · first | exact IsQ.this (by decide) rfl rfl rfl | exact IsQ.ahead (by decide) rfl rfl rfl
  · first | exact IsK.lat (by decide) rfl rfl rfl | exact IsK.ctx (by decide) rfl rfl rfl | exact IsK.latAhead (by decide) rfl rfl rfl | exact IsK.ctxAhead (by decide) rfl rfl rfl
  apply P

set_option maxHeartbeats 2000000 in
theorem outB (r : Fin 512) (z : Fin 256) : View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).1 (ix3 0 r z) = T.out (z.val / 128) r ⟨z.val % 128, by omega⟩ := by
  have P := st34 (hT := hT) (C := C)
  have P' := st68 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 T hT C
  subst hT
  refine out_eq (by rfl) (by rfl) ?_ ?_ ?_ ?_ r z
  · exact St.acc (v := arg14.view) (by apply P) 0 16 (by decide) (by decide) rfl rfl rfl
  · exact St.acc (v := arg14.view) (by apply P) 1 16 (by decide) (by decide) rfl rfl rfl
  · exact St.acc (v := arg14.view) P' 2 16 (by decide) (by decide) rfl rfl rfl
  · exact St.acc (v := arg14.view) P' 3 16 (by decide) (by decide) rfl rfl rfl

/-- What such a point leaves. -/
theorem leftB : Left T (out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2) (sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2) (sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2) (sout0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2) :=
  Left.of VO0_8 VS0_0 VS0_1 VS0_2 arg12.view arg13.view (by decide) (outB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 T hT C) (st68 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 T hT C)
    (mxB5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 T hT) (mbB4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 T hT) rfl rfl

end

end Cert.KernelIdeal.Attn
-- ==== Proof.Sweep.lean ====
/- Every grid point leaves its tile of the result: by induction over the points, each handing its look-ahead to the next. -/
module

public import proofs.«01_k».proof.Proof.Blocks
public import proofs.«01_k».proof.Proof.RunA
public import proofs.«01_k».proof.Proof.RunB

@[expose] public section

set_option maxRecDepth 16384

noncomputable section

namespace Cert.KernelIdeal.Attn

open Idealize.ShloMosaic Gen

variable (m : (ℓ : Loc nD τ sig) → Buf (Elt Ideal) ℓ) (c : Dev nD)

/-- What a point leaves, as one statement about the fold over the points. -/
def LeftAt (t : Fin cfg0.N) : Prop :=
  Left (tileAt m c t) (outsAt0 m c t.val t.isLt).1 (outsAt0 m c t.val t.isLt).2.1 (outsAt0 m c t.val t.isLt).2.2.1 (outsAt0 m c t.val t.isLt).2.2.2

theorem flag_eq (i : grid0.Coords) : kernelRun0_A.sl.v0 i = kernelRun0_B.sl.v0 i := rfl

set_option maxHeartbeats 400000 in
/-- The first point. -/
theorem left_first (t : Fin cfg0.N) (h0 : t.val % 64 = 0) : LeftAt m c t := by
  have h : tileAt m c t = tile (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) (iblk (F := Ideal) m c 7 t) (kernelRun0_A.sl.v0 (grid0.coords t)) := by
    rw [flag_eq]; rfl
  unfold LeftAt
  rw [outsAt0_A m c t h0]
  dsimp only
  exact leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) _ _ _ _ _ _ _ _ (tileAt m c t) h

set_option maxHeartbeats 400000 in
/-- Any other point, after the point before it. -/
theorem left_next (t : Fin cfg0.N) (h0 : ¬t.val % 64 = 0)
    (C : Carried (tileAt m c t) (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) : LeftAt m c t := by
  have h : tileAt m c t = tile (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) (iblk (F := Ideal) m c 7 t) (kernelRun0_B.sl.v0 (grid0.coords t)) := rfl
  unfold LeftAt
  rw [outsAt0_B m c t h0]
  dsimp only
  exact leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) _ _ _ _ _ _ _ _ _ _ _ (tileAt m c t) h C

/-- What point `n` leaves: its result and the next point's first scores. -/
theorem left (n : ℕ) (hn : n < cfg0.N) : LeftAt m c ⟨n, hn⟩ := by
  induction n with
  | zero => exact left_first m c ⟨0, hn⟩ (Nat.zero_mod 64)
  | succ n ih =>
    have h64 : n + 1 < 64 := lt64 ⟨n + 1, hn⟩
    have H := ih (by omega)
    unfold LeftAt at H
    exact left_next m c ⟨n + 1, hn⟩ (by show ¬(n + 1) % 64 = 0; omega)
      (H.carried (fun h hh => ahead_Q m c ⟨n, by omega⟩ ⟨n + 1, hn⟩ rfl hh) (fun u hu => ahead_K m c ⟨n, by omega⟩ ⟨n + 1, hn⟩ rfl hu))

end Cert.KernelIdeal.Attn
-- ==== Proof.Array.lean ====
/- The result array after the run: every point's tile lies in it. -/
module

public import proofs.«01_k».proof.Proof.Sweep
public import Idealize.ShloMosaic.Lib.Pipeline.Value

@[expose] public section

set_option maxRecDepth 16384

noncomputable section

namespace Cert.KernelIdeal.Attn

open Idealize.ShloMosaic Gen

variable (m : (ℓ : Loc nD τ sig) → Buf (Elt Ideal) ℓ) (c : Dev nD)

theorem flush8 : ∀ t : Fin cfg0.N, (cfg0.win 8).flush t = true := (by decide +kernel : ∀ t : Fin grid0.N, win0_8.flush t = true)

theorem mem8 (t : Fin cfg0.N) (i : S8x4096x256.Idx) : i ∈ ((cfg0.win 8).blk t).view.set
    ↔ ∀ a : Fin 3, win0_8.index t a * S1x512x256.size a ≤ (i a).val ∧ (i a).val < win0_8.index t a * S1x512x256.size a + S1x512x256.size a := by
  show i ∈ ((View.whole main_v39).slice (win0_8.rect t)).set ↔ _
  rw [View.set_slice_whole, Rect.mem_set_unit]
  exact Iff.rfl

theorem covered8 (i : S8x4096x256.Idx) : ∃ t : Fin cfg0.N, (cfg0.win 8).flush t = true ∧ i ∈ ((cfg0.win 8).blk t).view.set := by
  have h0 : (i 0).val < 8 := (i 0).isLt
  have h1 : (i 1).val < 4096 := (i 1).isLt
  have h2 : (i 2).val < 256 := (i 2).isLt
  have hN : 8 * (i 0).val + (i 1).val / 512 < cfg0.N := lt_of_lt_of_eq (by omega) N_0.symm
  refine ⟨⟨8 * (i 0).val + (i 1).val / 512, hN⟩, flush8 _, ?_⟩
  rw [mem8, idx8]
  intro a
  match a with
  | ⟨0, _⟩ => show (8 * (i 0).val + (i 1).val / 512) / 8 * 1 ≤ (i 0).val ∧ (i 0).val < (8 * (i 0).val + (i 1).val / 512) / 8 * 1 + 1; omega
  | ⟨1, _⟩ => show (8 * (i 0).val + (i 1).val / 512) % 8 * 512 ≤ (i 1).val ∧ (i 1).val < (8 * (i 0).val + (i 1).val / 512) % 8 * 512 + 512; omega
  | ⟨2, _⟩ => show 0 * 256 ≤ (i 2).val ∧ (i 2).val < 0 * 256 + 256; omega

/-- The array ends at `G` when every point's tile is `G`'s. -/
theorem final (G : Vec Ideal S8x4096x256 .bf16)
    (hG : ∀ (t : Fin cfg0.N) (r : Fin 512) (z : Fin 256), (tileAt m c t).out (z.val / 128) r ⟨z.val % 128, by omega⟩
      = G (ix3 ⟨t.val / 8 % 8, by omega⟩ ⟨512 * (t.val % 8) + r.val, by omega⟩ z)) :
    (dats m 0 c).arrAt 8 cfg0.N = G := by
  refine (dats m 0 c).arrAt_eq_of_cover 8 G (fun t _ => ?_) covered8
  show (cfg0.win 8).cut (grid0.coords t) ((dats m 0 c).after 8 t) = _
  rw [after0_8]
  have H : LeftAt m c t := left m c t.val t.isLt
  unfold LeftAt at H
  have H := H.out
  generalize (outsAt0 m c t.val t.isLt).1 = y at H ⊢
  funext x
  have e := congrFun (idx8 t)
  have h := lt64 t
  have x0 : (x 0).val < 1 := (x 0).isLt
  have x1 : (x 1).val < 512 := (x 1).isLt
  have x2 : (x 2).val < 256 := (x 2).isLt
  have b0 : (((cfg0.win 8).blk t).view.emb x 0).val = win0_8.index t (0 : Fin 3) * 1 + 1 * (x 0).val := rfl
  have b1 : (((cfg0.win 8).blk t).view.emb x 1).val = win0_8.index t (1 : Fin 3) * 512 + 1 * (x 1).val := rfl
  have b2 : (((cfg0.win 8).blk t).view.emb x 2).val = win0_8.index t (2 : Fin 3) * 256 + 1 * (x 2).val := rfl
  have e0 : win0_8.index t (0 : Fin 3) = t.val / 8 := e 0
  have e1 : win0_8.index t (1 : Fin 3) = t.val % 8 := e 1
  have e2 : win0_8.index t (2 : Fin 3) = 0 := e 2
  have hl : (cfg0.win 8).xinj (grid0.coords t) x = ix3 0 ⟨(x 1).val, x1⟩ ⟨(x 2).val, x2⟩ := by
    funext a; apply Fin.ext
    match a with
    | ⟨0, _⟩ => show (x 0).val = 0; omega
    | ⟨1, _⟩ => rfl
    | ⟨2, _⟩ => rfl
  have hr : ((cfg0.win 8).blk t).view.emb x = ix3 ⟨t.val / 8 % 8, by omega⟩ ⟨512 * (t.val % 8) + (x 1).val, by omega⟩ ⟨(x 2).val, x2⟩ := by
    funext a; apply Fin.ext
    match a with
    | ⟨0, _⟩ => show (((cfg0.win 8).blk t).view.emb x 0).val = t.val / 8 % 8; omega
    | ⟨1, _⟩ => show (((cfg0.win 8).blk t).view.emb x 1).val = 512 * (t.val % 8) + (x 1).val; omega
    | ⟨2, _⟩ => show (((cfg0.win 8).blk t).view.emb x 2).val = (x 2).val; omega
  show y ((cfg0.win 8).xinj (grid0.coords t) x) = G (((cfg0.win 8).blk t).view.emb x)
  rw [hl, hr]
  exact (H _ _).trans (hG t ⟨(x 1).val, x1⟩ ⟨(x 2).val, x2⟩)

end Cert.KernelIdeal.Attn
-- ==== Proof.Result.lean ====
/- Each point's tile is the reference's: the queries, keys and values it reads, its scores, and the quotient of its sums. -/
module

public import proofs.«01_k».proof.Proof.Lanes
public import proofs.«01_k».proof.Proof.Array

@[expose] public section

set_option maxRecDepth 16384

noncomputable section

namespace Cert.KernelIdeal.Attn

open Idealize.ShloMosaic Gen
open Cert.ReferenceIdeal.Attn (row)

/-- A row of keys or values, chunk by chunk, in the reference's order. -/
theorem keyRow_place (a : Vec Ideal S1x4096x512 .bf16) (b : Vec Ideal S1x256x512 .bf16) (h : Fin 4) (xc : Fin 256 → Fin 128 → EReal)
    (xl : Fin 4096 → Fin 128 → EReal) (ha : ∀ k (l : Fin 128), a (ix3 0 k ⟨(128 * h.val + l.val) % 512, by omega⟩) = xl k l)
    (hb : ∀ k (l : Fin 128), b (ix3 0 k ⟨(128 * h.val + l.val) % 512, by omega⟩) = xc k l) (κ : Fin 17 × Fin 256) (l : Fin 128) :
    keyRow a b h.val κ.1.val κ.2 l = row xc xl (place κ) l := by
  unfold keyRow row
  by_cases hc : κ.1.val < 16
  · have hp : ¬(place κ).val < 256 := by simp only [place]; omega
    rw [if_pos hc, dif_neg hp, ha]
    exact congrArg (fun k => xl k l) (Fin.ext (by simp only [place]; omega))
  · have hp : (place κ).val < 256 := by simp only [place]; omega
    rw [if_neg hc, dif_pos hp, hb]
    exact congrArg (fun k => xc k l) (Fin.ext (by simp only [place]; omega))

variable (m : (ℓ : Loc nD τ sig) → Buf (Elt Ideal) ℓ) (c : Dev nD)

/-- The launched arrays: queries, context and latent keys, context and latent values. -/
abbrev aq : FVec Ideal S8x4x1x4096x96 .f32 := m ((c.tc : Thread nD τ).loc main_arg0)
abbrev akc : FVec Ideal S8x4x256x96 .f32 := m ((c.tc : Thread nD τ).loc main_arg1)
abbrev akl : FVec Ideal S8x4x4096x96 .f32 := m ((c.tc : Thread nD τ).loc main_arg2)
abbrev avc : FVec Ideal S8x4x256x64 .f32 := m ((c.tc : Thread nD τ).loc main_arg3)
abbrev avl : FVec Ideal S8x4x4096x64 .f32 := m ((c.tc : Thread nD τ).loc main_arg4)

/-- The key the reference places at `κ`, and the value. -/
def keyAt (b : Fin 8) (h : Fin 4) (κ : Fin 4352) (d : Fin 96) : EReal :=
  row (fun j d => akc m c (ix4 b h j d)) (fun j d => akl m c (ix4 b h j d)) κ d
def valAt (b : Fin 8) (h : Fin 4) (κ : Fin 4352) (d : Fin 64) : EReal :=
  row (fun j d => avc m c (ix4 b h j d)) (fun j d => avl m c (ix4 b h j d)) κ d

abbrev rowOf (t : Fin cfg0.N) : Fin 8 := ⟨t.val / 8 % 8, by omega⟩
abbrev queryOf (t : Fin cfg0.N) (r : Fin 512) : Fin 4096 := ⟨512 * (t.val % 8) + r.val, by omega⟩

theorem q_at (t : Fin cfg0.N) (h : Fin 4) (r : Fin 512) (l : Fin 128) : (tileAt m c t).Q h.val r l
    = lane (fun d => aq m c (ix5 (rowOf t) h 0 (queryOf t r) d) * Ideal.div (Ideal.ofBits .f32 0x3DD105EC#32) (Ideal.log (Ideal.ofBits .f32 0x40000000#32))) l := by
  have e : (tileAt m c t).Q h.val r l = lat m c (ix3 (rowOf t) (queryOf t r) ⟨128 * h.val + l.val, by omega⟩) := by
    rw [tileAt_Q m c t h.isLt]
    unfold queryRow qBlock
    refine congrArg (lat m c) (funext fun a => Fin.ext ?_)
    match a with
    | ⟨0, _⟩ => rfl
    | ⟨1, _⟩ => rfl
    | ⟨2, _⟩ => show (128 * h.val + l.val) % 512 = 128 * h.val + l.val; omega
  rw [e]
  refine ((lat_at m c (rowOf t) (queryOf t r) ⟨128 * h.val + l.val, by omega⟩).1).trans ?_
  rw [wideL_lane]
  simp only [scaledV_apply]

theorem k_at (t : Fin cfg0.N) (h : Fin 4) (κ : Fin 17 × Fin 256) (l : Fin 128) :
    (tileAt m c t).K (17 * h.val + κ.1.val) κ.2 l = lane (keyAt m c (rowOf t) h (place κ)) l := by
  rw [tileAt_K m c t (by omega), show (17 * h.val + κ.1.val) / 17 = h.val by omega, show (17 * h.val + κ.1.val) % 17 = κ.1.val by omega]
  refine (keyRow_place _ _ h (fun j => lane fun d => akc m c (ix4 (rowOf t) h j d)) (fun j => lane fun d => akl m c (ix4 (rowOf t) h j d))
    (fun k l => ?_) (fun k l => ?_) κ l).trans (lane_row _ _ _ _)
  · refine Eq.trans (congrArg (lat m c) (funext fun a => Fin.ext ?_))
      (((lat_at m c (rowOf t) k ⟨128 * h.val + l.val, by omega⟩).2.1).trans (wideL_lane _ _ _ _ _))
    match a with
    | ⟨0, _⟩ => rfl
    | ⟨1, _⟩ => rfl
    | ⟨2, _⟩ => show (512 + (128 * h.val + l.val) % 512) % 2560 = 512 + (128 * h.val + l.val); omega
  · refine Eq.trans (congrArg (ctx m c) (funext fun a => Fin.ext ?_))
      (((ctx_at m c (rowOf t) k ⟨128 * h.val + l.val, by omega⟩).1).trans (wideC_lane _ _ _ _ _))
    match a with
    | ⟨0, _⟩ => rfl
    | ⟨1, _⟩ => rfl
    | ⟨2, _⟩ => show (512 + (128 * h.val + l.val) % 512) % 2560 = 512 + (128 * h.val + l.val); omega

theorem v_at (t : Fin cfg0.N) (h : Fin 4) (κ : Fin 17 × Fin 256) (l : Fin 128) :
    (tileAt m c t).V (17 * h.val + κ.1.val) κ.2 l = padded (valAt m c (rowOf t) h (place κ)) l := by
  rw [tileAt_V m c t, show (17 * h.val + κ.1.val) / 17 = h.val by omega, show (17 * h.val + κ.1.val) % 17 = κ.1.val by omega]
  refine (keyRow_place _ _ h (fun j => padded fun d => avc m c (ix4 (rowOf t) h j d)) (fun j => padded fun d => avl m c (ix4 (rowOf t) h j d))
    (fun k l => ?_) (fun k l => ?_) κ l).trans (padded_row _ _ _ _)
  · refine Eq.trans (congrArg (lat m c) (funext fun a => Fin.ext ?_))
      (((lat_at m c (rowOf t) k ⟨128 * h.val + l.val, by omega⟩).2.2).trans (onesL_lane _ _ _ _ _))
    match a with
    | ⟨0, _⟩ => rfl
    | ⟨1, _⟩ => rfl
    | ⟨2, _⟩ => show (1024 + (128 * h.val + l.val) % 512) % 2560 = 1024 + (128 * h.val + l.val); omega
  · refine Eq.trans (congrArg (ctx m c) (funext fun a => Fin.ext ?_))
      (((ctx_at m c (rowOf t) k ⟨128 * h.val + l.val, by omega⟩).2).trans (onesC_lane _ _ _ _ _))
    match a with
    | ⟨0, _⟩ => rfl
    | ⟨1, _⟩ => rfl
    | ⟨2, _⟩ => show (1024 + (128 * h.val + l.val) % 512) % 2560 = 1024 + (128 * h.val + l.val); omega

/-- The reference's score of one query and key. -/
def scoreAt (b : Fin 8) (h : Fin 4) (r : Fin 4096) (κ : Fin 4352) : EReal :=
  (∑ d, aq m c (ix5 b h 0 r d) * keyAt m c b h κ d) * Ideal.ofBits .f32 0x3DD105EC#32

section
variable (hq : ∀ i, ∃ x : ℝ, aq m c i = (x : EReal)) (hkc : ∀ i, ∃ x : ℝ, akc m c i = (x : EReal)) (hkl : ∀ i, ∃ x : ℝ, akl m c i = (x : EReal))
include hq hkc hkl

theorem keyAt_real (b : Fin 8) (h : Fin 4) (κ : Fin 4352) (d : Fin 96) : ∃ x : ℝ, keyAt m c b h κ d = (x : EReal) := by
  unfold keyAt row
  split
  · exact hkc _
  · exact hkl _

/-- The kernel's score of a unit is the reference's over log 2, and both are real. -/
theorem sc_at (t : Fin cfg0.N) (h : Fin 4) (r : Fin 512) : ∃ s : Fin 4352 → ℝ, (∀ κ, scoreAt m c (rowOf t) h (queryOf t r) κ = (s κ : EReal))
    ∧ ∀ κ, (tileAt m c t).sc (17 * h.val + κ.1.val) r κ.2 = ((s (place κ) * (1 / Real.log 2) : ℝ) : EReal) := by
  obtain ⟨ρ, hρ⟩ := scale_real
  choose q' hq' using fun d => hq (ix5 (rowOf t) h 0 (queryOf t r) d)
  choose k' hk' using keyAt_real m c hq hkc hkl (rowOf t) h
  refine ⟨fun κ => (∑ d, q' d * k' κ d) * ρ, fun κ => ?_, fun κ => ?_⟩
  · unfold scoreAt
    simp only [hq', hk', hρ]
    rw [EReal.coe_mul, Cert.Attn.coe_sum]
    simp only [EReal.coe_mul]
  · unfold Tile.sc
    rw [show (17 * h.val + κ.1.val) / 17 = h.val by omega]
    simp only [q_at m c t h r, k_at m c t h κ]
    rw [lane_dot]
    simp only [hq', hk', hρ, log_two]
    exact score_real _ _ _

/-- One head of a point's tile: the reference's softmax mean. -/
theorem head_at (t : Fin cfg0.N) (h : Fin 4) (r : Fin 512) (l l' : Fin 128) (hl : l.val < 64) (hl' : ¬l'.val < 64) :
    Ideal.div ((tileAt m c t).ac h.val 16 r l) ((tileAt m c t).ac h.val 16 r l')
      = mean (scoreAt m c (rowOf t) h (queryOf t r)) fun κ => valAt m c (rowOf t) h κ ⟨l.val, hl⟩ := by
  obtain ⟨s, e, hs⟩ := sc_at m c hq hkc hkl t h r
  rw [show scoreAt m c (rowOf t) h (queryOf t r) = fun κ => (s κ : EReal) from funext e]
  exact Tile.head_eq _ h.val r l l' s _ hs (fun κ => (v_at m c t h κ l).trans (dif_pos hl)) (fun κ => (v_at m c t h κ l').trans (dif_neg hl'))

theorem out_at (t : Fin cfg0.N) (r : Fin 512) (z : Fin 256) : (tileAt m c t).out (z.val / 128) r ⟨z.val % 128, by omega⟩
    = mean (scoreAt m c (rowOf t) ⟨z.val / 64, by omega⟩ (queryOf t r)) fun κ => valAt m c (rowOf t) ⟨z.val / 64, by omega⟩ κ ⟨z.val % 64, by omega⟩ := by
  unfold Tile.out
  by_cases hz : z.val % 128 < 64
  · have e : 2 * (z.val / 128) = z.val / 64 := by omega
    rw [if_pos hz, e]
    refine (head_at m c hq hkc hkl t ⟨z.val / 64, by omega⟩ r _ _ hz (by dsimp only; omega)).trans ?_
    exact congrArg (mean _) (funext fun κ => congrArg (valAt m c _ _ κ) (Fin.ext (by dsimp only; omega)))
  · have e : 2 * (z.val / 128) + 1 = z.val / 64 := by omega
    rw [if_neg hz, e]
    refine (head_at m c hq hkc hkl t ⟨z.val / 64, by omega⟩ r _ _ (by dsimp only; omega) hz).trans ?_
    exact congrArg (mean _) (funext fun κ => congrArg (valAt m c _ _ κ) (Fin.ext (by dsimp only; omega)))

/-- The array after the run is the reference's result. -/
theorem final_mean : (dats m 0 c).arrAt 8 cfg0.N
    = Cert.ReferenceIdeal.Attn.meanV (Cert.ReferenceIdeal.Attn.scoreV (aq m c) (akc m c) (akl m c)) (avc m c) (avl m c) := by
  refine final m c _ fun t r z => ?_
  rw [out_at m c hq hkc hkl]
  refine Eq.trans ?_ (Cert.ReferenceIdeal.Attn.meanV_apply _ _ _ _ _ _).symm
  simp only [Cert.ReferenceIdeal.Attn.scoreV_apply]
  rfl

end

end Cert.KernelIdeal.Attn
-- ==== Proof.Finite.lean ====
/- The precondition read: every query and key is a real number. -/
module

public import proofs.«01_k».proof.Defs
public import proofs.«01_k».proof.Proof.Gen.Pre_finite
public import Idealize.ShloMosaic.Lib.ReduceAll

@[expose] public section

set_option maxRecDepth 16384

noncomputable section

namespace Cert.Pre_finite.Attn

open Idealize.ShloMosaic

theorem top_word : Ideal.ofBits .f32 0x7F800000#32 = (⊤ : EReal) := by simp [Ideal.ofBits, Ideal.ieee]

/-- A number whose magnitude lies below infinity is real. -/
theorem real_of_lt (x : EReal) (h : Ideal.cmp .olt (max x (-x)) ⊤ = 1#1) : ∃ r : ℝ, x = (r : EReal) := by
  have h : max x (-x) < ⊤ := by
    by_contra hn
    simp [Ideal.cmp, hn] at h
  induction x using EReal.rec with
  | bot => simp at h
  | top => simp at h
  | coe r => exact ⟨r, rfl⟩

instance : Subsingleton S_.Idx := ⟨fun _ _ => funext fun a => a.elim0⟩

/-- One array's part of the precondition. -/
theorem real_of_all {s : Shape} {axes : List (Fin s.rank)} (x : FVec Ideal s .f32) (hb : S_.BroadcastsInDim s ![]) (hr : s.ReducesTo axes S_) (hu : 0 < S_.numel)
    (j : S_.Idx) (h : Host.reduce IntOp.andi (cmpf .olt (Host.absf x) (broadcastInDim s ![] hb (constant S_ .f32 0x7F800000#32))) (constantI S_ 1 1#1) hr hu j = 1#1)
    (i : s.Idx) : ∃ r : ℝ, x i = (r : EReal) := by
  have e := Host.reduce_andi_all _ _ hr hu j h i
  refine real_of_lt (x i) ?_
  rw [← top_word]
  exact e

variable (q : FVec Ideal S8x4x1x4096x96 .f32) (kc : FVec Ideal S8x4x256x96 .f32) (kl : FVec Ideal S8x4x4096x96 .f32)
  (vc : FVec Ideal S8x4x256x64 .f32) (vl : FVec Ideal S8x4x4096x64 .f32)

theorem real (h : letI := Gen.facts; Cert.Pre_finite.fn (F := Ideal) q kc kl vc vl = fun _ => 1#1) :
    (∀ i, ∃ r : ℝ, q i = (r : EReal)) ∧ (∀ i, ∃ r : ℝ, kc i = (r : EReal)) ∧ (∀ i, ∃ r : ℝ, kl i = (r : EReal)) := by
  have e := congrFun h fun a => a.elim0
  obtain ⟨e1, e2⟩ := IntOp.andi_eq_one.1 e
  obtain ⟨e3, e4⟩ := IntOp.andi_eq_one.1 e1
  exact ⟨real_of_all q _ _ _ _ e3, real_of_all kc _ _ _ _ e4, real_of_all kl _ _ _ _ e2⟩

end Cert.Pre_finite.Attn
-- ==== Proof.MlpRow.lean ====
/- One token of the output projection and the MLP, over the extended reals, and the sums of its products split into blocks. -/
module

public import Idealize.ShloMosaic.PureOps.Ideal
public import Idealize.ShloMosaic.Lib.Pipeline.ValueKit

@[expose] public section

noncomputable section

namespace Cert.Mlp

open Idealize.ShloMosaic

/-- A token over the root of its mean square. -/
def rowNorm (v : Fin 1024 → EReal) (z : Fin 1024) : EReal :=
  v z * Ideal.rsqrt (Ideal.div (∑ i, v i * v i) (Ideal.ofBits .f32 0x44800000#32) + Ideal.ofBits .f32 0x358637BD#32)

/-- A token and a gated addition to it. -/
def step (x gate y : Fin 1024 → EReal) (z : Fin 1024) : EReal := x z + gate z * y z

/-- A normed token, scaled and shifted. -/
def modulated (v scale shift : Fin 1024 → EReal) (z : Fin 1024) : EReal := rowNorm v z * (1 + scale z) + shift z

/-- The square of a hidden unit's positive part. -/
def unit {n : ℕ} (h : Fin 1024 → EReal) (w1 : Fin 1024 → Fin n → EReal) (k : Fin n) : EReal :=
  max (∑ j, h j * w1 j k) 0 * max (∑ j, h j * w1 j k) 0

/-- The squared-ReLU MLP over `n` hidden units. -/
def mlp {n : ℕ} (h : Fin 1024 → EReal) (w1 : Fin 1024 → Fin n → EReal) (w2 : Fin n → Fin 1024 → EReal) (z : Fin 1024) : EReal :=
  ∑ k, unit h w1 k * w2 k z

/-- Four groups of 256 side by side. -/
def join (a b c d : Fin 256 → EReal) (k : Fin 1024) : EReal :=
  if h : k.val < 256 then a ⟨k.val, h⟩ else if h : k.val - 256 < 256 then b ⟨k.val - 256, h⟩
    else if h : k.val - 512 < 256 then c ⟨k.val - 512, h⟩ else d ⟨k.val - 768, by omega⟩

/-- The output projection of four groups. -/
def proj (a b c d : Fin 256 → EReal) (w : Fin 1024 → Fin 1024 → EReal) (z : Fin 1024) : EReal := ∑ k, join a b c d k * w k z

/-- A token's result: the gated projection of the mixers' outputs, the gated MLP, and the last norm with its gain. Of the rows of
    `mods`, 2 gates the projection, 4 and 3 scale and shift, 5 gates the MLP. -/
def token (x : Fin 1024 → EReal) (a b c d : Fin 256 → EReal) (mods : Fin 6 → Fin 1024 → EReal) (wo : Fin 1024 → Fin 1024 → EReal)
    (w1 : Fin 1024 → Fin 4096 → EReal) (w2 : Fin 4096 → Fin 1024 → EReal) (gain : Fin 1024 → EReal) (z : Fin 1024) : EReal :=
  rowNorm (step (step x (mods 2) (proj a b c d wo)) (mods 5)
    (mlp (modulated (step x (mods 2) (proj a b c d wo)) (mods 4) (mods 3)) w1 w2)) z * gain z

/-- A token's result in the layers before the last: as `token`, without the last norm. -/
def tokenC (x : Fin 1024 → EReal) (a b c d : Fin 256 → EReal) (mods : Fin 6 → Fin 1024 → EReal) (wo : Fin 1024 → Fin 1024 → EReal)
    (w1 : Fin 1024 → Fin 4096 → EReal) (w2 : Fin 4096 → Fin 1024 → EReal) (z : Fin 1024) : EReal :=
  step (step x (mods 2) (proj a b c d wo)) (mods 5) (mlp (modulated (step x (mods 2) (proj a b c d wo)) (mods 4) (mods 3)) w1 w2) z

/-- The first group of the four. -/
theorem join_a (a b c d : Fin 256 → EReal) (l : Fin 256) (h : l.val < 1024) : join a b c d ⟨l.val, h⟩ = a l := by
  unfold join
  rw [dif_pos l.isLt]
/-- The second group of the four. -/
theorem join_b (a b c d : Fin 256 → EReal) (l : Fin 256) (h : 256 + l.val < 1024) : join a b c d ⟨256 + l.val, h⟩ = b l := by
  unfold join
  rw [dif_neg (by dsimp only; omega), dif_pos (by dsimp only; omega)]
  exact congrArg b (Fin.ext (by dsimp only; omega))
/-- The third group of the four. -/
theorem join_c (a b c d : Fin 256 → EReal) (l : Fin 256) (h : 512 + l.val < 1024) : join a b c d ⟨512 + l.val, h⟩ = c l := by
  unfold join
  rw [dif_neg (by dsimp only; omega), dif_neg (by dsimp only; omega), dif_pos (by dsimp only; omega)]
  exact congrArg c (Fin.ext (by dsimp only; omega))
/-- The fourth group of the four. -/
theorem join_d (a b c d : Fin 256 → EReal) (l : Fin 256) (h : 768 + l.val < 1024) : join a b c d ⟨768 + l.val, h⟩ = d l := by
  unfold join
  rw [dif_neg (by dsimp only; omega), dif_neg (by dsimp only; omega), dif_neg (by dsimp only; omega)]
  exact congrArg d (Fin.ext (by dsimp only; omega))

/-- A sum over 1024 in four blocks of 256. -/
theorem sum_four (f : Fin 1024 → EReal) : ∑ k, f k
    = (((∑ l : Fin 256, f ⟨l.val, by omega⟩) + ∑ l : Fin 256, f ⟨256 + l.val, by omega⟩) + ∑ l : Fin 256, f ⟨512 + l.val, by omega⟩)
      + ∑ l : Fin 256, f ⟨768 + l.val, by omega⟩ := by
  rw [Fin.sum_univ_add (a := 768) (b := 256) f, Fin.sum_univ_add (a := 512) (b := 256) fun k : Fin 768 => f (Fin.castAdd 256 k),
    Fin.sum_univ_add (a := 256) (b := 256) fun k : Fin 512 => f (Fin.castAdd 256 (Fin.castAdd 256 k))]
  rfl

/-- A sum over 4096 in four blocks of 1024. -/
theorem sum_four' (f : Fin 4096 → EReal) : ∑ k, f k
    = (((∑ l : Fin 1024, f ⟨l.val, by omega⟩) + ∑ l : Fin 1024, f ⟨1024 + l.val, by omega⟩) + ∑ l : Fin 1024, f ⟨2048 + l.val, by omega⟩)
      + ∑ l : Fin 1024, f ⟨3072 + l.val, by omega⟩ := by
  rw [Fin.sum_univ_add (a := 3072) (b := 1024) f, Fin.sum_univ_add (a := 2048) (b := 1024) fun k : Fin 3072 => f (Fin.castAdd 1024 k),
    Fin.sum_univ_add (a := 1024) (b := 1024) fun k : Fin 2048 => f (Fin.castAdd 1024 (Fin.castAdd 1024 k))]
  rfl

/-- The projection group by group. -/
theorem proj_split (a b c d : Fin 256 → EReal) (w : Fin 1024 → Fin 1024 → EReal) (z : Fin 1024) : proj a b c d w z
    = (((∑ l : Fin 256, a l * w ⟨l.val, by omega⟩ z) + ∑ l : Fin 256, b l * w ⟨256 + l.val, by omega⟩ z)
      + ∑ l : Fin 256, c l * w ⟨512 + l.val, by omega⟩ z) + ∑ l : Fin 256, d l * w ⟨768 + l.val, by omega⟩ z := by
  unfold proj
  rw [sum_four]
  simp only [join_a, join_b, join_c, join_d]

/-- The MLP in four blocks of 1024 hidden units. -/
theorem mlp_split (h : Fin 1024 → EReal) (w1 : Fin 1024 → Fin 4096 → EReal) (w2 : Fin 4096 → Fin 1024 → EReal) (z : Fin 1024) :
    mlp h w1 w2 z
      = ((mlp h (fun j (k : Fin 1024) => w1 j ⟨k.val, by omega⟩) (fun k => w2 ⟨k.val, by omega⟩) z
        + mlp h (fun j (k : Fin 1024) => w1 j ⟨1024 + k.val, by omega⟩) (fun k => w2 ⟨1024 + k.val, by omega⟩) z)
        + mlp h (fun j (k : Fin 1024) => w1 j ⟨2048 + k.val, by omega⟩) (fun k => w2 ⟨2048 + k.val, by omega⟩) z)
        + mlp h (fun j (k : Fin 1024) => w1 j ⟨3072 + k.val, by omega⟩) (fun k => w2 ⟨3072 + k.val, by omega⟩) z :=
  sum_four' fun k => Cert.Mlp.unit h w1 k * w2 k z

end Cert.Mlp

end
-- ==== Proof.MlpBody.lean ====
/- The body of the output projection and MLP, read at an index: its tile's row is one token's result. -/
module

public import proofs.«01_k».proof.Proof.MlpRow
public import proofs.«01_k».proof.Proof.Gen.Kernel2Ideal.Value
public import Idealize.ShloMosaic.Lib.MatmulPlain
public import Idealize.ShloMosaic.Lib.ValueLayout

@[expose] public section

set_option maxRecDepth 16384

noncomputable section

namespace Cert.Kernel2Ideal.Mlp

open Idealize.ShloMosaic Gen Cert.Mlp

/-- A tile over the root of each row's mean square. -/
def normV (x : FVec Ideal S512x1024 .f32) : FVec Ideal S512x1024 .f32 :=
  mulf x (broadcastTo S512x1024 (rsqrt (addf (divf (shapeCast S512x1 (multiReduction .add [1] S512 (mulf x x) 0x00000000#32 reduces_S512x1024_S512 (.inl rfl) rfl)
    shapeCasts_S512_S512x1) (broadcast S512x1 (Scalar.ofBits .f32 0x44800000#32))) (broadcast S512x1 (Scalar.ofBits .f32 0x358637BD#32)))) broadcasts_S512x1_S512x1024)

/-- A product of a tile with a block of weights. -/
def prodV (u : FVec Ideal S512x1024 .bf16) (b : Vec Ideal S1x1024x1024 .bf16) : FVec Ideal S512x1024 .f32 :=
  matmul dot_S512x1024_S1024x1024_S512x1024_1_0_0_1_n_n none u
    (shapeCast S1024x1024 b shapeCasts_S1x1024x1024_S1024x1024 : FVec Ideal S1024x1024 .bf16) (constant S512x1024 .f32 0x00000000#32)

/-- A block of hidden units: the product with its columns, the squared positive part. -/
def unitV (h : FVec Ideal S512x1024 .bf16) (a : Vec Ideal S1x1024x1024 .bf16) : FVec Ideal S512x1024 .bf16 :=
  truncf .bf16 (mulf (maximumf (prodV h a) (broadcast S512x1024 (Scalar.ofBits .f32 0x00000000#32)))
    (maximumf (prodV h a) (broadcast S512x1024 (Scalar.ofBits .f32 0x00000000#32)))) bitsLt_bf16_f32

theorem normV_apply (x : FVec Ideal S512x1024 .f32) (r : Fin 512) (z : Fin 1024) : normV x (ix2 r z) = rowNorm (fun z => x (ix2 r z)) z := by
  unfold normV rowNorm
  pointwise
  done

theorem prodV_apply (u : FVec Ideal S512x1024 .bf16) (b : Vec Ideal S1x1024x1024 .bf16) (r : Fin 512) (z : Fin 1024) :
    prodV u b (ix2 r z) = ∑ k : Fin 1024, u (ix2 r k) * b (ix3 0 k z) := by
  unfold prodV
  pointwise
  done

theorem unitV_apply (h : FVec Ideal S512x1024 .bf16) (a : Vec Ideal S1x1024x1024 .bf16) (r : Fin 512) (z : Fin 1024) :
    unitV h a (ix2 r z) = Cert.Mlp.unit (fun j => h (ix2 r j)) (fun j k => a (ix3 0 j k)) z := by
  unfold unitV
  unfold Cert.Mlp.unit
  simp only [← prodV_apply]
  generalize prodV h a = p
  pointwise
  done

/-- A block's share of the MLP. -/
theorem ffV_apply (h : FVec Ideal S512x1024 .bf16) (a b : Vec Ideal S1x1024x1024 .bf16) (r : Fin 512) (z : Fin 1024) :
    prodV (unitV h a) b (ix2 r z) = mlp (fun j => h (ix2 r j)) (fun j k => a (ix3 0 j k)) (fun k z => b (ix3 0 k z)) z := by
  rw [prodV_apply]
  exact Finset.sum_congr rfl fun k _ => congrArg (· * _) (unitV_apply h a r k)

theorem pay2_apply (x : Vec Ideal S1x512x1024 .f32) (r : Fin 512) (z : Fin 1024) : k0_pay2 x (ix2 r z) = x (ix3 0 r z) := by
  pointwise [k0_pay2]

theorem pay3_apply (a : Vec Ideal S1x512x256 .bf16) (wa : Vec Ideal S1x256x1024 .bf16) (b : Vec Ideal S1x512x256 .bf16) (wb : Vec Ideal S1x256x1024 .bf16)
    (c : Vec Ideal S1x512x256 .bf16) (wc : Vec Ideal S1x256x1024 .bf16) (d : Vec Ideal S1x512x256 .bf16) (wd : Vec Ideal S1x256x1024 .bf16)
    (r : Fin 512) (z : Fin 1024) : k0_pay3 a wa b wb c wc d wd (ix2 r z)
    = (((∑ l : Fin 256, a (ix3 0 r l) * wa (ix3 0 l z)) + ∑ l : Fin 256, b (ix3 0 r l) * wb (ix3 0 l z))
      + ∑ l : Fin 256, c (ix3 0 r l) * wc (ix3 0 l z)) + ∑ l : Fin 256, d (ix3 0 r l) * wd (ix3 0 l z) := by
  pointwise [k0_pay3]
  done

theorem pay4_apply (x y : FVec Ideal S512x1024 .f32) (g : Vec Ideal S1x1x1024 .f32) (r : Fin 512) (z : Fin 1024) :
    k0_pay4 x y g (ix2 r z) = step (fun z => x (ix2 r z)) (fun z => g (ix3 0 0 z)) (fun z => y (ix2 r z)) z := by
  unfold step
  pointwise [k0_pay4]
  done

theorem pay5_apply (x y : FVec Ideal S512x1024 .f32) (g s t : Vec Ideal S1x1x1024 .f32) (r : Fin 512) (z : Fin 1024) :
    k0_pay5 x y g s t (ix2 r z)
      = modulated (fun z => k0_pay4 x y g (ix2 r z)) (fun z => s (ix3 0 0 z)) (fun z => t (ix3 0 0 z)) z := by
  change (truncf .bf16 (addf (mulf (normV (k0_pay4 x y g)) (broadcastTo S512x1024 (addf (broadcast S1x1024 (Scalar.ofBits .f32 0x3F800000#32))
    (shapeCast S1x1024 s shapeCasts_S1x1x1024_S1x1024)) broadcasts_S1x1024_S512x1024))
    (broadcastTo S512x1024 (shapeCast S1x1024 t shapeCasts_S1x1x1024_S1x1024) broadcasts_S1x1024_S512x1024)) bitsLt_bf16_f32 : FVec Ideal S512x1024 .bf16) (ix2 r z) = _
  unfold modulated
  rw [← normV_apply]
  generalize normV (k0_pay4 x y g) = p
  pointwise
  done

theorem pay6_apply (x y : FVec Ideal S512x1024 .f32) (g s t : Vec Ideal S1x1x1024 .f32) (a b : Vec Ideal S1x1024x1024 .bf16) (r : Fin 512) (z : Fin 1024) :
    k0_pay6 x y g s t a b (ix2 r z) = prodV (unitV (k0_pay5 x y g s t) a) b (ix2 r z) := by
  change (addf (broadcast S512x1024 (Scalar.ofBits .f32 0x00000000#32)) (prodV (unitV (k0_pay5 x y g s t) a) b) : FVec Ideal S512x1024 .f32) (ix2 r z) = _
  generalize prodV (unitV (k0_pay5 x y g s t) a) b = p
  pointwise
  done

theorem pay7_apply (h : FVec Ideal S512x1024 .bf16) (p : FVec Ideal S512x1024 .f32) (a b a' b' a'' b'' : Vec Ideal S1x1024x1024 .bf16) (r : Fin 512) (z : Fin 1024) :
    k0_pay7 h p a b a' b' a'' b'' (ix2 r z)
      = ((p (ix2 r z) + prodV (unitV h a) b (ix2 r z)) + prodV (unitV h a') b' (ix2 r z)) + prodV (unitV h a'') b'' (ix2 r z) := by
  change (addf (addf (addf p (prodV (unitV h a) b)) (prodV (unitV h a') b')) (prodV (unitV h a'') b'') : FVec Ideal S512x1024 .f32) (ix2 r z) = _
  rfl

theorem pay1_apply (x y : FVec Ideal S512x1024 .f32) (g : Vec Ideal S1x1x1024 .f32) (w : Vec Ideal S1x1024 .f32) (u : Fin 1) (r : Fin 512) (z : Fin 1024) :
    k0_pay1 x y g w (ix3 u r z)
      = rowNorm (step (fun z => x (ix2 r z)) (fun z => g (ix3 0 0 z)) (fun z => y (ix2 r z))) z * w (ix2 0 z) := by
  change (shapeCast S1x512x1024 (mulf (normV (k0_pay4 x y g)) (broadcastTo S512x1024 (shapeCast S1x1024 w shapeCasts_S1x1024_S1x1024) broadcasts_S1x1024_S512x1024))
    shapeCasts_S512x1024_S1x512x1024 : FVec Ideal S1x512x1024 .f32) (ix3 u r z) = _
  rw [show step (fun z => x (ix2 r z)) (fun z => g (ix3 0 0 z)) (fun z => y (ix2 r z)) = fun z => k0_pay4 x y g (ix2 r z)
    from funext fun z => (pay4_apply x y g r z).symm, ← normV_apply]
  generalize normV (k0_pay4 x y g) = p
  pointwise
  done

end Cert.Kernel2Ideal.Mlp

end
-- ==== Proof.MlpTile.lean ====
/- The tile a grid point leaves: its row is the token's result over the point's windows. -/
module

public import proofs.«01_k».proof.Proof.MlpBody

@[expose] public section

set_option maxRecDepth 16384

noncomputable section

namespace Cert.Kernel2Ideal.Mlp

open Idealize.ShloMosaic Gen Cert.Mlp

/-- A load through a unit-stride rectangle, at an index. -/
theorem ld_at {s : Shape} {e : EltTy} (x : Vec Ideal s e) (o n : Fin s.rank → ℕ) (inb : ∀ a, o a + n a ≤ s.size a)
    (i : (Rect.unit (s := s) o n inb).shape.Idx) (j : s.Idx) (h : ∀ a, o a + (i a).val = (j a).val) : View.ld x (Rect.unit (s := s) o n inb) i = x j :=
  congrArg x (funext fun a => Fin.ext ((Rect.idx_unit_val ..).trans (h a)))

/-- A tile stored whole is what was stored. -/
theorem canon_whole (v : Vec Ideal S1x512x1024 .f32) (i : S1x512x1024.Idx) :
    View.canon ([⟨r0_0, v⟩] : List (View.Piece (Elt Ideal) S1x512x1024 .f32)) i = v i := by
  refine View.canon_apply_of_pieces v _ ?_ i (cover0_10 v i)
  intro pc hpc x
  obtain rfl := List.mem_singleton.mp hpc
  refine congrArg v (funext fun a => Fin.ext ?_)
  match a with
  | ⟨0, _⟩ => exact (show (x 0).val = 0 + 1 * (x 0).val by omega)
  | ⟨1, _⟩ => exact (show (x 1).val = 0 + 1 * (x 1).val by omega)
  | ⟨2, _⟩ => exact (show (x 2).val = 0 + 1 * (x 2).val by omega)

section
variable (x0 : Vec Ideal S1x512x1024 .f32) (x1 x2 x3 x4 : Vec Ideal S1x512x256 .bf16) (x5 : Vec Ideal S1x6x1024 .f32) (x6 : Vec Ideal S1x1024x1024 .bf16)
  (x7 : Vec Ideal S1x1024x4096 .bf16) (x8 : Vec Ideal S1x4096x1024 .bf16) (x9 : Vec Ideal S1x1024 .f32)

theorem ldX (r : Fin 512) (z : Fin 1024) : View.ld x0 r0_0 (ix3 0 r z) = x0 (ix3 0 r z) :=
  ld_at x0 _ _ _ _ _ fun a => match a with | ⟨0, _⟩ => rfl | ⟨1, _⟩ => Nat.zero_add _ | ⟨2, _⟩ => Nat.zero_add _
theorem ldY (r : Fin 512) (l : Fin 256) : View.ld x1 r0_1 (ix3 0 r l) = x1 (ix3 0 r l) :=
  ld_at x1 _ _ _ _ _ fun a => match a with | ⟨0, _⟩ => rfl | ⟨1, _⟩ => Nat.zero_add _ | ⟨2, _⟩ => Nat.zero_add _
theorem ldO0 (l : Fin 256) (z : Fin 1024) : View.ld x6 r0_2 (ix3 0 l z) = x6 (ix3 0 ⟨l.val, by omega⟩ z) :=
  ld_at x6 _ _ _ _ _ fun a => match a with | ⟨0, _⟩ => rfl | ⟨1, _⟩ => Nat.zero_add _ | ⟨2, _⟩ => Nat.zero_add _
theorem ldO1 (l : Fin 256) (z : Fin 1024) : View.ld x6 r0_3 (ix3 0 l z) = x6 (ix3 0 ⟨256 + l.val, by omega⟩ z) :=
  ld_at x6 _ _ _ _ _ fun a => match a with | ⟨0, _⟩ => rfl | ⟨1, _⟩ => rfl | ⟨2, _⟩ => Nat.zero_add _
theorem ldO2 (l : Fin 256) (z : Fin 1024) : View.ld x6 r0_4 (ix3 0 l z) = x6 (ix3 0 ⟨512 + l.val, by omega⟩ z) :=
  ld_at x6 _ _ _ _ _ fun a => match a with | ⟨0, _⟩ => rfl | ⟨1, _⟩ => rfl | ⟨2, _⟩ => Nat.zero_add _
theorem ldO3 (l : Fin 256) (z : Fin 1024) : View.ld x6 r0_5 (ix3 0 l z) = x6 (ix3 0 ⟨768 + l.val, by omega⟩ z) :=
  ld_at x6 _ _ _ _ _ fun a => match a with | ⟨0, _⟩ => rfl | ⟨1, _⟩ => rfl | ⟨2, _⟩ => Nat.zero_add _
theorem ldM2 (z : Fin 1024) : View.ld x5 r0_6 (ix3 0 0 z) = x5 (ix3 0 2 z) :=
  ld_at x5 _ _ _ _ _ fun a => match a with | ⟨0, _⟩ => rfl | ⟨1, _⟩ => rfl | ⟨2, _⟩ => Nat.zero_add _
theorem ldM4 (z : Fin 1024) : View.ld x5 r0_7 (ix3 0 0 z) = x5 (ix3 0 4 z) :=
  ld_at x5 _ _ _ _ _ fun a => match a with | ⟨0, _⟩ => rfl | ⟨1, _⟩ => rfl | ⟨2, _⟩ => Nat.zero_add _
theorem ldM3 (z : Fin 1024) : View.ld x5 r0_8 (ix3 0 0 z) = x5 (ix3 0 3 z) :=
  ld_at x5 _ _ _ _ _ fun a => match a with | ⟨0, _⟩ => rfl | ⟨1, _⟩ => rfl | ⟨2, _⟩ => Nat.zero_add _
theorem ldM5 (z : Fin 1024) : View.ld x5 r0_17 (ix3 0 0 z) = x5 (ix3 0 5 z) :=
  ld_at x5 _ _ _ _ _ fun a => match a with | ⟨0, _⟩ => rfl | ⟨1, _⟩ => rfl | ⟨2, _⟩ => Nat.zero_add _
theorem ldA0 (j k : Fin 1024) : View.ld x7 r0_9 (ix3 0 j k) = x7 (ix3 0 j ⟨k.val, by omega⟩) :=
  ld_at x7 _ _ _ _ _ fun a => match a with | ⟨0, _⟩ => rfl | ⟨1, _⟩ => Nat.zero_add _ | ⟨2, _⟩ => Nat.zero_add _
theorem ldA1 (j k : Fin 1024) : View.ld x7 r0_11 (ix3 0 j k) = x7 (ix3 0 j ⟨1024 + k.val, by omega⟩) :=
  ld_at x7 _ _ _ _ _ fun a => match a with | ⟨0, _⟩ => rfl | ⟨1, _⟩ => Nat.zero_add _ | ⟨2, _⟩ => rfl
theorem ldA2 (j k : Fin 1024) : View.ld x7 r0_13 (ix3 0 j k) = x7 (ix3 0 j ⟨2048 + k.val, by omega⟩) :=
  ld_at x7 _ _ _ _ _ fun a => match a with | ⟨0, _⟩ => rfl | ⟨1, _⟩ => Nat.zero_add _ | ⟨2, _⟩ => rfl
theorem ldA3 (j k : Fin 1024) : View.ld x7 r0_15 (ix3 0 j k) = x7 (ix3 0 j ⟨3072 + k.val, by omega⟩) :=
  ld_at x7 _ _ _ _ _ fun a => match a with | ⟨0, _⟩ => rfl | ⟨1, _⟩ => Nat.zero_add _ | ⟨2, _⟩ => rfl
theorem ldB0 (k z : Fin 1024) : View.ld x8 r0_10 (ix3 0 k z) = x8 (ix3 0 ⟨k.val, by omega⟩ z) :=
  ld_at x8 _ _ _ _ _ fun a => match a with | ⟨0, _⟩ => rfl | ⟨1, _⟩ => Nat.zero_add _ | ⟨2, _⟩ => Nat.zero_add _
theorem ldB1 (k z : Fin 1024) : View.ld x8 r0_12 (ix3 0 k z) = x8 (ix3 0 ⟨1024 + k.val, by omega⟩ z) :=
  ld_at x8 _ _ _ _ _ fun a => match a with | ⟨0, _⟩ => rfl | ⟨1, _⟩ => rfl | ⟨2, _⟩ => Nat.zero_add _
theorem ldB2 (k z : Fin 1024) : View.ld x8 r0_14 (ix3 0 k z) = x8 (ix3 0 ⟨2048 + k.val, by omega⟩ z) :=
  ld_at x8 _ _ _ _ _ fun a => match a with | ⟨0, _⟩ => rfl | ⟨1, _⟩ => rfl | ⟨2, _⟩ => Nat.zero_add _
theorem ldB3 (k z : Fin 1024) : View.ld x8 r0_16 (ix3 0 k z) = x8 (ix3 0 ⟨3072 + k.val, by omega⟩ z) :=
  ld_at x8 _ _ _ _ _ fun a => match a with | ⟨0, _⟩ => rfl | ⟨1, _⟩ => rfl | ⟨2, _⟩ => Nat.zero_add _
theorem ldG (z : Fin 1024) : View.ld x9 r0_18 (ix2 0 z) = x9 (ix2 0 z) :=
  ld_at x9 _ _ _ _ _ fun a => match a with | ⟨0, _⟩ => rfl | ⟨1, _⟩ => Nat.zero_add _

/-- The residual stream after the mixers. -/
theorem mid_apply (r : Fin 512) (z : Fin 1024) :
    k0_pay4 (k0_pay8 x0 x1 x2 x3 x4 x5 x6 x7 x8 x9) (k0_pay9 x0 x1 x2 x3 x4 x5 x6 x7 x8 x9) (View.ld x5 r0_6) (ix2 r z)
      = step (fun z => x0 (ix3 0 r z)) (fun z => x5 (ix3 0 2 z)) (proj (fun l => x1 (ix3 0 r l)) (fun l => x2 (ix3 0 r l)) (fun l => x3 (ix3 0 r l))
          (fun l => x4 (ix3 0 r l)) fun k z => x6 (ix3 0 k z)) z := by
  rw [pay4_apply]
  unfold step k0_pay8 k0_pay9
  dsimp only
  rw [pay2_apply, pay3_apply, proj_split, ldX, ldM2]
  refine congrArg (x0 (ix3 0 r z) + x5 (ix3 0 2 z) * ·) (congrArg₂ (· + ·) (congrArg₂ (· + ·) (congrArg₂ (· + ·) ?_ ?_) ?_) ?_)
  · exact Finset.sum_congr rfl fun l _ => congrArg₂ (· * ·) (ldY x1 r l) (ldO0 x6 l z)
  · exact Finset.sum_congr rfl fun l _ => congrArg₂ (· * ·) (ldY x2 r l) (ldO1 x6 l z)
  · exact Finset.sum_congr rfl fun l _ => congrArg₂ (· * ·) (ldY x3 r l) (ldO2 x6 l z)
  · exact Finset.sum_congr rfl fun l _ => congrArg₂ (· * ·) (ldY x4 r l) (ldO3 x6 l z)

/-- The tile's row is the token's result. -/
theorem out_apply (u : Fin 1) (r : Fin 512) (z : Fin 1024) : out0_10 x0 x1 x2 x3 x4 x5 x6 x7 x8 x9 (ix3 u r z)
    = token (fun z => x0 (ix3 0 r z)) (fun l => x1 (ix3 0 r l)) (fun l => x2 (ix3 0 r l)) (fun l => x3 (ix3 0 r l)) (fun l => x4 (ix3 0 r l))
        (fun i z => x5 (ix3 0 i z)) (fun k z => x6 (ix3 0 k z)) (fun j k => x7 (ix3 0 j k)) (fun k z => x8 (ix3 0 k z)) (fun z => x9 (ix2 0 z)) z := by
  unfold out0_10
  have hm := mid_apply x0 x1 x2 x3 x4 x5 x6 x7 x8 x9 r
  generalize k0_pay8 x0 x1 x2 x3 x4 x5 x6 x7 x8 x9 = p at hm ⊢
  generalize k0_pay9 x0 x1 x2 x3 x4 x5 x6 x7 x8 x9 = q at hm ⊢
  refine (canon_whole _ _).trans ?_
  rw [pay1_apply]
  unfold token
  have h5 : (fun j => k0_pay5 p q (View.ld x5 r0_6) (View.ld x5 r0_7) (View.ld x5 r0_8) (ix2 r j))
      = modulated (fun z => k0_pay4 p q (View.ld x5 r0_6) (ix2 r z)) (fun z => x5 (ix3 0 4 z)) (fun z => x5 (ix3 0 3 z)) := by
    funext j
    rw [pay5_apply, funext (ldM4 x5), funext (ldM3 x5)]
  have a0 := funext fun j => funext (ldA0 x7 j)
  have a1 := funext fun j => funext (ldA1 x7 j)
  have a2 := funext fun j => funext (ldA2 x7 j)
  have a3 := funext fun j => funext (ldA3 x7 j)
  have b0 := funext fun k => funext (ldB0 x8 k)
  have b1 := funext fun k => funext (ldB1 x8 k)
  have b2 := funext fun k => funext (ldB2 x8 k)
  have b3 := funext fun k => funext (ldB3 x8 k)
  have hy : (fun z => k0_pay7 (k0_pay5 p q (View.ld x5 r0_6) (View.ld x5 r0_7) (View.ld x5 r0_8))
      (k0_pay6 p q (View.ld x5 r0_6) (View.ld x5 r0_7) (View.ld x5 r0_8) (View.ld x7 r0_9) (View.ld x8 r0_10))
      (View.ld x7 r0_11) (View.ld x8 r0_12) (View.ld x7 r0_13) (View.ld x8 r0_14) (View.ld x7 r0_15) (View.ld x8 r0_16) (ix2 r z))
      = mlp (modulated (fun z => k0_pay4 p q (View.ld x5 r0_6) (ix2 r z)) (fun z => x5 (ix3 0 4 z)) (fun z => x5 (ix3 0 3 z)))
        (fun j k => x7 (ix3 0 j k)) (fun k z => x8 (ix3 0 k z)) := by
    funext z
    rw [pay7_apply, pay6_apply, ffV_apply, ffV_apply, ffV_apply, ffV_apply, h5, a0, a1, a2, a3, b0, b1, b2, b3]
    exact (mlp_split _ (fun j k => x7 (ix3 0 j k)) (fun k z => x8 (ix3 0 k z)) z).symm
  rw [hy, funext hm, funext (ldM5 x5)]
  exact congrArg (_ * ·) (ldG x9 z)

end

end Cert.Kernel2Ideal.Mlp

end
-- ==== Proof.MlpArray.lean ====
/- The array the projection and the MLP leave, over the arrays they are given. -/
module

public import proofs.«01_k».proof.Proof.MlpTile
public import Idealize.ShloMosaic.Lib.Pipeline.Value

@[expose] public section

set_option maxRecDepth 16384

noncomputable section

namespace Cert.Kernel2Ideal.Mlp

open Idealize.ShloMosaic Gen Cert.Mlp

/-- The last layer's result, token by token, from the residual stream, the four mixers' outputs, the modulation and the weights. -/
def result (x : Vec Ideal S8x4096x1024 .f32) (a b c d : Vec Ideal S8x4096x256 .f32) (mods : Vec Ideal S8x6x1024 .f32) (wo : Vec Ideal S4x1024x1024 .f32)
    (w1 : Vec Ideal S4x1024x4096 .f32) (w2 : Vec Ideal S4x4096x1024 .f32) (gain : Vec Ideal S1024 .f32) (n : Fin 8) (r : Fin 4096) (z : Fin 1024) : EReal :=
  token (fun z => x (ix3 n r z)) (fun l => a (ix3 n r l)) (fun l => b (ix3 n r l)) (fun l => c (ix3 n r l)) (fun l => d (ix3 n r l))
    (fun i z => mods (ix3 n i z)) (fun k z => wo (ix3 3 k z)) (fun j k => w1 (ix3 3 j k)) (fun k z => w2 (ix3 3 k z)) (fun z => gain (ix1 z)) z

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, 0, 0] := (by decide +kernel : ∀ t : Fin grid0.N, _)
theorem idx6 : ∀ t : Fin cfg0.N, win0_6.index t = ![3, 0, 0] := (by decide +kernel : ∀ t : Fin grid0.N, _)
theorem idx7 : ∀ t : Fin cfg0.N, win0_7.index t = ![3, 0, 0] := (by decide +kernel : ∀ t : Fin grid0.N, _)
theorem idx8 : ∀ t : Fin cfg0.N, win0_8.index t = ![3, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val / 8, t.val % 8, 0] := (by decide +kernel : ∀ t : Fin grid0.N, _)
theorem flush10 : ∀ t : Fin cfg0.N, (cfg0.win 10).flush t = true := (by decide +kernel : ∀ t : Fin grid0.N, win0_10.flush t = true)

theorem lt64 (t : Fin cfg0.N) : t.val < 64 := lt_of_lt_of_eq t.isLt N_0

variable (m : (ℓ : Loc nD τ sig) → Buf (Elt Ideal) ℓ) (c : Dev nD)

/-- The rounded copies hold the arguments' values. -/
theorem given0 : V m c main_v0 = (m ((c.tc : Thread nD τ).loc main_arg1) : Vec Ideal S8x4096x256 .f32) := by
  show StableHlo.after (hostOps0 (F := Ideal)) (fun b => m (c, b)) (Proc.devRef .tc main_v0) = _
  simp only [hostOps0]
  after_results <;> rfl
theorem given1 : V m c main_v1 = (m ((c.tc : Thread nD τ).loc main_arg2) : Vec Ideal S8x4096x256 .f32) := by
  show StableHlo.after (hostOps0 (F := Ideal)) (fun b => m (c, b)) (Proc.devRef .tc main_v1) = _
  simp only [hostOps0]
  after_results <;> rfl
theorem given2 : V m c main_v2 = (m ((c.tc : Thread nD τ).loc main_arg3) : Vec Ideal S8x4096x256 .f32) := by
  show StableHlo.after (hostOps0 (F := Ideal)) (fun b => m (c, b)) (Proc.devRef .tc main_v2) = _
  simp only [hostOps0]
  after_results <;> rfl
theorem given3 : V m c main_v3 = (m ((c.tc : Thread nD τ).loc main_arg4) : Vec Ideal S8x4096x256 .f32) := by
  show StableHlo.after (hostOps0 (F := Ideal)) (fun b => m (c, b)) (Proc.devRef .tc main_v3) = _
  simp only [hostOps0]
  after_results <;> rfl
theorem given4 : V m c main_v4 = (m ((c.tc : Thread nD τ).loc main_arg6) : Vec Ideal S4x1024x1024 .f32) := by
  show StableHlo.after (hostOps0 (F := Ideal)) (fun b => m (c, b)) (Proc.devRef .tc main_v4) = _
  simp only [hostOps0]
  after_results <;> rfl
theorem given5 : V m c main_v5 = (m ((c.tc : Thread nD τ).loc main_arg7) : Vec Ideal S4x1024x4096 .f32) := by
  show StableHlo.after (hostOps0 (F := Ideal)) (fun b => m (c, b)) (Proc.devRef .tc main_v5) = _
  simp only [hostOps0]
  after_results <;> rfl
theorem given6 : V m c main_v6 = (m ((c.tc : Thread nD τ).loc main_arg8) : Vec Ideal S4x4096x1024 .f32) := by
  show StableHlo.after (hostOps0 (F := Ideal)) (fun b => m (c, b)) (Proc.devRef .tc main_v6) = _
  simp only [hostOps0]
  after_results <;> rfl
theorem given7 : V m c main_v7 = broadcastInDim S1x1024 ![1] bcast_S1024_S1x1024_1 (m ((c.tc : Thread nD τ).loc main_arg9) : FVec Ideal S1024 .f32) := by
  show StableHlo.after (hostOps0 (F := Ideal)) (fun b => m (c, b)) (Proc.devRef .tc main_v7) = _
  simp only [hostOps0]
  after_results <;> rfl

section
variable (t : Fin cfg0.N)

theorem blockX (r : Fin 512) (z : Fin 1024) : iblk (F := Ideal) m c 0 t (ix3 0 r z)
    = (m ((c.tc : Thread nD τ).loc main_arg0) : Vec Ideal S8x4096x1024 .f32) (ix3 ⟨t.val / 8 % 8, by omega⟩ ⟨512 * (t.val % 8) + r.val, by omega⟩ z) := by
  rw [← V_main_arg0 m c]
  refine congrArg (V m c main_arg0) (funext fun a => Fin.ext ?_)
  have e := congrFun (idx0 t)
  have h := lt64 t
  match a with
  | ⟨0, _⟩ => exact (show win0_0.index t 0 * 1 + 1 * 0 = t.val / 8 % 8 by rw [e 0]; simp; omega)
  | ⟨1, _⟩ => exact (show win0_0.index t 1 * 512 + 1 * r.val = 512 * (t.val % 8) + r.val by rw [e 1]; simp; omega)
  | ⟨2, _⟩ => exact (show win0_0.index t 2 * 1024 + 1 * z.val = z.val by rw [e 2]; simp)

theorem blockA (r : Fin 512) (l : Fin 256) : iblk (F := Ideal) m c 1 t (ix3 0 r l)
    = (m ((c.tc : Thread nD τ).loc main_arg1) : Vec Ideal S8x4096x256 .f32) (ix3 ⟨t.val / 8 % 8, by omega⟩ ⟨512 * (t.val % 8) + r.val, by omega⟩ l) := by
  rw [← given0 m c]
  refine congrArg (V m c main_v0) (funext fun a => Fin.ext ?_)
  have e := congrFun (idx1 t)
  have h := lt64 t
  match a with
  | ⟨0, _⟩ => exact (show win0_1.index t 0 * 1 + 1 * 0 = t.val / 8 % 8 by rw [e 0]; simp; omega)
  | ⟨1, _⟩ => exact (show win0_1.index t 1 * 512 + 1 * r.val = 512 * (t.val % 8) + r.val by rw [e 1]; simp; omega)
  | ⟨2, _⟩ => exact (show win0_1.index t 2 * 256 + 1 * l.val = l.val by rw [e 2]; simp)

theorem blockB (r : Fin 512) (l : Fin 256) : iblk (F := Ideal) m c 2 t (ix3 0 r l)
    = (m ((c.tc : Thread nD τ).loc main_arg2) : Vec Ideal S8x4096x256 .f32) (ix3 ⟨t.val / 8 % 8, by omega⟩ ⟨512 * (t.val % 8) + r.val, by omega⟩ l) := by
  rw [← given1 m c]
  refine congrArg (V m c main_v1) (funext fun a => Fin.ext ?_)
  have e := congrFun (idx2 t)
  have h := lt64 t
  match a with
  | ⟨0, _⟩ => exact (show win0_2.index t 0 * 1 + 1 * 0 = t.val / 8 % 8 by rw [e 0]; simp; omega)
  | ⟨1, _⟩ => exact (show win0_2.index t 1 * 512 + 1 * r.val = 512 * (t.val % 8) + r.val by rw [e 1]; simp; omega)
  | ⟨2, _⟩ => exact (show win0_2.index t 2 * 256 + 1 * l.val = l.val by rw [e 2]; simp)

theorem blockC (r : Fin 512) (l : Fin 256) : iblk (F := Ideal) m c 3 t (ix3 0 r l)
    = (m ((c.tc : Thread nD τ).loc main_arg3) : Vec Ideal S8x4096x256 .f32) (ix3 ⟨t.val / 8 % 8, by omega⟩ ⟨512 * (t.val % 8) + r.val, by omega⟩ l) := by
  rw [← given2 m c]
  refine congrArg (V m c main_v2) (funext fun a => Fin.ext ?_)
  have e := congrFun (idx3 t)
  have h := lt64 t
  match a with
  | ⟨0, _⟩ => exact (show win0_3.index t 0 * 1 + 1 * 0 = t.val / 8 % 8 by rw [e 0]; simp; omega)
  | ⟨1, _⟩ => exact (show win0_3.index t 1 * 512 + 1 * r.val = 512 * (t.val % 8) + r.val by rw [e 1]; simp; omega)
  | ⟨2, _⟩ => exact (show win0_3.index t 2 * 256 + 1 * l.val = l.val by rw [e 2]; simp)

theorem blockD (r : Fin 512) (l : Fin 256) : iblk (F := Ideal) m c 4 t (ix3 0 r l)
    = (m ((c.tc : Thread nD τ).loc main_arg4) : Vec Ideal S8x4096x256 .f32) (ix3 ⟨t.val / 8 % 8, by omega⟩ ⟨512 * (t.val % 8) + r.val, by omega⟩ l) := by
  rw [← given3 m c]
  refine congrArg (V m c main_v3) (funext fun a => Fin.ext ?_)
  have e := congrFun (idx4 t)
  have h := lt64 t
  match a with
  | ⟨0, _⟩ => exact (show win0_4.index t 0 * 1 + 1 * 0 = t.val / 8 % 8 by rw [e 0]; simp; omega)
  | ⟨1, _⟩ => exact (show win0_4.index t 1 * 512 + 1 * r.val = 512 * (t.val % 8) + r.val by rw [e 1]; simp; omega)
  | ⟨2, _⟩ => exact (show win0_4.index t 2 * 256 + 1 * l.val = l.val by rw [e 2]; simp)

theorem blockM (i : Fin 6) (z : Fin 1024) : iblk (F := Ideal) m c 5 t (ix3 0 i z)
    = (m ((c.tc : Thread nD τ).loc main_arg5) : Vec Ideal S8x6x1024 .f32) (ix3 ⟨t.val / 8 % 8, by omega⟩ i z) := by
  rw [← V_main_arg5 m c]
  refine congrArg (V m c main_arg5) (funext fun a => Fin.ext ?_)
  have e := congrFun (idx5 t)
  have h := lt64 t
  match a with
  | ⟨0, _⟩ => exact (show win0_5.index t 0 * 1 + 1 * 0 = t.val / 8 % 8 by rw [e 0]; simp; omega)
  | ⟨1, _⟩ => exact (show win0_5.index t 1 * 6 + 1 * i.val = i.val by rw [e 1]; simp)
  | ⟨2, _⟩ => exact (show win0_5.index t 2 * 1024 + 1 * z.val = z.val by rw [e 2]; simp)

theorem blockO (k z : Fin 1024) : iblk (F := Ideal) m c 6 t (ix3 0 k z)
    = (m ((c.tc : Thread nD τ).loc main_arg6) : Vec Ideal S4x1024x1024 .f32) (ix3 3 k z) := by
  rw [← given4 m c]
  refine congrArg (V m c main_v4) (funext fun a => Fin.ext ?_)
  have e := congrFun (idx6 t)
  match a with
  | ⟨0, _⟩ => exact (show win0_6.index t 0 * 1 + 1 * 0 = 3 by rw [e 0]; simp)
  | ⟨1, _⟩ => exact (show win0_6.index t 1 * 1024 + 1 * k.val = k.val by rw [e 1]; simp)
  | ⟨2, _⟩ => exact (show win0_6.index t 2 * 1024 + 1 * z.val = z.val by rw [e 2]; simp)

theorem blockP (j : Fin 1024) (k : Fin 4096) : iblk (F := Ideal) m c 7 t (ix3 0 j k)
    = (m ((c.tc : Thread nD τ).loc main_arg7) : Vec Ideal S4x1024x4096 .f32) (ix3 3 j k) := by
  rw [← given5 m c]
  refine congrArg (V m c main_v5) (funext fun a => Fin.ext ?_)
  have e := congrFun (idx7 t)
  match a with
  | ⟨0, _⟩ => exact (show win0_7.index t 0 * 1 + 1 * 0 = 3 by rw [e 0]; simp)
  | ⟨1, _⟩ => exact (show win0_7.index t 1 * 1024 + 1 * j.val = j.val by rw [e 1]; simp)
  | ⟨2, _⟩ => exact (show win0_7.index t 2 * 4096 + 1 * k.val = k.val by rw [e 2]; simp)

theorem blockQ (k : Fin 4096) (z : Fin 1024) : iblk (F := Ideal) m c 8 t (ix3 0 k z)
    = (m ((c.tc : Thread nD τ).loc main_arg8) : Vec Ideal S4x4096x1024 .f32) (ix3 3 k z) := by
  rw [← given6 m c]
  refine congrArg (V m c main_v6) (funext fun a => Fin.ext ?_)
  have e := congrFun (idx8 t)
  match a with
  | ⟨0, _⟩ => exact (show win0_8.index t 0 * 1 + 1 * 0 = 3 by rw [e 0]; simp)
  | ⟨1, _⟩ => exact (show win0_8.index t 1 * 4096 + 1 * k.val = k.val by rw [e 1]; simp)
  | ⟨2, _⟩ => exact (show win0_8.index t 2 * 1024 + 1 * z.val = z.val by rw [e 2]; simp)

theorem blockG (z : Fin 1024) : iblk (F := Ideal) m c 9 t (ix2 0 z)
    = (m ((c.tc : Thread nD τ).loc main_arg9) : Vec Ideal S1024 .f32) (ix1 z) := by
  have g : V m c main_v7 (ix2 0 z) = (m ((c.tc : Thread nD τ).loc main_arg9) : Vec Ideal S1024 .f32) (ix1 z) := by
    rw [given7 m c]
    generalize (m ((c.tc : Thread nD τ).loc main_arg9) : Vec Ideal S1024 .f32) = w
    pointwise
    done
  rw [← g]
  refine congrArg (V m c main_v7) (funext fun a => Fin.ext ?_)
  have e := congrFun (idx9 t)
  match a with
  | ⟨0, _⟩ => exact (show win0_9.index t 0 * 1 + 1 * 0 = 0 by rw [e 0]; simp)
  | ⟨1, _⟩ => exact (show win0_9.index t 1 * 1024 + 1 * z.val = z.val by rw [e 1]; simp)

end

/-- The result of the arguments as launched. -/
def resultAt (n : Fin 8) (r : Fin 4096) (z : Fin 1024) : EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) n r z

/-- A grid point's tile, element by element. -/
theorem tile_at (t : Fin cfg0.N) (r : Fin 512) (z : Fin 1024) : (dats m 0 c).after 10 t (ix3 0 r z)
    = resultAt m c ⟨t.val / 8 % 8, by omega⟩ ⟨512 * (t.val % 8) + r.val, by omega⟩ z := by
  rw [after0_10]
  refine (out_apply _ _ _ _ _ _ _ _ _ _ 0 r z).trans ?_
  unfold resultAt result
  rw [funext (blockX m c t r), funext (blockA m c t r), funext (blockB m c t r), funext (blockC m c t r), funext (blockD m c t r),
    funext fun i => funext (blockM m c t i), funext fun k => funext (blockO m c t k), funext fun j => funext (blockP m c t j),
    funext fun k => funext (blockQ m c t k), funext (blockG m c t)]

theorem mem10 (t : Fin cfg0.N) (i : S8x4096x1024.Idx) : i ∈ ((cfg0.win 10).blk t).view.set
    ↔ ∀ a : Fin 3, win0_10.index t a * S1x512x1024.size a ≤ (i a).val ∧ (i a).val < win0_10.index t a * S1x512x1024.size a + S1x512x1024.size a := by
  show i ∈ ((View.whole main_v8).slice (win0_10.rect t)).set ↔ _
  rw [View.set_slice_whole, Rect.mem_set_unit]
  exact Iff.rfl

theorem covered10 (i : S8x4096x1024.Idx) : ∃ t : Fin cfg0.N, (cfg0.win 10).flush t = true ∧ i ∈ ((cfg0.win 10).blk t).view.set := by
  have h0 : (i 0).val < 8 := (i 0).isLt
  have h1 : (i 1).val < 4096 := (i 1).isLt
  have h2 : (i 2).val < 1024 := (i 2).isLt
  have hN : 8 * (i 0).val + (i 1).val / 512 < cfg0.N := lt_of_lt_of_eq (by omega) N_0.symm
  refine ⟨⟨8 * (i 0).val + (i 1).val / 512, hN⟩, flush10 _, ?_⟩
  rw [mem10, idx10]
  intro a
  match a with
  | ⟨0, _⟩ => show (8 * (i 0).val + (i 1).val / 512) / 8 * 1 ≤ (i 0).val ∧ (i 0).val < (8 * (i 0).val + (i 1).val / 512) / 8 * 1 + 1; omega
  | ⟨1, _⟩ => show (8 * (i 0).val + (i 1).val / 512) % 8 * 512 ≤ (i 1).val ∧ (i 1).val < (8 * (i 0).val + (i 1).val / 512) % 8 * 512 + 512; omega
  | ⟨2, _⟩ => show 0 * 1024 ≤ (i 2).val ∧ (i 2).val < 0 * 1024 + 1024; omega

/-- The array after the run. -/
theorem final : (dats m 0 c).arrAt 10 cfg0.N = (fun i => resultAt m c (i 0) (i 1) (i 2) : Vec Ideal S8x4096x1024 .f32) := by
  refine (dats m 0 c).arrAt_eq_of_cover 10 (fun i => resultAt m c (i 0) (i 1) (i 2) : Vec Ideal S8x4096x1024 .f32) (fun t _ => ?_) covered10
  show (cfg0.win 10).cut (grid0.coords t) ((dats m 0 c).after 10 t) = _
  have H := tile_at m c t
  generalize (dats m 0 c).after 10 t = y at H ⊢
  funext x
  have e := congrFun (idx10 t)
  have h := lt64 t
  have x0 : (x 0).val < 1 := (x 0).isLt
  have x1 : (x 1).val < 512 := (x 1).isLt
  have x2 : (x 2).val < 1024 := (x 2).isLt
  have b0 : (((cfg0.win 10).blk t).view.emb x 0).val = win0_10.index t (0 : Fin 3) * 1 + 1 * (x 0).val := rfl
  have b1 : (((cfg0.win 10).blk t).view.emb x 1).val = win0_10.index t (1 : Fin 3) * 512 + 1 * (x 1).val := rfl
  have b2 : (((cfg0.win 10).blk t).view.emb x 2).val = win0_10.index t (2 : Fin 3) * 1024 + 1 * (x 2).val := rfl
  have e0 : win0_10.index t (0 : Fin 3) = t.val / 8 := e 0
  have e1 : win0_10.index t (1 : Fin 3) = t.val % 8 := e 1
  have e2 : win0_10.index t (2 : Fin 3) = 0 := e 2
  have hl : (cfg0.win 10).xinj (grid0.coords t) x = ix3 0 ⟨(x 1).val, x1⟩ ⟨(x 2).val, x2⟩ := by
    funext a; apply Fin.ext
    match a with
    | ⟨0, _⟩ => show (x 0).val = 0; omega
    | ⟨1, _⟩ => rfl
    | ⟨2, _⟩ => rfl
  have hr : ((cfg0.win 10).blk t).view.emb x = ix3 ⟨t.val / 8 % 8, by omega⟩ ⟨512 * (t.val % 8) + (x 1).val, by omega⟩ ⟨(x 2).val, x2⟩ := by
    funext a; apply Fin.ext
    match a with
    | ⟨0, _⟩ => show (((cfg0.win 10).blk t).view.emb x 0).val = t.val / 8 % 8; omega
    | ⟨1, _⟩ => show (((cfg0.win 10).blk t).view.emb x 1).val = 512 * (t.val % 8) + (x 1).val; omega
    | ⟨2, _⟩ => show (((cfg0.win 10).blk t).view.emb x 2).val = (x 2).val; omega
  show y ((cfg0.win 10).xinj (grid0.coords t) x) = (fun i => resultAt m c (i 0) (i 1) (i 2) : Vec Ideal S8x4096x1024 .f32) (((cfg0.win 10).blk t).view.emb x)
  rw [hl, hr]
  exact H ⟨(x 1).val, x1⟩ ⟨(x 2).val, x2⟩

end Cert.Kernel2Ideal.Mlp

end
-- ==== Proof.MlpRefer.lean ====
/- The reference's projection, MLP and last norm read at an index. -/
module

public import proofs.«01_k».proof.Proof.MlpRow
public import proofs.«01_k».proof.Proof.Gen.Reference2Ideal.Run
public import Idealize.ShloMosaic.Lib.Pipeline.ValueKit

@[expose] public section

set_option maxRecDepth 16384

noncomputable section

namespace Cert.Reference2Ideal.Mlp

open Idealize.ShloMosaic Gen Cert.Mlp

/-- A row of the modulation, for every token. -/
def rowV {o : ℕ} (h : S8x6x1024.Slices ![0, o, 0] S8x1x1024) (mods : FVec Ideal S8x6x1024 .f32) : FVec Ideal S8x1x1024 .f32 :=
  broadcastInDim S8x1x1024 ![0, 2] bcast_S8x1024_S8x1x1024_0_2 (shapeCast S8x1024 (extractStridedSlice S8x1x1024 ![0, o, 0] mods h) shapeCasts_S8x1x1024_S8x1024)

def wideV (g : FVec Ideal S8x1x1024 .f32) : FVec Ideal S8x4096x1024 .f32 :=
  broadcastInDim S8x4096x1024 ![0, 1, 2] bcast_S8x1x1024_S8x4096x1024_0_1_2 g

def stepV (x : FVec Ideal S8x4096x1024 .f32) (g : FVec Ideal S8x1x1024 .f32) (y : FVec Ideal S8x4096x1024 .f32) : FVec Ideal S8x4096x1024 .f32 :=
  addf x (mulf (wideV g) y)

def joinV (a b c d : FVec Ideal S8x4096x256 .f32) : FVec Ideal S8x4096x1024 .f32 :=
  concatenate S8x4096x1024 2 [⟨S8x4096x256, a⟩, ⟨S8x4096x256, b⟩, ⟨S8x4096x256, c⟩, ⟨S8x4096x256, d⟩] concatenates_S8x4096x256_S8x4096x256_S8x4096x256_S8x4096x256_S8x4096x1024_d2

def projV (y : FVec Ideal S8x4096x1024 .f32) (w : FVec Ideal S4x1024x1024 .f32) : FVec Ideal S8x4096x1024 .f32 :=
  Host.dotGeneral dot_S8x4096x1024_S1024x1024_S8x4096x1024_2_0_01_1_n_n none y
    (shapeCast S1024x1024 (extractStridedSlice S1x1024x1024 ![3, 0, 0] w slices_S4x1024x1024_S1x1024x1024_3_0_0) shapeCasts_S1x1024x1024_S1024x1024)

def normV (x : FVec Ideal S8x4096x1024 .f32) : FVec Ideal S8x4096x1024 .f32 :=
  mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))))

def modulatedV (x : FVec Ideal S8x4096x1024 .f32) (scale shift : FVec Ideal S8x1x1024 .f32) : FVec Ideal S8x4096x1024 .f32 :=
  addf (mulf x (wideV (addf (broadcastInDim S8x1x1024 ![] bcast_S_S8x1x1024 (constant S_ .f32 0x3F800000#32)) scale))) (wideV shift)

def hiddenV (h : FVec Ideal S8x4096x1024 .f32) (w : FVec Ideal S4x1024x4096 .f32) : FVec Ideal S8x4096x4096 .f32 :=
  maximumf (Host.dotGeneral dot_S8x4096x1024_S1024x4096_S8x4096x4096_2_0_01_1_n_n none h
    (shapeCast S1024x4096 (extractStridedSlice S1x1024x4096 ![3, 0, 0] w slices_S4x1024x4096_S1x1024x4096_3_0_0) shapeCasts_S1x1024x4096_S1024x4096))
    (broadcastInDim S8x4096x4096 ![] bcast_S_S8x4096x4096 (constant S_ .f32 0x00000000#32))

def mlpV (u : FVec Ideal S8x4096x4096 .f32) (w : FVec Ideal S4x4096x1024 .f32) : FVec Ideal S8x4096x1024 .f32 :=
  Host.dotGeneral dot_S8x4096x4096_S4096x1024_S8x4096x1024_2_0_01_1_n_n none (mulf u u)
    (shapeCast S4096x1024 (extractStridedSlice S1x4096x1024 ![3, 0, 0] w slices_S4x4096x1024_S1x4096x1024_3_0_0) shapeCasts_S1x4096x1024_S4096x1024)

def gainV (x : FVec Ideal S8x4096x1024 .f32) (w : FVec Ideal S1024 .f32) : FVec Ideal S8x4096x1024 .f32 :=
  mulf x (broadcastInDim S8x4096x1024 ![0, 1, 2] bcast_S1x1x1024_S8x4096x1024_0_1_2 (broadcastInDim S1x1x1024 ![2] bcast_S1024_S1x1x1024_2 w))

section
variable (n : Fin 8) (r : Fin 4096) (z : Fin 1024)

theorem rowV_apply {o : ℕ} (h : S8x6x1024.Slices ![0, o, 0] S8x1x1024) (mods : FVec Ideal S8x6x1024 .f32) (ho : o < 6) :
    rowV h mods (ix3 n 0 z) = mods (ix3 n ⟨o, ho⟩ z) := by
  pointwise [rowV]
  done

theorem stepV_apply (x : FVec Ideal S8x4096x1024 .f32) (g : FVec Ideal S8x1x1024 .f32) (y : FVec Ideal S8x4096x1024 .f32) :
    stepV x g y (ix3 n r z) = step (fun z => x (ix3 n r z)) (fun z => g (ix3 n 0 z)) (fun z => y (ix3 n r z)) z := by
  pointwise [stepV, wideV, step]
  done

theorem joinV_apply (a b c d : FVec Ideal S8x4096x256 .f32) :
    joinV a b c d (ix3 n r z) = join (fun l => a (ix3 n r l)) (fun l => b (ix3 n r l)) (fun l => c (ix3 n r l)) (fun l => d (ix3 n r l)) z := by
  pointwise [joinV, join]
  simp only [Nat.sub_sub, Nat.reduceAdd]

theorem projV_apply (y : FVec Ideal S8x4096x1024 .f32) (w : FVec Ideal S4x1024x1024 .f32) :
    projV y w (ix3 n r z) = ∑ k, y (ix3 n r k) * w (ix3 3 k z) := by
  pointwise [projV]
  done

theorem normV_apply (x : FVec Ideal S8x4096x1024 .f32) : normV x (ix3 n r z) = rowNorm (fun z => x (ix3 n r z)) z := by
  pointwise [normV, rowNorm]
  done

theorem modulatedV_apply (x : FVec Ideal S8x4096x1024 .f32) (scale shift : FVec Ideal S8x1x1024 .f32) :
    modulatedV x scale shift (ix3 n r z) = x (ix3 n r z) * (1 + scale (ix3 n 0 z)) + shift (ix3 n 0 z) := by
  pointwise [modulatedV, wideV]
  done

theorem hiddenV_apply (h : FVec Ideal S8x4096x1024 .f32) (w : FVec Ideal S4x1024x4096 .f32) (k : Fin 4096) :
    hiddenV h w (ix3 n r k) = max (∑ j, h (ix3 n r j) * w (ix3 3 j k)) 0 := by
  pointwise [hiddenV]
  done

theorem mlpV_apply (u : FVec Ideal S8x4096x4096 .f32) (w : FVec Ideal S4x4096x1024 .f32) :
    mlpV u w (ix3 n r z) = ∑ k, u (ix3 n r k) * u (ix3 n r k) * w (ix3 3 k z) := by
  pointwise [mlpV]
  done

theorem gainV_apply (x : FVec Ideal S8x4096x1024 .f32) (w : FVec Ideal S1024 .f32) : gainV x w (ix3 n r z) = x (ix3 n r z) * w (ix1 z) := by
  pointwise [gainV]
  done

end

/-- The residual stream after the mixers. -/
def midV (x : FVec Ideal S8x4096x1024 .f32) (a b c d : FVec Ideal S8x4096x256 .f32) (mods : FVec Ideal S8x6x1024 .f32) (wo : FVec Ideal S4x1024x1024 .f32) :
    FVec Ideal S8x4096x1024 .f32 :=
  stepV x (rowV slices_S8x6x1024_S8x1x1024_0_2_0 mods) (projV (joinV a b c d) wo)

/-- What the MLP reads. -/
def entryV (x : FVec Ideal S8x4096x1024 .f32) (mods : FVec Ideal S8x6x1024 .f32) : FVec Ideal S8x4096x1024 .f32 :=
  modulatedV (normV x) (rowV slices_S8x6x1024_S8x1x1024_0_4_0 mods) (rowV slices_S8x6x1024_S8x1x1024_0_3_0 mods)

/-- The whole of the reference after the mixers. -/
def wholeV (x : FVec Ideal S8x4096x1024 .f32) (mods : FVec Ideal S8x6x1024 .f32) (w1 : FVec Ideal S4x1024x4096 .f32) (w2 : FVec Ideal S4x4096x1024 .f32)
    (gain : FVec Ideal S1024 .f32) : FVec Ideal S8x4096x1024 .f32 :=
  gainV (normV (stepV x (rowV slices_S8x6x1024_S8x1x1024_0_5_0 mods) (mlpV (hiddenV (entryV x mods) w1) w2))) gain

theorem midV_apply (x : FVec Ideal S8x4096x1024 .f32) (a b c d : FVec Ideal S8x4096x256 .f32) (mods : FVec Ideal S8x6x1024 .f32) (wo : FVec Ideal S4x1024x1024 .f32)
    (n : Fin 8) (r : Fin 4096) (z : Fin 1024) : midV x a b c d mods wo (ix3 n r z)
      = step (fun z => x (ix3 n r z)) (fun z => mods (ix3 n 2 z)) (proj (fun l => a (ix3 n r l)) (fun l => b (ix3 n r l)) (fun l => c (ix3 n r l))
        (fun l => d (ix3 n r l)) fun k z => wo (ix3 3 k z)) z := by
  unfold midV
  rw [stepV_apply]
  unfold step proj
  simp only [projV_apply, joinV_apply]
  rw [rowV_apply n z _ mods (by omega)]
  rfl

theorem entryV_apply (x : FVec Ideal S8x4096x1024 .f32) (mods : FVec Ideal S8x6x1024 .f32) (n : Fin 8) (r : Fin 4096) (z : Fin 1024) : entryV x mods (ix3 n r z)
    = modulated (fun z => x (ix3 n r z)) (fun z => mods (ix3 n 4 z)) (fun z => mods (ix3 n 3 z)) z := by
  unfold entryV modulated
  rw [modulatedV_apply, normV_apply, rowV_apply n z _ mods (by omega), rowV_apply n z _ mods (by omega)]
  rfl

theorem wholeV_apply (x : FVec Ideal S8x4096x1024 .f32) (mods : FVec Ideal S8x6x1024 .f32) (w1 : FVec Ideal S4x1024x4096 .f32) (w2 : FVec Ideal S4x4096x1024 .f32)
    (gain : FVec Ideal S1024 .f32) (n : Fin 8) (r : Fin 4096) (z : Fin 1024) : wholeV x mods w1 w2 gain (ix3 n r z)
      = rowNorm (step (fun z => x (ix3 n r z)) (fun z => mods (ix3 n 5 z))
          (mlp (modulated (fun z => x (ix3 n r z)) (fun z => mods (ix3 n 4 z)) (fun z => mods (ix3 n 3 z))) (fun j k => w1 (ix3 3 j k)) (fun k z => w2 (ix3 3 k z)))) z
        * gain (ix1 z) := by
  unfold wholeV
  rw [gainV_apply, normV_apply]
  refine congrArg (rowNorm · z * gain (ix1 z)) (funext fun z => ?_)
  rw [stepV_apply]
  unfold step mlp Cert.Mlp.unit
  simp only [mlpV_apply, hiddenV_apply, entryV_apply]
  rw [rowV_apply n z _ mods (by omega)]
  rfl

variable (m : (ℓ : Loc nD τ sig) → Buf (Elt Ideal) ℓ) (c : Dev nD)

set_option maxHeartbeats 1000000 in
/-- The reference's result, stage by stage. -/
theorem result_eq : Cert.Reference2Ideal.Value.res_main_v64 m c
    = wholeV (midV (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) (m ((c.tc : Thread nD τ).loc main_arg5)) (m ((c.tc : Thread nD τ).loc main_arg7))
        (m ((c.tc : Thread nD τ).loc main_arg8)) (m ((c.tc : Thread nD τ).loc main_arg9)) := rfl

end Cert.Reference2Ideal.Mlp

end
-- ==== Proof.MlpResult.lean ====
/- The array the projection and the MLP leave is the reference's. -/
module

public import proofs.«01_k».proof.Proof.MlpArray
public import proofs.«01_k».proof.Proof.MlpRefer

@[expose] public section

set_option maxRecDepth 16384

noncomputable section

namespace Cert.Kernel2Ideal.Mlp

open Idealize.ShloMosaic Gen Cert.Mlp

/-- The reference's stages are the tokens' results. -/
theorem whole_result (x : Vec Ideal S8x4096x1024 .f32) (a b c d : Vec Ideal S8x4096x256 .f32) (mods : Vec Ideal S8x6x1024 .f32)
    (wo : Vec Ideal S4x1024x1024 .f32) (w1 : Vec Ideal S4x1024x4096 .f32) (w2 : Vec Ideal S4x4096x1024 .f32) (gain : Vec Ideal S1024 .f32) :
    Cert.Reference2Ideal.Mlp.wholeV (Cert.Reference2Ideal.Mlp.midV x a b c d mods wo) mods w1 w2 gain
      = (fun i => result x a b c d mods wo w1 w2 gain (i 0) (i 1) (i 2) : Vec Ideal S8x4096x1024 .f32) := by
  funext i
  obtain ⟨n, r, z, rfl⟩ : ∃ (n : Fin 8) (r : Fin 4096) (z : Fin 1024), i = ix3 n r z :=
    ⟨i 0, i 1, i 2, funext fun a => match a with | ⟨0, _⟩ => rfl | ⟨1, _⟩ => rfl | ⟨2, _⟩ => rfl⟩
  refine (Cert.Reference2Ideal.Mlp.wholeV_apply _ mods w1 w2 gain n r z).trans ?_
  rw [funext (Cert.Reference2Ideal.Mlp.midV_apply x a b c d mods wo n r)]
  rfl

end Cert.Kernel2Ideal.Mlp

end
-- ==== Proof.AdaTile.lean ====
/- The adaptive modulation: a condition's gated product with a layer's weights, and the array that the call leaves. -/
module

public import proofs.«01_k».proof.Proof.Gen.Kernel3Ideal.Value
public import Idealize.ShloMosaic.Lib.MatmulPlain
public import Idealize.ShloMosaic.Lib.ValueLayout
public import Idealize.ShloMosaic.Lib.Pipeline.Value
public import Idealize.ShloMosaic.PureOps.Ideal
public import Idealize.ShloMosaic.Lib.Pipeline.ValueKit

@[expose] public section

set_option maxRecDepth 16384

noncomputable section

namespace Cert.Kernel3Ideal.Ada

open Idealize.ShloMosaic Gen

/-- A number times its logistic. -/
def gated (x : EReal) : EReal := x * Ideal.div 1 (1 + Ideal.exp (-x))

/-- One modulation value: the gated condition against a column of weights, and a bias. -/
def entry (x w : Fin 1024 → EReal) (b : EReal) : EReal := (∑ k, gated (x k) * w k) + b

/-- The body's gate over a tile. -/
def gateV (x : Vec Ideal S16x1024 .f32) : FVec Ideal S16x1024 .bf16 :=
  truncf .bf16 (mulf x (divf (broadcast S16x1024 (Scalar.ofBits .f32 0x3F800000#32)) (addf (broadcast S16x1024 (Scalar.ofBits .f32 0x3F800000#32))
    (exp (subf (broadcast S16x1024 (Scalar.ofBits .f32 0x00000000#32)) x))))) bitsLt_bf16_f32

theorem gateV_apply (x : Vec Ideal S16x1024 .f32) (r : Fin 16) (k : Fin 1024) : gateV x (ix2 r k) = gated (x (ix2 r k)) := by
  have e : gateV x (ix2 r k) = x (ix2 r k) * Ideal.div 1 (1 + Ideal.exp (0 - x (ix2 r k))) := by
    unfold gateV
    pointwise
    done
  rw [e, zero_sub]
  rfl

theorem pay_apply (x : Vec Ideal S16x1024 .f32) (w : Vec Ideal S1x1024x1536 .f32) (b : Vec Ideal S1x1x1536 .f32) (r : Fin 16) (z : Fin 1536) :
    k0_pay1 x w b (ix3 0 r z) = entry (fun k => x (ix2 r k)) (fun k => w (ix3 0 k z)) (b (ix3 0 0 z)) := by
  have e : k0_pay1 x w b (ix3 0 r z) = (∑ k, gateV x (ix2 r k) * w (ix3 0 k z)) + b (ix3 0 0 z) := by
    change (shapeCast S1x16x1536 (addf (matmul dot_S16x1024_S1024x1536_S16x1536_1_0_0_1_n_n none (gateV x)
      (truncf .bf16 (shapeCast S1024x1536 w shapeCasts_S1x1024x1536_S1024x1536 : FVec Ideal S1024x1536 .f32) bitsLt_bf16_f32) (constant S16x1536 .f32 0x00000000#32))
      (broadcastTo S16x1536 (shapeCast S1x1536 b shapeCasts_S1x1x1536_S1x1536) broadcasts_S1x1536_S16x1536)) shapeCasts_S16x1536_S1x16x1536 : FVec Ideal S1x16x1536 .f32) (ix3 0 r z) = _
    generalize gateV x = g
    pointwise
    done
  rw [e]
  unfold entry
  simp only [gateV_apply]

theorem wholeC (x : Vec Ideal S16x1024 .f32) : View.ld x r0_0 = x :=
  funext fun i => congrArg x (funext fun a => Fin.ext (match a with
    | ⟨0, _⟩ => (show 0 + 1 * (i 0).val = (i 0).val by omega) | ⟨1, _⟩ => (show 0 + 1 * (i 1).val = (i 1).val by omega)))
theorem wholeW (x : Vec Ideal S1x1024x1536 .f32) : View.ld x r0_1 = x :=
  funext fun i => congrArg x (funext fun a => Fin.ext (match a with
    | ⟨0, _⟩ => (show 0 + 1 * (i 0).val = (i 0).val by omega) | ⟨1, _⟩ => (show 0 + 1 * (i 1).val = (i 1).val by omega)
    | ⟨2, _⟩ => (show 0 + 1 * (i 2).val = (i 2).val by omega)))
theorem wholeB (x : Vec Ideal S1x1x1536 .f32) : View.ld x r0_2 = x :=
  funext fun i => congrArg x (funext fun a => Fin.ext (match a with
    | ⟨0, _⟩ => (show 0 + 1 * (i 0).val = (i 0).val by omega) | ⟨1, _⟩ => (show 0 + 1 * (i 1).val = (i 1).val by omega)
    | ⟨2, _⟩ => (show 0 + 1 * (i 2).val = (i 2).val by omega)))

/-- A tile stored whole is what was stored. -/
theorem canon_whole (v : Vec Ideal S1x16x1536 .f32) (i : S1x16x1536.Idx) :
    View.canon ([⟨r0_3, v⟩] : List (View.Piece (Elt Ideal) S1x16x1536 .f32)) i = v i := by
  refine View.canon_apply_of_pieces v _ ?_ i (cover0_3 v i)
  intro pc hpc x
  obtain rfl := List.mem_singleton.mp hpc
  refine congrArg v (funext fun a => Fin.ext ?_)
  match a with
  | ⟨0, _⟩ => exact (show (x 0).val = 0 + 1 * (x 0).val by omega)
  | ⟨1, _⟩ => exact (show (x 1).val = 0 + 1 * (x 1).val by omega)
  | ⟨2, _⟩ => exact (show (x 2).val = 0 + 1 * (x 2).val by omega)

theorem idx0 : ∀ t : Fin cfg0.N, win0_0.index t = ![0, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val / 4, 0, t.val % 4] := (by decide +kernel : ∀ t : Fin grid0.N, _)
theorem idx3 : ∀ t : Fin cfg0.N, win0_3.index t = ![t.val / 4, 0, t.val % 4] := (by decide +kernel : ∀ t : Fin grid0.N, _)
theorem flush3 : ∀ t : Fin cfg0.N, (cfg0.win 3).flush t = true := (by decide +kernel : ∀ t : Fin grid0.N, win0_3.flush t = true)

theorem lt16 (t : Fin cfg0.N) : t.val < 16 := lt_of_lt_of_eq t.isLt N_0

variable (m : (ℓ : Loc nD τ sig) → Buf (Elt Ideal) ℓ) (c : Dev nD)

/-- A reshape that adds a middle axis of one. -/
theorem reshaped_apply (w : FVec Ideal S4x6144 .f32) (l : Fin 4) (y : Fin 6144) :
    (shapeCast S4x1x6144 w shapeCasts_S4x6144_S4x1x6144 : FVec Ideal S4x1x6144 .f32) (ix3 l 0 y) = w (ix2 l y) := by
  pointwise
  done

/-- The bias as the host reshapes it. -/
theorem given0 : V m c main_v0 = shapeCast S4x1x6144 (m ((c.tc : Thread nD τ).loc main_arg2) : FVec Ideal S4x6144 .f32) shapeCasts_S4x6144_S4x1x6144 := by
  show StableHlo.after (hostOps0 (F := Ideal)) (fun b => m (c, b)) (Proc.devRef .tc main_v0) = _
  simp only [hostOps0]
  after_results <;> rfl

section
variable (t : Fin cfg0.N)

theorem blockC (r : Fin 16) (k : Fin 1024) : iblk (F := Ideal) m c 0 t (ix2 r k)
    = (m ((c.tc : Thread nD τ).loc main_arg0) : Vec Ideal S16x1024 .f32) (ix2 r k) := by
  rw [← V_main_arg0 m c]
  refine congrArg (V m c main_arg0) (funext fun a => Fin.ext ?_)
  have e := congrFun (idx0 t)
  match a with
  | ⟨0, _⟩ => exact (show win0_0.index t 0 * 16 + 1 * r.val = r.val by rw [e 0]; simp)
  | ⟨1, _⟩ => exact (show win0_0.index t 1 * 1024 + 1 * k.val = k.val by rw [e 1]; simp)

theorem blockW (k : Fin 1024) (z : Fin 1536) : iblk (F := Ideal) m c 1 t (ix3 0 k z)
    = (m ((c.tc : Thread nD τ).loc main_arg1) : Vec Ideal S4x1024x6144 .f32) (ix3 ⟨t.val / 4 % 4, by omega⟩ k ⟨1536 * (t.val % 4) + z.val, by omega⟩) := by
  rw [← V_main_arg1 m c]
  refine congrArg (V m c main_arg1) (funext fun a => Fin.ext ?_)
  have e := congrFun (idx1 t)
  have h := lt16 t
  match a with
  | ⟨0, _⟩ => exact (show win0_1.index t 0 * 1 + 1 * 0 = t.val / 4 % 4 by rw [e 0]; simp; omega)
  | ⟨1, _⟩ => exact (show win0_1.index t 1 * 1024 + 1 * k.val = k.val by rw [e 1]; simp)
  | ⟨2, _⟩ => exact (show win0_1.index t 2 * 1536 + 1 * z.val = 1536 * (t.val % 4) + z.val by rw [e 2]; simp; omega)

theorem blockB (z : Fin 1536) : iblk (F := Ideal) m c 2 t (ix3 0 0 z)
    = (m ((c.tc : Thread nD τ).loc main_arg2) : Vec Ideal S4x6144 .f32) (ix2 ⟨t.val / 4 % 4, by omega⟩ ⟨1536 * (t.val % 4) + z.val, by omega⟩) := by
  have g (l : Fin 4) (y : Fin 6144) : V m c main_v0 (ix3 l 0 y) = (m ((c.tc : Thread nD τ).loc main_arg2) : Vec Ideal S4x6144 .f32) (ix2 l y) := by
    rw [given0 m c]
    exact reshaped_apply _ l y
  rw [← g]
  refine congrArg (V m c main_v0) (funext fun a => Fin.ext ?_)
  have e := congrFun (idx2 t)
  have h := lt16 t
  match a with
  | ⟨0, _⟩ => exact (show win0_2.index t 0 * 1 + 1 * 0 = t.val / 4 % 4 by rw [e 0]; simp; omega)
  | ⟨1, _⟩ => exact (show win0_2.index t 1 * 1 + 1 * 0 = 0 by rw [e 1]; simp)
  | ⟨2, _⟩ => exact (show win0_2.index t 2 * 1536 + 1 * z.val = 1536 * (t.val % 4) + z.val by rw [e 2]; simp; omega)

end

/-- The modulation of every layer and row, from the conditions, the weights and the biases. -/
def result (x : Vec Ideal S16x1024 .f32) (w : Vec Ideal S4x1024x6144 .f32) (b : Vec Ideal S4x6144 .f32) (l : Fin 4) (r : Fin 16) (z : Fin 6144) : EReal :=
  entry (fun k => x (ix2 r k)) (fun k => w (ix3 l k z)) (b (ix2 l z))

/-- The result of the arguments as launched. -/
def resultAt (l : Fin 4) (r : Fin 16) (z : Fin 6144) : EReal :=
  result (m ((c.tc : Thread nD τ).loc main_arg0)) (m ((c.tc : Thread nD τ).loc main_arg1)) (m ((c.tc : Thread nD τ).loc main_arg2)) l r z

/-- A grid point's tile, element by element. -/
theorem tile_at (t : Fin cfg0.N) (r : Fin 16) (z : Fin 1536) : (dats m 0 c).after 3 t (ix3 0 r z)
    = resultAt m c ⟨t.val / 4 % 4, by omega⟩ r ⟨1536 * (t.val % 4) + z.val, by omega⟩ := by
  rw [after0_3]
  unfold out0_3
  refine (canon_whole _ _).trans ?_
  rw [wholeC, wholeW, wholeB]
  refine (pay_apply _ _ _ r z).trans ?_
  unfold resultAt result
  rw [funext (blockC m c t r), funext fun k => blockW m c t k z, blockB m c t z]

theorem mem3 (t : Fin cfg0.N) (i : S4x16x6144.Idx) : i ∈ ((cfg0.win 3).blk t).view.set
    ↔ ∀ a : Fin 3, win0_3.index t a * S1x16x1536.size a ≤ (i a).val ∧ (i a).val < win0_3.index t a * S1x16x1536.size a + S1x16x1536.size a := by
  show i ∈ ((View.whole main_v1).slice (win0_3.rect t)).set ↔ _
  rw [View.set_slice_whole, Rect.mem_set_unit]
  exact Iff.rfl

theorem covered3 (i : S4x16x6144.Idx) : ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 6144 := (i 2).isLt
  have hN : 4 * (i 0).val + (i 2).val / 1536 < cfg0.N := lt_of_lt_of_eq (by omega) N_0.symm
  refine ⟨⟨4 * (i 0).val + (i 2).val / 1536, hN⟩, flush3 _, ?_⟩
  rw [mem3, idx3]
  intro a
  match a with
  | ⟨0, _⟩ => show (4 * (i 0).val + (i 2).val / 1536) / 4 * 1 ≤ (i 0).val ∧ (i 0).val < (4 * (i 0).val + (i 2).val / 1536) / 4 * 1 + 1; omega
  | ⟨1, _⟩ => show 0 * 16 ≤ (i 1).val ∧ (i 1).val < 0 * 16 + 16; omega
  | ⟨2, _⟩ => show (4 * (i 0).val + (i 2).val / 1536) % 4 * 1536 ≤ (i 2).val ∧ (i 2).val < (4 * (i 0).val + (i 2).val / 1536) % 4 * 1536 + 1536; omega

/-- The array after the run. -/
theorem final : (dats m 0 c).arrAt 3 cfg0.N = (fun i => resultAt m c (i 0) (i 1) (i 2) : Vec Ideal S4x16x6144 .f32) := by
  refine (dats m 0 c).arrAt_eq_of_cover 3 (fun i => resultAt m c (i 0) (i 1) (i 2) : Vec Ideal S4x16x6144 .f32) (fun t _ => ?_) covered3
  show (cfg0.win 3).cut (grid0.coords t) ((dats m 0 c).after 3 t) = _
  have H := tile_at m c t
  generalize (dats m 0 c).after 3 t = y at H ⊢
  funext x
  have e := congrFun (idx3 t)
  have h := lt16 t
  have x0 : (x 0).val < 1 := (x 0).isLt
  have x1 : (x 1).val < 16 := (x 1).isLt
  have x2 : (x 2).val < 1536 := (x 2).isLt
  have b0 : (((cfg0.win 3).blk t).view.emb x 0).val = win0_3.index t (0 : Fin 3) * 1 + 1 * (x 0).val := rfl
  have b1 : (((cfg0.win 3).blk t).view.emb x 1).val = win0_3.index t (1 : Fin 3) * 16 + 1 * (x 1).val := rfl
  have b2 : (((cfg0.win 3).blk t).view.emb x 2).val = win0_3.index t (2 : Fin 3) * 1536 + 1 * (x 2).val := rfl
  have e0 : win0_3.index t (0 : Fin 3) = t.val / 4 := e 0
  have e1 : win0_3.index t (1 : Fin 3) = 0 := e 1
  have e2 : win0_3.index t (2 : Fin 3) = t.val % 4 := e 2
  have hl : (cfg0.win 3).xinj (grid0.coords t) x = ix3 0 ⟨(x 1).val, x1⟩ ⟨(x 2).val, x2⟩ := by
    funext a; apply Fin.ext
    match a with
    | ⟨0, _⟩ => show (x 0).val = 0; omega
    | ⟨1, _⟩ => rfl
    | ⟨2, _⟩ => rfl
  have hr : ((cfg0.win 3).blk t).view.emb x = ix3 ⟨t.val / 4 % 4, by omega⟩ ⟨(x 1).val, x1⟩ ⟨1536 * (t.val % 4) + (x 2).val, by omega⟩ := by
    funext a; apply Fin.ext
    match a with
    | ⟨0, _⟩ => show (((cfg0.win 3).blk t).view.emb x 0).val = t.val / 4 % 4; omega
    | ⟨1, _⟩ => show (((cfg0.win 3).blk t).view.emb x 1).val = (x 1).val; omega
    | ⟨2, _⟩ => show (((cfg0.win 3).blk t).view.emb x 2).val = 1536 * (t.val % 4) + (x 2).val; omega
  show y ((cfg0.win 3).xinj (grid0.coords t) x) = (fun i => resultAt m c (i 0) (i 1) (i 2) : Vec Ideal S4x16x6144 .f32) (((cfg0.win 3).blk t).view.emb x)
  rw [hl, hr]
  exact H ⟨(x 1).val, x1⟩ ⟨(x 2).val, x2⟩

end Cert.Kernel3Ideal.Ada

end
-- ==== Proof.AdaRefer.lean ====
/- The reference's modulation read at an index, and its equality with the array that the call leaves. -/
module

public import proofs.«01_k».proof.Proof.AdaTile
public import proofs.«01_k».proof.Proof.Gen.Reference3Ideal.Run

@[expose] public section

set_option maxRecDepth 16384

noncomputable section

namespace Cert.Reference3Ideal.Ada

open Idealize.ShloMosaic Gen Cert.Kernel3Ideal.Ada

def gateV (x : FVec Ideal S16x1024 .f32) : FVec Ideal S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- One layer's modulation. -/
def layerV {o : ℕ} (hw : S4x1024x6144.Slices ![o, 0, 0] S1x1024x6144) (hb : S4x6144.Slices ![o, 0] S1x6144) (x : FVec Ideal S16x1024 .f32)
    (w : FVec Ideal S4x1024x6144 .f32) (b : FVec Ideal S4x6144 .f32) : FVec Ideal S1x16x6144 .f32 :=
  broadcastInDim S1x16x6144 ![1, 2] bcast_S16x6144_S1x16x6144_1_2 (addf (Host.dotGeneral dot_S16x1024_S1024x6144_S16x6144_1_0_0_1_n_n none (gateV x)
    (shapeCast S1024x6144 (extractStridedSlice S1x1024x6144 ![o, 0, 0] w hw) shapeCasts_S1x1024x6144_S1024x6144))
    (broadcastInDim S16x6144 ![0, 1] bcast_S1x6144_S16x6144_0_1 (broadcastInDim S1x6144 ![1] bcast_S6144_S1x6144_1
      (shapeCast S6144 (extractStridedSlice S1x6144 ![o, 0] b hb) shapeCasts_S1x6144_S6144))))

/-- The layers' modulations, one after another. -/
def stackV (p q s t : FVec Ideal S1x16x6144 .f32) : FVec Ideal S4x16x6144 .f32 :=
  concatenate S4x16x6144 0 [⟨S1x16x6144, p⟩, ⟨S1x16x6144, q⟩, ⟨S1x16x6144, s⟩, ⟨S1x16x6144, t⟩]
    concatenates_S1x16x6144_S1x16x6144_S1x16x6144_S1x16x6144_S4x16x6144_d0

theorem gateV_apply (x : FVec Ideal S16x1024 .f32) (r : Fin 16) (k : Fin 1024) : gateV x (ix2 r k) = gated (x (ix2 r k)) := by
  pointwise [gateV, gated]
  done

theorem layerV_apply {o : ℕ} (hw : S4x1024x6144.Slices ![o, 0, 0] S1x1024x6144) (hb : S4x6144.Slices ![o, 0] S1x6144) (x : FVec Ideal S16x1024 .f32)
    (w : FVec Ideal S4x1024x6144 .f32) (b : FVec Ideal S4x6144 .f32) (ho : o < 4) (r : Fin 16) (z : Fin 6144) :
    layerV hw hb x w b (ix3 0 r z) = result x w b ⟨o, ho⟩ r z := by
  have e : layerV hw hb x w b (ix3 0 r z) = (∑ k, gateV x (ix2 r k) * w (ix3 ⟨o, ho⟩ k z)) + b (ix2 ⟨o, ho⟩ z) := by
    unfold layerV
    generalize gateV x = g
    pointwise
    done
  rw [e]
  unfold result entry
  simp only [gateV_apply]

theorem stackV_apply (p q s t : FVec Ideal S1x16x6144 .f32) (l : Fin 4) (r : Fin 16) (z : Fin 6144) :
    stackV p q s t (ix3 l r z) = (match l with | 0 => p | 1 => q | 2 => s | 3 => t) (ix3 0 r z) := by
  unfold stackV
  fin_cases l <;> pointwise

/-- The whole reference. -/
def wholeV (x : FVec Ideal S16x1024 .f32) (w : FVec Ideal S4x1024x6144 .f32) (b : FVec Ideal S4x6144 .f32) : FVec Ideal S4x16x6144 .f32 :=
  stackV (layerV slices_S4x1024x6144_S1x1024x6144_0_0_0 slices_S4x6144_S1x6144_0_0 x w b)
    (layerV slices_S4x1024x6144_S1x1024x6144_1_0_0 slices_S4x6144_S1x6144_1_0 x w b)
    (layerV slices_S4x1024x6144_S1x1024x6144_2_0_0 slices_S4x6144_S1x6144_2_0 x w b)
    (layerV slices_S4x1024x6144_S1x1024x6144_3_0_0 slices_S4x6144_S1x6144_3_0 x w b)

theorem wholeV_result (x : FVec Ideal S16x1024 .f32) (w : FVec Ideal S4x1024x6144 .f32) (b : FVec Ideal S4x6144 .f32) :
    wholeV x w b = fun i => result x w b (i 0) (i 1) (i 2) := by
  funext i
  obtain ⟨l, r, z, rfl⟩ : ∃ (l : Fin 4) (r : Fin 16) (z : Fin 6144), i = ix3 l r z :=
    ⟨i 0, i 1, i 2, funext fun a => match a with | ⟨0, _⟩ => rfl | ⟨1, _⟩ => rfl | ⟨2, _⟩ => rfl⟩
  refine (stackV_apply _ _ _ _ l r z).trans ?_
  match l with
  | 0 => exact layerV_apply _ _ x w b (by omega) r z
  | 1 => exact layerV_apply _ _ x w b (by omega) r z
  | 2 => exact layerV_apply _ _ x w b (by omega) r z
  | 3 => exact layerV_apply _ _ x w b (by omega) r z

end Cert.Reference3Ideal.Ada

end
-- ==== Proof.CtxBody.lean ====
/- The body of the context's output projection and MLP, read at an index. -/
module

public import proofs.«01_k».proof.Proof.MlpRow
public import proofs.«01_k».proof.Proof.Gen.Kernel4Ideal.Value
public import Idealize.ShloMosaic.Lib.MatmulPlain
public import Idealize.ShloMosaic.Lib.ValueLayout

@[expose] public section

set_option maxRecDepth 16384

noncomputable section

namespace Cert.Kernel4Ideal.Ctx

open Idealize.ShloMosaic Gen Cert.Mlp

/-- A tile over the root of each row's mean square. -/
def normV (x : FVec Ideal S256x1024 .f32) : FVec Ideal S256x1024 .f32 :=
  mulf x (broadcastTo S256x1024 (rsqrt (addf (divf (shapeCast S256x1 (multiReduction .add [1] S256 (mulf x x) 0x00000000#32 reduces_S256x1024_S256 (.inl rfl) rfl)
    shapeCasts_S256_S256x1) (broadcast S256x1 (Scalar.ofBits .f32 0x44800000#32))) (broadcast S256x1 (Scalar.ofBits .f32 0x358637BD#32)))) broadcasts_S256x1_S256x1024)

/-- A product of a tile with a block of weights. -/
def prodV (u : FVec Ideal S256x1024 .bf16) (b : Vec Ideal S1x1024x1024 .bf16) : FVec Ideal S256x1024 .f32 :=
  matmul dot_S256x1024_S1024x1024_S256x1024_1_0_0_1_n_n none u
    (shapeCast S1024x1024 b shapeCasts_S1x1024x1024_S1024x1024 : FVec Ideal S1024x1024 .bf16) (constant S256x1024 .f32 0x00000000#32)

/-- A block of hidden units: the product with its columns, the squared positive part. -/
def unitV (h : FVec Ideal S256x1024 .bf16) (a : Vec Ideal S1x1024x1024 .bf16) : FVec Ideal S256x1024 .bf16 :=
  truncf .bf16 (mulf (maximumf (prodV h a) (broadcast S256x1024 (Scalar.ofBits .f32 0x00000000#32)))
    (maximumf (prodV h a) (broadcast S256x1024 (Scalar.ofBits .f32 0x00000000#32)))) bitsLt_bf16_f32

theorem normV_apply (x : FVec Ideal S256x1024 .f32) (r : Fin 256) (z : Fin 1024) : normV x (ix2 r z) = rowNorm (fun z => x (ix2 r z)) z := by
  unfold normV rowNorm
  pointwise
  done

theorem prodV_apply (u : FVec Ideal S256x1024 .bf16) (b : Vec Ideal S1x1024x1024 .bf16) (r : Fin 256) (z : Fin 1024) :
    prodV u b (ix2 r z) = ∑ k : Fin 1024, u (ix2 r k) * b (ix3 0 k z) := by
  unfold prodV
  pointwise
  done

theorem unitV_apply (h : FVec Ideal S256x1024 .bf16) (a : Vec Ideal S1x1024x1024 .bf16) (r : Fin 256) (z : Fin 1024) :
    unitV h a (ix2 r z) = Cert.Mlp.unit (fun j => h (ix2 r j)) (fun j k => a (ix3 0 j k)) z := by
  unfold unitV
  unfold Cert.Mlp.unit
  simp only [← prodV_apply]
  generalize prodV h a = p
  pointwise
  done

/-- A block's share of the MLP. -/
theorem ffV_apply (h : FVec Ideal S256x1024 .bf16) (a b : Vec Ideal S1x1024x1024 .bf16) (r : Fin 256) (z : Fin 1024) :
    prodV (unitV h a) b (ix2 r z) = mlp (fun j => h (ix2 r j)) (fun j k => a (ix3 0 j k)) (fun k z => b (ix3 0 k z)) z := by
  rw [prodV_apply]
  exact Finset.sum_congr rfl fun k _ => congrArg (· * _) (unitV_apply h a r k)

theorem pay2_apply (x : Vec Ideal S1x256x1024 .f32) (r : Fin 256) (z : Fin 1024) : k0_pay2 x (ix2 r z) = x (ix3 0 r z) := by
  pointwise [k0_pay2]

theorem pay3_apply (a : Vec Ideal S1x256x256 .bf16) (wa : Vec Ideal S1x256x1024 .bf16) (b : Vec Ideal S1x256x256 .bf16) (wb : Vec Ideal S1x256x1024 .bf16)
    (c : Vec Ideal S1x256x256 .bf16) (wc : Vec Ideal S1x256x1024 .bf16) (d : Vec Ideal S1x256x256 .bf16) (wd : Vec Ideal S1x256x1024 .bf16)
    (r : Fin 256) (z : Fin 1024) : k0_pay3 a wa b wb c wc d wd (ix2 r z)
    = (((∑ l : Fin 256, a (ix3 0 r l) * wa (ix3 0 l z)) + ∑ l : Fin 256, b (ix3 0 r l) * wb (ix3 0 l z))
      + ∑ l : Fin 256, c (ix3 0 r l) * wc (ix3 0 l z)) + ∑ l : Fin 256, d (ix3 0 r l) * wd (ix3 0 l z) := by
  pointwise [k0_pay3]
  done

theorem pay4_apply (x y : FVec Ideal S256x1024 .f32) (g : Vec Ideal S1x1x1024 .f32) (r : Fin 256) (z : Fin 1024) :
    k0_pay4 x y g (ix2 r z) = step (fun z => x (ix2 r z)) (fun z => g (ix3 0 0 z)) (fun z => y (ix2 r z)) z := by
  unfold step
  pointwise [k0_pay4]
  done

theorem pay5_apply (x y : FVec Ideal S256x1024 .f32) (g s t : Vec Ideal S1x1x1024 .f32) (r : Fin 256) (z : Fin 1024) :
    k0_pay5 x y g s t (ix2 r z)
      = modulated (fun z => k0_pay4 x y g (ix2 r z)) (fun z => s (ix3 0 0 z)) (fun z => t (ix3 0 0 z)) z := by
  change (truncf .bf16 (addf (mulf (normV (k0_pay4 x y g)) (broadcastTo S256x1024 (addf (broadcast S1x1024 (Scalar.ofBits .f32 0x3F800000#32))
    (shapeCast S1x1024 s shapeCasts_S1x1x1024_S1x1024)) broadcasts_S1x1024_S256x1024))
    (broadcastTo S256x1024 (shapeCast S1x1024 t shapeCasts_S1x1x1024_S1x1024) broadcasts_S1x1024_S256x1024)) bitsLt_bf16_f32 : FVec Ideal S256x1024 .bf16) (ix2 r z) = _
  unfold modulated
  rw [← normV_apply]
  generalize normV (k0_pay4 x y g) = p
  pointwise
  done

theorem pay6_apply (x y : FVec Ideal S256x1024 .f32) (g s t : Vec Ideal S1x1x1024 .f32) (a b : Vec Ideal S1x1024x1024 .bf16) (r : Fin 256) (z : Fin 1024) :
    k0_pay6 x y g s t a b (ix2 r z) = prodV (unitV (k0_pay5 x y g s t) a) b (ix2 r z) := by
  change (addf (broadcast S256x1024 (Scalar.ofBits .f32 0x00000000#32)) (prodV (unitV (k0_pay5 x y g s t) a) b) : FVec Ideal S256x1024 .f32) (ix2 r z) = _
  generalize prodV (unitV (k0_pay5 x y g s t) a) b = p
  pointwise
  done

theorem pay7_apply (h : FVec Ideal S256x1024 .bf16) (p : FVec Ideal S256x1024 .f32) (a b a' b' a'' b'' : Vec Ideal S1x1024x1024 .bf16) (r : Fin 256) (z : Fin 1024) :
    k0_pay7 h p a b a' b' a'' b'' (ix2 r z)
      = ((p (ix2 r z) + prodV (unitV h a) b (ix2 r z)) + prodV (unitV h a') b' (ix2 r z)) + prodV (unitV h a'') b'' (ix2 r z) := by
  change (addf (addf (addf p (prodV (unitV h a) b)) (prodV (unitV h a') b')) (prodV (unitV h a'') b'') : FVec Ideal S256x1024 .f32) (ix2 r z) = _
  rfl

theorem pay1_apply (x y : FVec Ideal S256x1024 .f32) (g : Vec Ideal S1x1x1024 .f32) (u : Fin 1) (r : Fin 256) (z : Fin 1024) :
    k0_pay1 x y g (ix3 u r z) = step (fun z => x (ix2 r z)) (fun z => g (ix3 0 0 z)) (fun z => y (ix2 r z)) z := by
  unfold step
  pointwise [k0_pay1]
  done

end Cert.Kernel4Ideal.Ctx

end
-- ==== Proof.CtxTile.lean ====
/- The tile a grid point of the context's projection and MLP leaves: its row is the token's result over the point's windows. -/
module

public import proofs.«01_k».proof.Proof.CtxBody

@[expose] public section

set_option maxRecDepth 16384

noncomputable section

namespace Cert.Kernel4Ideal.Ctx

open Idealize.ShloMosaic Gen Cert.Mlp

/-- A load through a unit-stride rectangle, at an index. -/
theorem ld_at {s : Shape} {e : EltTy} (x : Vec Ideal s e) (o n : Fin s.rank → ℕ) (inb : ∀ a, o a + n a ≤ s.size a)
    (i : (Rect.unit (s := s) o n inb).shape.Idx) (j : s.Idx) (h : ∀ a, o a + (i a).val = (j a).val) : View.ld x (Rect.unit (s := s) o n inb) i = x j :=
  congrArg x (funext fun a => Fin.ext ((Rect.idx_unit_val ..).trans (h a)))

/-- A tile stored whole is what was stored. -/
theorem canon_whole (v : Vec Ideal S1x256x1024 .f32) (i : S1x256x1024.Idx) :
    View.canon ([⟨r0_0, v⟩] : List (View.Piece (Elt Ideal) S1x256x1024 .f32)) i = v i := by
  refine View.canon_apply_of_pieces v _ ?_ i (cover0_9 v i)
  intro pc hpc x
  obtain rfl := List.mem_singleton.mp hpc
  refine congrArg v (funext fun a => Fin.ext ?_)
  match a with
  | ⟨0, _⟩ => exact (show (x 0).val = 0 + 1 * (x 0).val by omega)
  | ⟨1, _⟩ => exact (show (x 1).val = 0 + 1 * (x 1).val by omega)
  | ⟨2, _⟩ => exact (show (x 2).val = 0 + 1 * (x 2).val by omega)

section
variable (x0 : Vec Ideal S1x256x1024 .f32) (x1 x2 x3 x4 : Vec Ideal S1x256x256 .bf16) (x5 : Vec Ideal S1x6x1024 .f32) (x6 : Vec Ideal S1x1024x1024 .bf16)
  (x7 : Vec Ideal S1x1024x4096 .bf16) (x8 : Vec Ideal S1x4096x1024 .bf16)

theorem ldX (r : Fin 256) (z : Fin 1024) : View.ld x0 r0_0 (ix3 0 r z) = x0 (ix3 0 r z) :=
  ld_at x0 _ _ _ _ _ fun a => match a with | ⟨0, _⟩ => rfl | ⟨1, _⟩ => Nat.zero_add _ | ⟨2, _⟩ => Nat.zero_add _
theorem ldY (r : Fin 256) (l : Fin 256) : View.ld x1 r0_1 (ix3 0 r l) = x1 (ix3 0 r l) :=
  ld_at x1 _ _ _ _ _ fun a => match a with | ⟨0, _⟩ => rfl | ⟨1, _⟩ => Nat.zero_add _ | ⟨2, _⟩ => Nat.zero_add _
theorem ldO0 (l : Fin 256) (z : Fin 1024) : View.ld x6 r0_2 (ix3 0 l z) = x6 (ix3 0 ⟨l.val, by omega⟩ z) :=
  ld_at x6 _ _ _ _ _ fun a => match a with | ⟨0, _⟩ => rfl | ⟨1, _⟩ => Nat.zero_add _ | ⟨2, _⟩ => Nat.zero_add _
theorem ldO1 (l : Fin 256) (z : Fin 1024) : View.ld x6 r0_3 (ix3 0 l z) = x6 (ix3 0 ⟨256 + l.val, by omega⟩ z) :=
  ld_at x6 _ _ _ _ _ fun a => match a with | ⟨0, _⟩ => rfl | ⟨1, _⟩ => rfl | ⟨2, _⟩ => Nat.zero_add _
theorem ldO2 (l : Fin 256) (z : Fin 1024) : View.ld x6 r0_4 (ix3 0 l z) = x6 (ix3 0 ⟨512 + l.val, by omega⟩ z) :=
  ld_at x6 _ _ _ _ _ fun a => match a with | ⟨0, _⟩ => rfl | ⟨1, _⟩ => rfl | ⟨2, _⟩ => Nat.zero_add _
theorem ldO3 (l : Fin 256) (z : Fin 1024) : View.ld x6 r0_5 (ix3 0 l z) = x6 (ix3 0 ⟨768 + l.val, by omega⟩ z) :=
  ld_at x6 _ _ _ _ _ fun a => match a with | ⟨0, _⟩ => rfl | ⟨1, _⟩ => rfl | ⟨2, _⟩ => Nat.zero_add _
theorem ldM2 (z : Fin 1024) : View.ld x5 r0_6 (ix3 0 0 z) = x5 (ix3 0 2 z) :=
  ld_at x5 _ _ _ _ _ fun a => match a with | ⟨0, _⟩ => rfl | ⟨1, _⟩ => rfl | ⟨2, _⟩ => Nat.zero_add _
theorem ldM4 (z : Fin 1024) : View.ld x5 r0_7 (ix3 0 0 z) = x5 (ix3 0 4 z) :=
  ld_at x5 _ _ _ _ _ fun a => match a with | ⟨0, _⟩ => rfl | ⟨1, _⟩ => rfl | ⟨2, _⟩ => Nat.zero_add _
theorem ldM3 (z : Fin 1024) : View.ld x5 r0_8 (ix3 0 0 z) = x5 (ix3 0 3 z) :=
  ld_at x5 _ _ _ _ _ fun a => match a with | ⟨0, _⟩ => rfl | ⟨1, _⟩ => rfl | ⟨2, _⟩ => Nat.zero_add _
theorem ldM5 (z : Fin 1024) : View.ld x5 r0_17 (ix3 0 0 z) = x5 (ix3 0 5 z) :=
  ld_at x5 _ _ _ _ _ fun a => match a with | ⟨0, _⟩ => rfl | ⟨1, _⟩ => rfl | ⟨2, _⟩ => Nat.zero_add _
theorem ldA0 (j k : Fin 1024) : View.ld x7 r0_9 (ix3 0 j k) = x7 (ix3 0 j ⟨k.val, by omega⟩) :=
  ld_at x7 _ _ _ _ _ fun a => match a with | ⟨0, _⟩ => rfl | ⟨1, _⟩ => Nat.zero_add _ | ⟨2, _⟩ => Nat.zero_add _
theorem ldA1 (j k : Fin 1024) : View.ld x7 r0_11 (ix3 0 j k) = x7 (ix3 0 j ⟨1024 + k.val, by omega⟩) :=
  ld_at x7 _ _ _ _ _ fun a => match a with | ⟨0, _⟩ => rfl | ⟨1, _⟩ => Nat.zero_add _ | ⟨2, _⟩ => rfl
theorem ldA2 (j k : Fin 1024) : View.ld x7 r0_13 (ix3 0 j k) = x7 (ix3 0 j ⟨2048 + k.val, by omega⟩) :=
  ld_at x7 _ _ _ _ _ fun a => match a with | ⟨0, _⟩ => rfl | ⟨1, _⟩ => Nat.zero_add _ | ⟨2, _⟩ => rfl
theorem ldA3 (j k : Fin 1024) : View.ld x7 r0_15 (ix3 0 j k) = x7 (ix3 0 j ⟨3072 + k.val, by omega⟩) :=
  ld_at x7 _ _ _ _ _ fun a => match a with | ⟨0, _⟩ => rfl | ⟨1, _⟩ => Nat.zero_add _ | ⟨2, _⟩ => rfl
theorem ldB0 (k z : Fin 1024) : View.ld x8 r0_10 (ix3 0 k z) = x8 (ix3 0 ⟨k.val, by omega⟩ z) :=
  ld_at x8 _ _ _ _ _ fun a => match a with | ⟨0, _⟩ => rfl | ⟨1, _⟩ => Nat.zero_add _ | ⟨2, _⟩ => Nat.zero_add _
theorem ldB1 (k z : Fin 1024) : View.ld x8 r0_12 (ix3 0 k z) = x8 (ix3 0 ⟨1024 + k.val, by omega⟩ z) :=
  ld_at x8 _ _ _ _ _ fun a => match a with | ⟨0, _⟩ => rfl | ⟨1, _⟩ => rfl | ⟨2, _⟩ => Nat.zero_add _
theorem ldB2 (k z : Fin 1024) : View.ld x8 r0_14 (ix3 0 k z) = x8 (ix3 0 ⟨2048 + k.val, by omega⟩ z) :=
  ld_at x8 _ _ _ _ _ fun a => match a with | ⟨0, _⟩ => rfl | ⟨1, _⟩ => rfl | ⟨2, _⟩ => Nat.zero_add _
theorem ldB3 (k z : Fin 1024) : View.ld x8 r0_16 (ix3 0 k z) = x8 (ix3 0 ⟨3072 + k.val, by omega⟩ z) :=
  ld_at x8 _ _ _ _ _ fun a => match a with | ⟨0, _⟩ => rfl | ⟨1, _⟩ => rfl | ⟨2, _⟩ => Nat.zero_add _

/-- The residual stream after the mixers. -/
theorem mid_apply (r : Fin 256) (z : Fin 1024) :
    k0_pay4 (k0_pay8 x0 x1 x2 x3 x4 x5 x6 x7 x8) (k0_pay9 x0 x1 x2 x3 x4 x5 x6 x7 x8) (View.ld x5 r0_6) (ix2 r z)
      = step (fun z => x0 (ix3 0 r z)) (fun z => x5 (ix3 0 2 z)) (proj (fun l => x1 (ix3 0 r l)) (fun l => x2 (ix3 0 r l)) (fun l => x3 (ix3 0 r l))
          (fun l => x4 (ix3 0 r l)) fun k z => x6 (ix3 0 k z)) z := by
  rw [pay4_apply]
  unfold step k0_pay8 k0_pay9
  dsimp only
  rw [pay2_apply, pay3_apply, proj_split, ldX, ldM2]
  refine congrArg (x0 (ix3 0 r z) + x5 (ix3 0 2 z) * ·) (congrArg₂ (· + ·) (congrArg₂ (· + ·) (congrArg₂ (· + ·) ?_ ?_) ?_) ?_)
  · exact Finset.sum_congr rfl fun l _ => congrArg₂ (· * ·) (ldY x1 r l) (ldO0 x6 l z)
  · exact Finset.sum_congr rfl fun l _ => congrArg₂ (· * ·) (ldY x2 r l) (ldO1 x6 l z)
  · exact Finset.sum_congr rfl fun l _ => congrArg₂ (· * ·) (ldY x3 r l) (ldO2 x6 l z)
  · exact Finset.sum_congr rfl fun l _ => congrArg₂ (· * ·) (ldY x4 r l) (ldO3 x6 l z)

/-- The tile's row is the token's result. -/
theorem out_apply (u : Fin 1) (r : Fin 256) (z : Fin 1024) : out0_9 x0 x1 x2 x3 x4 x5 x6 x7 x8 (ix3 u r z)
    = tokenC (fun z => x0 (ix3 0 r z)) (fun l => x1 (ix3 0 r l)) (fun l => x2 (ix3 0 r l)) (fun l => x3 (ix3 0 r l)) (fun l => x4 (ix3 0 r l))
        (fun i z => x5 (ix3 0 i z)) (fun k z => x6 (ix3 0 k z)) (fun j k => x7 (ix3 0 j k)) (fun k z => x8 (ix3 0 k z)) z := by
  unfold out0_9
  have hm := mid_apply x0 x1 x2 x3 x4 x5 x6 x7 x8 r
  generalize k0_pay8 x0 x1 x2 x3 x4 x5 x6 x7 x8 = p at hm ⊢
  generalize k0_pay9 x0 x1 x2 x3 x4 x5 x6 x7 x8 = q at hm ⊢
  refine (canon_whole _ _).trans ?_
  rw [pay1_apply]
  unfold tokenC
  have h5 : (fun j => k0_pay5 p q (View.ld x5 r0_6) (View.ld x5 r0_7) (View.ld x5 r0_8) (ix2 r j))
      = modulated (fun z => k0_pay4 p q (View.ld x5 r0_6) (ix2 r z)) (fun z => x5 (ix3 0 4 z)) (fun z => x5 (ix3 0 3 z)) := by
    funext j
    rw [pay5_apply, funext (ldM4 x5), funext (ldM3 x5)]
  have a0 := funext fun j => funext (ldA0 x7 j)
  have a1 := funext fun j => funext (ldA1 x7 j)
  have a2 := funext fun j => funext (ldA2 x7 j)
  have a3 := funext fun j => funext (ldA3 x7 j)
  have b0 := funext fun k => funext (ldB0 x8 k)
  have b1 := funext fun k => funext (ldB1 x8 k)
  have b2 := funext fun k => funext (ldB2 x8 k)
  have b3 := funext fun k => funext (ldB3 x8 k)
  have hy : (fun z => k0_pay7 (k0_pay5 p q (View.ld x5 r0_6) (View.ld x5 r0_7) (View.ld x5 r0_8))
      (k0_pay6 p q (View.ld x5 r0_6) (View.ld x5 r0_7) (View.ld x5 r0_8) (View.ld x7 r0_9) (View.ld x8 r0_10))
      (View.ld x7 r0_11) (View.ld x8 r0_12) (View.ld x7 r0_13) (View.ld x8 r0_14) (View.ld x7 r0_15) (View.ld x8 r0_16) (ix2 r z))
      = mlp (modulated (fun z => k0_pay4 p q (View.ld x5 r0_6) (ix2 r z)) (fun z => x5 (ix3 0 4 z)) (fun z => x5 (ix3 0 3 z)))
        (fun j k => x7 (ix3 0 j k)) (fun k z => x8 (ix3 0 k z)) := by
    funext z
    rw [pay7_apply, pay6_apply, ffV_apply, ffV_apply, ffV_apply, ffV_apply, h5, a0, a1, a2, a3, b0, b1, b2, b3]
    exact (mlp_split _ (fun j k => x7 (ix3 0 j k)) (fun k z => x8 (ix3 0 k z)) z).symm
  rw [hy, funext hm, funext (ldM5 x5)]

end

end Cert.Kernel4Ideal.Ctx

end
-- ==== Proof.CtxArray.lean ====
/- The array the context's projection and MLP leave, over the arrays they are given. -/
module

public import proofs.«01_k».proof.Proof.CtxTile
public import Idealize.ShloMosaic.Lib.Pipeline.Value

@[expose] public section

set_option maxRecDepth 16384

noncomputable section

namespace Cert.Kernel4Ideal.Ctx

open Idealize.ShloMosaic Gen Cert.Mlp

/-- The context's result, token by token, from the residual stream, the four mixers' outputs, the modulation and the weights. -/
def result (x : Vec Ideal S8x256x1024 .f32) (a b c d : Vec Ideal S8x256x256 .f32) (mods : Vec Ideal S1x6x1024 .f32) (wo : Vec Ideal S4x1024x1024 .f32)
    (w1 : Vec Ideal S4x1024x4096 .f32) (w2 : Vec Ideal S4x4096x1024 .f32) (n : Fin 8) (r : Fin 256) (z : Fin 1024) : EReal :=
  tokenC (fun z => x (ix3 n r z)) (fun l => a (ix3 n r l)) (fun l => b (ix3 n r l)) (fun l => c (ix3 n r l)) (fun l => d (ix3 n r l))
    (fun i z => mods (ix3 0 i z)) (fun k z => wo (ix3 2 k z)) (fun j k => w1 (ix3 2 j k)) (fun k z => w2 (ix3 2 k z)) z

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![2, 0, 0] := (by decide +kernel : ∀ t : Fin grid0.N, _)
theorem idx7 : ∀ t : Fin cfg0.N, win0_7.index t = ![2, 0, 0] := (by decide +kernel : ∀ t : Fin grid0.N, _)
theorem idx8 : ∀ t : Fin cfg0.N, win0_8.index t = ![2, 0, 0] := (by decide +kernel : ∀ t : Fin grid0.N, _)
theorem idx9 : ∀ t : Fin cfg0.N, win0_9.index t = ![t.val, 0, 0] := (by decide +kernel : ∀ t : Fin grid0.N, _)
theorem flush9 : ∀ t : Fin cfg0.N, (cfg0.win 9).flush t = true := (by decide +kernel : ∀ t : Fin grid0.N, win0_9.flush t = true)

theorem lt8 (t : Fin cfg0.N) : t.val < 8 := lt_of_lt_of_eq t.isLt N_0

variable (m : (ℓ : Loc nD τ sig) → Buf (Elt Ideal) ℓ) (c : Dev nD)

/-- The rounded copies hold the arguments' values. -/
theorem given0 : V m c main_v0 = (m ((c.tc : Thread nD τ).loc main_arg1) : Vec Ideal S8x256x256 .f32) := by
  show StableHlo.after (hostOps0 (F := Ideal)) (fun b => m (c, b)) (Proc.devRef .tc main_v0) = _
  simp only [hostOps0]
  after_results <;> rfl
theorem given1 : V m c main_v1 = (m ((c.tc : Thread nD τ).loc main_arg2) : Vec Ideal S8x256x256 .f32) := by
  show StableHlo.after (hostOps0 (F := Ideal)) (fun b => m (c, b)) (Proc.devRef .tc main_v1) = _
  simp only [hostOps0]
  after_results <;> rfl
theorem given2 : V m c main_v2 = (m ((c.tc : Thread nD τ).loc main_arg3) : Vec Ideal S8x256x256 .f32) := by
  show StableHlo.after (hostOps0 (F := Ideal)) (fun b => m (c, b)) (Proc.devRef .tc main_v2) = _
  simp only [hostOps0]
  after_results <;> rfl
theorem given3 : V m c main_v3 = (m ((c.tc : Thread nD τ).loc main_arg4) : Vec Ideal S8x256x256 .f32) := by
  show StableHlo.after (hostOps0 (F := Ideal)) (fun b => m (c, b)) (Proc.devRef .tc main_v3) = _
  simp only [hostOps0]
  after_results <;> rfl
theorem given4 : V m c main_v4 = (m ((c.tc : Thread nD τ).loc main_arg6) : Vec Ideal S4x1024x1024 .f32) := by
  show StableHlo.after (hostOps0 (F := Ideal)) (fun b => m (c, b)) (Proc.devRef .tc main_v4) = _
  simp only [hostOps0]
  after_results <;> rfl
theorem given5 : V m c main_v5 = (m ((c.tc : Thread nD τ).loc main_arg7) : Vec Ideal S4x1024x4096 .f32) := by
  show StableHlo.after (hostOps0 (F := Ideal)) (fun b => m (c, b)) (Proc.devRef .tc main_v5) = _
  simp only [hostOps0]
  after_results <;> rfl
theorem given6 : V m c main_v6 = (m ((c.tc : Thread nD τ).loc main_arg8) : Vec Ideal S4x4096x1024 .f32) := by
  show StableHlo.after (hostOps0 (F := Ideal)) (fun b => m (c, b)) (Proc.devRef .tc main_v6) = _
  simp only [hostOps0]
  after_results <;> rfl

section
variable (t : Fin cfg0.N)

theorem blockX (r : Fin 256) (z : Fin 1024) : iblk (F := Ideal) m c 0 t (ix3 0 r z)
    = (m ((c.tc : Thread nD τ).loc main_arg0) : Vec Ideal S8x256x1024 .f32) (ix3 ⟨t.val % 8, by omega⟩ r z) := by
  rw [← V_main_arg0 m c]
  refine congrArg (V m c main_arg0) (funext fun a => Fin.ext ?_)
  have e := congrFun (idx0 t)
  have h := lt8 t
  match a with
  | ⟨0, _⟩ => exact (show win0_0.index t 0 * 1 + 1 * 0 = t.val % 8 by rw [e 0]; simp; omega)
  | ⟨1, _⟩ => exact (show win0_0.index t 1 * 256 + 1 * r.val = r.val by rw [e 1]; simp)
  | ⟨2, _⟩ => exact (show win0_0.index t 2 * 1024 + 1 * z.val = z.val by rw [e 2]; simp)

theorem blockA (r : Fin 256) (l : Fin 256) : iblk (F := Ideal) m c 1 t (ix3 0 r l)
    = (m ((c.tc : Thread nD τ).loc main_arg1) : Vec Ideal S8x256x256 .f32) (ix3 ⟨t.val % 8, by omega⟩ r l) := by
  rw [← given0 m c]
  refine congrArg (V m c main_v0) (funext fun a => Fin.ext ?_)
  have e := congrFun (idx1 t)
  have h := lt8 t
  match a with
  | ⟨0, _⟩ => exact (show win0_1.index t 0 * 1 + 1 * 0 = t.val % 8 by rw [e 0]; simp; omega)
  | ⟨1, _⟩ => exact (show win0_1.index t 1 * 256 + 1 * r.val = r.val by rw [e 1]; simp)
  | ⟨2, _⟩ => exact (show win0_1.index t 2 * 256 + 1 * l.val = l.val by rw [e 2]; simp)

theorem blockB (r : Fin 256) (l : Fin 256) : iblk (F := Ideal) m c 2 t (ix3 0 r l)
    = (m ((c.tc : Thread nD τ).loc main_arg2) : Vec Ideal S8x256x256 .f32) (ix3 ⟨t.val % 8, by omega⟩ r l) := by
  rw [← given1 m c]
  refine congrArg (V m c main_v1) (funext fun a => Fin.ext ?_)
  have e := congrFun (idx2 t)
  have h := lt8 t
  match a with
  | ⟨0, _⟩ => exact (show win0_2.index t 0 * 1 + 1 * 0 = t.val % 8 by rw [e 0]; simp; omega)
  | ⟨1, _⟩ => exact (show win0_2.index t 1 * 256 + 1 * r.val = r.val by rw [e 1]; simp)
  | ⟨2, _⟩ => exact (show win0_2.index t 2 * 256 + 1 * l.val = l.val by rw [e 2]; simp)

theorem blockC (r : Fin 256) (l : Fin 256) : iblk (F := Ideal) m c 3 t (ix3 0 r l)
    = (m ((c.tc : Thread nD τ).loc main_arg3) : Vec Ideal S8x256x256 .f32) (ix3 ⟨t.val % 8, by omega⟩ r l) := by
  rw [← given2 m c]
  refine congrArg (V m c main_v2) (funext fun a => Fin.ext ?_)
  have e := congrFun (idx3 t)
  have h := lt8 t
  match a with
  | ⟨0, _⟩ => exact (show win0_3.index t 0 * 1 + 1 * 0 = t.val % 8 by rw [e 0]; simp; omega)
  | ⟨1, _⟩ => exact (show win0_3.index t 1 * 256 + 1 * r.val = r.val by rw [e 1]; simp)
  | ⟨2, _⟩ => exact (show win0_3.index t 2 * 256 + 1 * l.val = l.val by rw [e 2]; simp)

theorem blockD (r : Fin 256) (l : Fin 256) : iblk (F := Ideal) m c 4 t (ix3 0 r l)
    = (m ((c.tc : Thread nD τ).loc main_arg4) : Vec Ideal S8x256x256 .f32) (ix3 ⟨t.val % 8, by omega⟩ r l) := by
  rw [← given3 m c]
  refine congrArg (V m c main_v3) (funext fun a => Fin.ext ?_)
  have e := congrFun (idx4 t)
  have h := lt8 t
  match a with
  | ⟨0, _⟩ => exact (show win0_4.index t 0 * 1 + 1 * 0 = t.val % 8 by rw [e 0]; simp; omega)
  | ⟨1, _⟩ => exact (show win0_4.index t 1 * 256 + 1 * r.val = r.val by rw [e 1]; simp)
  | ⟨2, _⟩ => exact (show win0_4.index t 2 * 256 + 1 * l.val = l.val by rw [e 2]; simp)

theorem blockM (i : Fin 6) (z : Fin 1024) : iblk (F := Ideal) m c 5 t (ix3 0 i z)
    = (m ((c.tc : Thread nD τ).loc main_arg5) : Vec Ideal S1x6x1024 .f32) (ix3 0 i z) := by
  rw [← V_main_arg5 m c]
  refine congrArg (V m c main_arg5) (funext fun a => Fin.ext ?_)
  have e := congrFun (idx5 t)
  have h := lt8 t
  match a with
  | ⟨0, _⟩ => exact (show win0_5.index t 0 * 1 + 1 * 0 = 0 by rw [e 0]; simp)
  | ⟨1, _⟩ => exact (show win0_5.index t 1 * 6 + 1 * i.val = i.val by rw [e 1]; simp)
  | ⟨2, _⟩ => exact (show win0_5.index t 2 * 1024 + 1 * z.val = z.val by rw [e 2]; simp)

theorem blockO (k z : Fin 1024) : iblk (F := Ideal) m c 6 t (ix3 0 k z)
    = (m ((c.tc : Thread nD τ).loc main_arg6) : Vec Ideal S4x1024x1024 .f32) (ix3 2 k z) := by
  rw [← given4 m c]
  refine congrArg (V m c main_v4) (funext fun a => Fin.ext ?_)
  have e := congrFun (idx6 t)
  match a with
  | ⟨0, _⟩ => exact (show win0_6.index t 0 * 1 + 1 * 0 = 2 by rw [e 0]; simp)
  | ⟨1, _⟩ => exact (show win0_6.index t 1 * 1024 + 1 * k.val = k.val by rw [e 1]; simp)
  | ⟨2, _⟩ => exact (show win0_6.index t 2 * 1024 + 1 * z.val = z.val by rw [e 2]; simp)

theorem blockP (j : Fin 1024) (k : Fin 4096) : iblk (F := Ideal) m c 7 t (ix3 0 j k)
    = (m ((c.tc : Thread nD τ).loc main_arg7) : Vec Ideal S4x1024x4096 .f32) (ix3 2 j k) := by
  rw [← given5 m c]
  refine congrArg (V m c main_v5) (funext fun a => Fin.ext ?_)
  have e := congrFun (idx7 t)
  match a with
  | ⟨0, _⟩ => exact (show win0_7.index t 0 * 1 + 1 * 0 = 2 by rw [e 0]; simp)
  | ⟨1, _⟩ => exact (show win0_7.index t 1 * 1024 + 1 * j.val = j.val by rw [e 1]; simp)
  | ⟨2, _⟩ => exact (show win0_7.index t 2 * 4096 + 1 * k.val = k.val by rw [e 2]; simp)

theorem blockQ (k : Fin 4096) (z : Fin 1024) : iblk (F := Ideal) m c 8 t (ix3 0 k z)
    = (m ((c.tc : Thread nD τ).loc main_arg8) : Vec Ideal S4x4096x1024 .f32) (ix3 2 k z) := by
  rw [← given6 m c]
  refine congrArg (V m c main_v6) (funext fun a => Fin.ext ?_)
  have e := congrFun (idx8 t)
  match a with
  | ⟨0, _⟩ => exact (show win0_8.index t 0 * 1 + 1 * 0 = 2 by rw [e 0]; simp)
  | ⟨1, _⟩ => exact (show win0_8.index t 1 * 4096 + 1 * k.val = k.val by rw [e 1]; simp)
  | ⟨2, _⟩ => exact (show win0_8.index t 2 * 1024 + 1 * z.val = z.val by rw [e 2]; simp)

end

/-- The result of the arguments as launched. -/
def resultAt (n : Fin 8) (r : Fin 256) (z : Fin 1024) : EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) n r z

/-- A grid point's tile, element by element. -/
theorem tile_at (t : Fin cfg0.N) (r : Fin 256) (z : Fin 1024) : (dats m 0 c).after 9 t (ix3 0 r z)
    = resultAt m c ⟨t.val % 8, by omega⟩ r z := by
  rw [after0_9]
  refine (out_apply _ _ _ _ _ _ _ _ _ 0 r z).trans ?_
  unfold resultAt result
  rw [funext (blockX m c t r), funext (blockA m c t r), funext (blockB m c t r), funext (blockC m c t r), funext (blockD m c t r),
    funext fun i => funext (blockM m c t i), funext fun k => funext (blockO m c t k), funext fun j => funext (blockP m c t j),
    funext fun k => funext (blockQ m c t k)]

theorem mem9 (t : Fin cfg0.N) (i : S8x256x1024.Idx) : i ∈ ((cfg0.win 9).blk t).view.set
    ↔ ∀ a : Fin 3, win0_9.index t a * S1x256x1024.size a ≤ (i a).val ∧ (i a).val < win0_9.index t a * S1x256x1024.size a + S1x256x1024.size a := by
  show i ∈ ((View.whole main_v7).slice (win0_9.rect t)).set ↔ _
  rw [View.set_slice_whole, Rect.mem_set_unit]
  exact Iff.rfl

theorem covered9 (i : S8x256x1024.Idx) : ∃ t : Fin cfg0.N, (cfg0.win 9).flush t = true ∧ i ∈ ((cfg0.win 9).blk t).view.set := by
  have h0 : (i 0).val < 8 := (i 0).isLt
  have h1 : (i 1).val < 256 := (i 1).isLt
  have h2 : (i 2).val < 1024 := (i 2).isLt
  have hN : (i 0).val < cfg0.N := lt_of_lt_of_eq h0 N_0.symm
  refine ⟨⟨(i 0).val, hN⟩, flush9 _, ?_⟩
  rw [mem9, idx9]
  intro a
  match a with
  | ⟨0, _⟩ => show (i 0).val * 1 ≤ (i 0).val ∧ (i 0).val < (i 0).val * 1 + 1; omega
  | ⟨1, _⟩ => show 0 * 256 ≤ (i 1).val ∧ (i 1).val < 0 * 256 + 256; omega
  | ⟨2, _⟩ => show 0 * 1024 ≤ (i 2).val ∧ (i 2).val < 0 * 1024 + 1024; omega

/-- The array after the run. -/
theorem final : (dats m 0 c).arrAt 9 cfg0.N = (fun i => resultAt m c (i 0) (i 1) (i 2) : Vec Ideal S8x256x1024 .f32) := by
  refine (dats m 0 c).arrAt_eq_of_cover 9 (fun i => resultAt m c (i 0) (i 1) (i 2) : Vec Ideal S8x256x1024 .f32) (fun t _ => ?_) covered9
  show (cfg0.win 9).cut (grid0.coords t) ((dats m 0 c).after 9 t) = _
  have H := tile_at m c t
  generalize (dats m 0 c).after 9 t = y at H ⊢
  funext x
  have e := congrFun (idx9 t)
  have h := lt8 t
  have x0 : (x 0).val < 1 := (x 0).isLt
  have x1 : (x 1).val < 256 := (x 1).isLt
  have x2 : (x 2).val < 1024 := (x 2).isLt
  have b0 : (((cfg0.win 9).blk t).view.emb x 0).val = win0_9.index t (0 : Fin 3) * 1 + 1 * (x 0).val := rfl
  have b1 : (((cfg0.win 9).blk t).view.emb x 1).val = win0_9.index t (1 : Fin 3) * 256 + 1 * (x 1).val := rfl
  have b2 : (((cfg0.win 9).blk t).view.emb x 2).val = win0_9.index t (2 : Fin 3) * 1024 + 1 * (x 2).val := rfl
  have e0 : win0_9.index t (0 : Fin 3) = t.val := e 0
  have e1 : win0_9.index t (1 : Fin 3) = 0 := e 1
  have e2 : win0_9.index t (2 : Fin 3) = 0 := e 2
  have hl : (cfg0.win 9).xinj (grid0.coords t) x = ix3 0 ⟨(x 1).val, x1⟩ ⟨(x 2).val, x2⟩ := by
    funext a; apply Fin.ext
    match a with
    | ⟨0, _⟩ => show (x 0).val = 0; omega
    | ⟨1, _⟩ => rfl
    | ⟨2, _⟩ => rfl
  have hr : ((cfg0.win 9).blk t).view.emb x = ix3 ⟨t.val % 8, by omega⟩ ⟨(x 1).val, x1⟩ ⟨(x 2).val, x2⟩ := by
    funext a; apply Fin.ext
    match a with
    | ⟨0, _⟩ => show (((cfg0.win 9).blk t).view.emb x 0).val = t.val % 8; omega
    | ⟨1, _⟩ => show (((cfg0.win 9).blk t).view.emb x 1).val = (x 1).val; omega
    | ⟨2, _⟩ => show (((cfg0.win 9).blk t).view.emb x 2).val = (x 2).val; omega
  show y ((cfg0.win 9).xinj (grid0.coords t) x) = (fun i => resultAt m c (i 0) (i 1) (i 2) : Vec Ideal S8x256x1024 .f32) (((cfg0.win 9).blk t).view.emb x)
  rw [hl, hr]
  exact H ⟨(x 1).val, x1⟩ ⟨(x 2).val, x2⟩

end Cert.Kernel4Ideal.Ctx

end
-- ==== Proof.CtxRefer.lean ====
/- The reference's projection and MLP over the context, read at an index. -/
module

public import proofs.«01_k».proof.Proof.MlpRow
public import proofs.«01_k».proof.Proof.Gen.Reference4Ideal.Run
public import Idealize.ShloMosaic.Lib.Pipeline.ValueKit

@[expose] public section

set_option maxRecDepth 16384

noncomputable section

namespace Cert.Reference4Ideal.Ctx

open Idealize.ShloMosaic Gen Cert.Mlp

/-- A row of the modulation, for every token. -/
def rowV {o : ℕ} (h : S1x6x1024.Slices ![0, o, 0] S1x1x1024) (mods : FVec Ideal S1x6x1024 .f32) : FVec Ideal S1x1x1024 .f32 :=
  broadcastInDim S1x1x1024 ![0, 2] bcast_S1x1024_S1x1x1024_0_2 (shapeCast S1x1024 (extractStridedSlice S1x1x1024 ![0, o, 0] mods h) shapeCasts_S1x1x1024_S1x1024)

def wideV (g : FVec Ideal S1x1x1024 .f32) : FVec Ideal S8x256x1024 .f32 :=
  broadcastInDim S8x256x1024 ![0, 1, 2] bcast_S1x1x1024_S8x256x1024_0_1_2 g

def stepV (x : FVec Ideal S8x256x1024 .f32) (g : FVec Ideal S1x1x1024 .f32) (y : FVec Ideal S8x256x1024 .f32) : FVec Ideal S8x256x1024 .f32 :=
  addf x (mulf (wideV g) y)

def joinV (a b c d : FVec Ideal S8x256x256 .f32) : FVec Ideal S8x256x1024 .f32 :=
  concatenate S8x256x1024 2 [⟨S8x256x256, a⟩, ⟨S8x256x256, b⟩, ⟨S8x256x256, c⟩, ⟨S8x256x256, d⟩] concatenates_S8x256x256_S8x256x256_S8x256x256_S8x256x256_S8x256x1024_d2

def projV (y : FVec Ideal S8x256x1024 .f32) (w : FVec Ideal S4x1024x1024 .f32) : FVec Ideal S8x256x1024 .f32 :=
  Host.dotGeneral dot_S8x256x1024_S1024x1024_S8x256x1024_2_0_01_1_n_n none y
    (shapeCast S1024x1024 (extractStridedSlice S1x1024x1024 ![2, 0, 0] w slices_S4x1024x1024_S1x1024x1024_2_0_0) shapeCasts_S1x1024x1024_S1024x1024)

def normV (x : FVec Ideal S8x256x1024 .f32) : FVec Ideal S8x256x1024 .f32 :=
  mulf x (broadcastInDim S8x256x1024 ![0, 1, 2] bcast_S8x256x1_S8x256x1024_0_1_2 (Host.rsqrt (addf (Host.divf
    (broadcastInDim S8x256x1 ![0, 1] bcast_S8x256_S8x256x1_0_1 (Host.reduceAdd (mulf x x) (constant S_ .f32 0x00000000#32) reducesTo_S8x256x1024_S8x256_d2 h_S_))
    (broadcastInDim S8x256x1 ![] bcast_S_S8x256x1 (constant S_ .f32 0x44800000#32)))
    (broadcastInDim S8x256x1 ![] bcast_S_S8x256x1 (constant S_ .f32 0x358637BD#32)))))

def modulatedV (x : FVec Ideal S8x256x1024 .f32) (scale shift : FVec Ideal S1x1x1024 .f32) : FVec Ideal S8x256x1024 .f32 :=
  addf (mulf x (wideV (addf (broadcastInDim S1x1x1024 ![] bcast_S_S1x1x1024 (constant S_ .f32 0x3F800000#32)) scale))) (wideV shift)

def hiddenV (h : FVec Ideal S8x256x1024 .f32) (w : FVec Ideal S4x1024x4096 .f32) : FVec Ideal S8x256x4096 .f32 :=
  maximumf (Host.dotGeneral dot_S8x256x1024_S1024x4096_S8x256x4096_2_0_01_1_n_n none h
    (shapeCast S1024x4096 (extractStridedSlice S1x1024x4096 ![2, 0, 0] w slices_S4x1024x4096_S1x1024x4096_2_0_0) shapeCasts_S1x1024x4096_S1024x4096))
    (broadcastInDim S8x256x4096 ![] bcast_S_S8x256x4096 (constant S_ .f32 0x00000000#32))

def mlpV (u : FVec Ideal S8x256x4096 .f32) (w : FVec Ideal S4x4096x1024 .f32) : FVec Ideal S8x256x1024 .f32 :=
  Host.dotGeneral dot_S8x256x4096_S4096x1024_S8x256x1024_2_0_01_1_n_n none (mulf u u)
    (shapeCast S4096x1024 (extractStridedSlice S1x4096x1024 ![2, 0, 0] w slices_S4x4096x1024_S1x4096x1024_2_0_0) shapeCasts_S1x4096x1024_S4096x1024)

theorem rowV_apply {o : ℕ} (z : Fin 1024) (h : S1x6x1024.Slices ![0, o, 0] S1x1x1024) (mods : FVec Ideal S1x6x1024 .f32) (ho : o < 6) :
    rowV h mods (ix3 0 0 z) = mods (ix3 0 ⟨o, ho⟩ z) := by
  pointwise [rowV]
  done

section
variable (n : Fin 8) (r : Fin 256) (z : Fin 1024)

theorem stepV_apply (x : FVec Ideal S8x256x1024 .f32) (g : FVec Ideal S1x1x1024 .f32) (y : FVec Ideal S8x256x1024 .f32) :
    stepV x g y (ix3 n r z) = step (fun z => x (ix3 n r z)) (fun z => g (ix3 0 0 z)) (fun z => y (ix3 n r z)) z := by
  pointwise [stepV, wideV, step]
  done

theorem joinV_apply (a b c d : FVec Ideal S8x256x256 .f32) :
    joinV a b c d (ix3 n r z) = join (fun l => a (ix3 n r l)) (fun l => b (ix3 n r l)) (fun l => c (ix3 n r l)) (fun l => d (ix3 n r l)) z := by
  pointwise [joinV, join]
  simp only [Nat.sub_sub, Nat.reduceAdd]

theorem projV_apply (y : FVec Ideal S8x256x1024 .f32) (w : FVec Ideal S4x1024x1024 .f32) :
    projV y w (ix3 n r z) = ∑ k, y (ix3 n r k) * w (ix3 2 k z) := by
  pointwise [projV]
  done

theorem normV_apply (x : FVec Ideal S8x256x1024 .f32) : normV x (ix3 n r z) = rowNorm (fun z => x (ix3 n r z)) z := by
  pointwise [normV, rowNorm]
  done

theorem modulatedV_apply (x : FVec Ideal S8x256x1024 .f32) (scale shift : FVec Ideal S1x1x1024 .f32) :
    modulatedV x scale shift (ix3 n r z) = x (ix3 n r z) * (1 + scale (ix3 0 0 z)) + shift (ix3 0 0 z) := by
  pointwise [modulatedV, wideV]
  done

theorem hiddenV_apply (h : FVec Ideal S8x256x1024 .f32) (w : FVec Ideal S4x1024x4096 .f32) (k : Fin 4096) :
    hiddenV h w (ix3 n r k) = max (∑ j, h (ix3 n r j) * w (ix3 2 j k)) 0 := by
  pointwise [hiddenV]
  done

theorem mlpV_apply (u : FVec Ideal S8x256x4096 .f32) (w : FVec Ideal S4x4096x1024 .f32) :
    mlpV u w (ix3 n r z) = ∑ k, u (ix3 n r k) * u (ix3 n r k) * w (ix3 2 k z) := by
  pointwise [mlpV]
  done

end

/-- The residual stream after the mixers. -/
def midV (x : FVec Ideal S8x256x1024 .f32) (a b c d : FVec Ideal S8x256x256 .f32) (mods : FVec Ideal S1x6x1024 .f32) (wo : FVec Ideal S4x1024x1024 .f32) :
    FVec Ideal S8x256x1024 .f32 :=
  stepV x (rowV slices_S1x6x1024_S1x1x1024_0_2_0 mods) (projV (joinV a b c d) wo)

/-- What the MLP reads. -/
def entryV (x : FVec Ideal S8x256x1024 .f32) (mods : FVec Ideal S1x6x1024 .f32) : FVec Ideal S8x256x1024 .f32 :=
  modulatedV (normV x) (rowV slices_S1x6x1024_S1x1x1024_0_4_0 mods) (rowV slices_S1x6x1024_S1x1x1024_0_3_0 mods)

/-- The whole of the reference after the mixers. -/
def wholeV (x : FVec Ideal S8x256x1024 .f32) (mods : FVec Ideal S1x6x1024 .f32) (w1 : FVec Ideal S4x1024x4096 .f32) (w2 : FVec Ideal S4x4096x1024 .f32) :
    FVec Ideal S8x256x1024 .f32 :=
  stepV x (rowV slices_S1x6x1024_S1x1x1024_0_5_0 mods) (mlpV (hiddenV (entryV x mods) w1) w2)

theorem midV_apply (x : FVec Ideal S8x256x1024 .f32) (a b c d : FVec Ideal S8x256x256 .f32) (mods : FVec Ideal S1x6x1024 .f32) (wo : FVec Ideal S4x1024x1024 .f32)
    (n : Fin 8) (r : Fin 256) (z : Fin 1024) : midV x a b c d mods wo (ix3 n r z)
      = step (fun z => x (ix3 n r z)) (fun z => mods (ix3 0 2 z)) (proj (fun l => a (ix3 n r l)) (fun l => b (ix3 n r l)) (fun l => c (ix3 n r l))
        (fun l => d (ix3 n r l)) fun k z => wo (ix3 2 k z)) z := by
  unfold midV
  rw [stepV_apply]
  unfold step proj
  simp only [projV_apply, joinV_apply]
  rw [rowV_apply z _ mods (by omega)]
  rfl

theorem entryV_apply (x : FVec Ideal S8x256x1024 .f32) (mods : FVec Ideal S1x6x1024 .f32) (n : Fin 8) (r : Fin 256) (z : Fin 1024) : entryV x mods (ix3 n r z)
    = modulated (fun z => x (ix3 n r z)) (fun z => mods (ix3 0 4 z)) (fun z => mods (ix3 0 3 z)) z := by
  unfold entryV modulated
  rw [modulatedV_apply, normV_apply, rowV_apply z _ mods (by omega), rowV_apply z _ mods (by omega)]
  rfl

theorem wholeV_apply (x : FVec Ideal S8x256x1024 .f32) (mods : FVec Ideal S1x6x1024 .f32) (w1 : FVec Ideal S4x1024x4096 .f32) (w2 : FVec Ideal S4x4096x1024 .f32)
    (n : Fin 8) (r : Fin 256) (z : Fin 1024) : wholeV x mods w1 w2 (ix3 n r z)
      = step (fun z => x (ix3 n r z)) (fun z => mods (ix3 0 5 z))
          (mlp (modulated (fun z => x (ix3 n r z)) (fun z => mods (ix3 0 4 z)) (fun z => mods (ix3 0 3 z))) (fun j k => w1 (ix3 2 j k)) (fun k z => w2 (ix3 2 k z))) z := by
  unfold wholeV
  rw [stepV_apply]
  unfold step mlp Cert.Mlp.unit
  simp only [mlpV_apply, hiddenV_apply, entryV_apply]
  rw [rowV_apply z _ mods (by omega)]
  rfl

variable (m : (ℓ : Loc nD τ sig) → Buf (Elt Ideal) ℓ) (c : Dev nD)

set_option maxHeartbeats 1000000 in
/-- The reference's result, stage by stage. -/
theorem result_eq : Cert.Reference4Ideal.Value.res_main_v51 m c
    = wholeV (midV (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) (m ((c.tc : Thread nD τ).loc main_arg5)) (m ((c.tc : Thread nD τ).loc main_arg7))
        (m ((c.tc : Thread nD τ).loc main_arg8)) := rfl

end Cert.Reference4Ideal.Ctx

end
-- ==== Proof.CtxResult.lean ====
/- The array the context's projection and MLP leave is the reference's. -/
module

public import proofs.«01_k».proof.Proof.CtxArray
public import proofs.«01_k».proof.Proof.CtxRefer

@[expose] public section

set_option maxRecDepth 16384

noncomputable section

namespace Cert.Kernel4Ideal.Ctx

open Idealize.ShloMosaic Gen Cert.Mlp

/-- The reference's stages are the tokens' results. -/
theorem whole_result (x : Vec Ideal S8x256x1024 .f32) (a b c d : Vec Ideal S8x256x256 .f32) (mods : Vec Ideal S1x6x1024 .f32)
    (wo : Vec Ideal S4x1024x1024 .f32) (w1 : Vec Ideal S4x1024x4096 .f32) (w2 : Vec Ideal S4x4096x1024 .f32) :
    Cert.Reference4Ideal.Ctx.wholeV (Cert.Reference4Ideal.Ctx.midV x a b c d mods wo) mods w1 w2
      = (fun i => result x a b c d mods wo w1 w2 (i 0) (i 1) (i 2) : Vec Ideal S8x256x1024 .f32) := by
  funext i
  obtain ⟨n, r, z, rfl⟩ : ∃ (n : Fin 8) (r : Fin 256) (z : Fin 1024), i = ix3 n r z :=
    ⟨i 0, i 1, i 2, funext fun a => match a with | ⟨0, _⟩ => rfl | ⟨1, _⟩ => rfl | ⟨2, _⟩ => rfl⟩
  refine (Cert.Reference4Ideal.Ctx.wholeV_apply _ mods w1 w2 n r z).trans ?_
  rw [funext (Cert.Reference4Ideal.Ctx.midV_apply x a b c d mods wo n r)]
  rfl

end Cert.Kernel4Ideal.Ctx

end
-- ==== Proof.MidBody.lean ====
/- The body of an earlier layer's output projection and MLP, read at an index. -/
module

public import proofs.«01_k».proof.Proof.MlpRow
public import proofs.«01_k».proof.Proof.Gen.Kernel5Ideal.Value
public import Idealize.ShloMosaic.Lib.MatmulPlain
public import Idealize.ShloMosaic.Lib.ValueLayout

@[expose] public section

set_option maxRecDepth 16384

noncomputable section

namespace Cert.Kernel5Ideal.Mid

open Idealize.ShloMosaic Gen Cert.Mlp

/-- A tile over the root of each row's mean square. -/
def normV (x : FVec Ideal S512x1024 .f32) : FVec Ideal S512x1024 .f32 :=
  mulf x (broadcastTo S512x1024 (rsqrt (addf (divf (shapeCast S512x1 (multiReduction .add [1] S512 (mulf x x) 0x00000000#32 reduces_S512x1024_S512 (.inl rfl) rfl)
    shapeCasts_S512_S512x1) (broadcast S512x1 (Scalar.ofBits .f32 0x44800000#32))) (broadcast S512x1 (Scalar.ofBits .f32 0x358637BD#32)))) broadcasts_S512x1_S512x1024)

/-- A product of a tile with a block of weights. -/
def prodV (u : FVec Ideal S512x1024 .bf16) (b : Vec Ideal S1x1024x1024 .bf16) : FVec Ideal S512x1024 .f32 :=
  matmul dot_S512x1024_S1024x1024_S512x1024_1_0_0_1_n_n none u
    (shapeCast S1024x1024 b shapeCasts_S1x1024x1024_S1024x1024 : FVec Ideal S1024x1024 .bf16) (constant S512x1024 .f32 0x00000000#32)

/-- A block of hidden units: the product with its columns, the squared positive part. -/
def unitV (h : FVec Ideal S512x1024 .bf16) (a : Vec Ideal S1x1024x1024 .bf16) : FVec Ideal S512x1024 .bf16 :=
  truncf .bf16 (mulf (maximumf (prodV h a) (broadcast S512x1024 (Scalar.ofBits .f32 0x00000000#32)))
    (maximumf (prodV h a) (broadcast S512x1024 (Scalar.ofBits .f32 0x00000000#32)))) bitsLt_bf16_f32

theorem normV_apply (x : FVec Ideal S512x1024 .f32) (r : Fin 512) (z : Fin 1024) : normV x (ix2 r z) = rowNorm (fun z => x (ix2 r z)) z := by
  unfold normV rowNorm
  pointwise
  done

theorem prodV_apply (u : FVec Ideal S512x1024 .bf16) (b : Vec Ideal S1x1024x1024 .bf16) (r : Fin 512) (z : Fin 1024) :
    prodV u b (ix2 r z) = ∑ k : Fin 1024, u (ix2 r k) * b (ix3 0 k z) := by
  unfold prodV
  pointwise
  done

theorem unitV_apply (h : FVec Ideal S512x1024 .bf16) (a : Vec Ideal S1x1024x1024 .bf16) (r : Fin 512) (z : Fin 1024) :
    unitV h a (ix2 r z) = Cert.Mlp.unit (fun j => h (ix2 r j)) (fun j k => a (ix3 0 j k)) z := by
  unfold unitV
  unfold Cert.Mlp.unit
  simp only [← prodV_apply]
  generalize prodV h a = p
  pointwise
  done

/-- A block's share of the MLP. -/
theorem ffV_apply (h : FVec Ideal S512x1024 .bf16) (a b : Vec Ideal S1x1024x1024 .bf16) (r : Fin 512) (z : Fin 1024) :
    prodV (unitV h a) b (ix2 r z) = mlp (fun j => h (ix2 r j)) (fun j k => a (ix3 0 j k)) (fun k z => b (ix3 0 k z)) z := by
  rw [prodV_apply]
  exact Finset.sum_congr rfl fun k _ => congrArg (· * _) (unitV_apply h a r k)

theorem pay2_apply (x : Vec Ideal S1x512x1024 .f32) (r : Fin 512) (z : Fin 1024) : k0_pay2 x (ix2 r z) = x (ix3 0 r z) := by
  pointwise [k0_pay2]

theorem pay3_apply (a : Vec Ideal S1x512x256 .bf16) (wa : Vec Ideal S1x256x1024 .bf16) (b : Vec Ideal S1x512x256 .bf16) (wb : Vec Ideal S1x256x1024 .bf16)
    (c : Vec Ideal S1x512x256 .bf16) (wc : Vec Ideal S1x256x1024 .bf16) (d : Vec Ideal S1x512x256 .bf16) (wd : Vec Ideal S1x256x1024 .bf16)
    (r : Fin 512) (z : Fin 1024) : k0_pay3 a wa b wb c wc d wd (ix2 r z)
    = (((∑ l : Fin 256, a (ix3 0 r l) * wa (ix3 0 l z)) + ∑ l : Fin 256, b (ix3 0 r l) * wb (ix3 0 l z))
      + ∑ l : Fin 256, c (ix3 0 r l) * wc (ix3 0 l z)) + ∑ l : Fin 256, d (ix3 0 r l) * wd (ix3 0 l z) := by
  pointwise [k0_pay3]
  done

theorem pay4_apply (x y : FVec Ideal S512x1024 .f32) (g : Vec Ideal S1x1x1024 .f32) (r : Fin 512) (z : Fin 1024) :
    k0_pay4 x y g (ix2 r z) = step (fun z => x (ix2 r z)) (fun z => g (ix3 0 0 z)) (fun z => y (ix2 r z)) z := by
  unfold step
  pointwise [k0_pay4]
  done

theorem pay5_apply (x y : FVec Ideal S512x1024 .f32) (g s t : Vec Ideal S1x1x1024 .f32) (r : Fin 512) (z : Fin 1024) :
    k0_pay5 x y g s t (ix2 r z)
      = modulated (fun z => k0_pay4 x y g (ix2 r z)) (fun z => s (ix3 0 0 z)) (fun z => t (ix3 0 0 z)) z := by
  change (truncf .bf16 (addf (mulf (normV (k0_pay4 x y g)) (broadcastTo S512x1024 (addf (broadcast S1x1024 (Scalar.ofBits .f32 0x3F800000#32))
    (shapeCast S1x1024 s shapeCasts_S1x1x1024_S1x1024)) broadcasts_S1x1024_S512x1024))
    (broadcastTo S512x1024 (shapeCast S1x1024 t shapeCasts_S1x1x1024_S1x1024) broadcasts_S1x1024_S512x1024)) bitsLt_bf16_f32 : FVec Ideal S512x1024 .bf16) (ix2 r z) = _
  unfold modulated
  rw [← normV_apply]
  generalize normV (k0_pay4 x y g) = p
  pointwise
  done

theorem pay6_apply (x y : FVec Ideal S512x1024 .f32) (g s t : Vec Ideal S1x1x1024 .f32) (a b : Vec Ideal S1x1024x1024 .bf16) (r : Fin 512) (z : Fin 1024) :
    k0_pay6 x y g s t a b (ix2 r z) = prodV (unitV (k0_pay5 x y g s t) a) b (ix2 r z) := by
  change (addf (broadcast S512x1024 (Scalar.ofBits .f32 0x00000000#32)) (prodV (unitV (k0_pay5 x y g s t) a) b) : FVec Ideal S512x1024 .f32) (ix2 r z) = _
  generalize prodV (unitV (k0_pay5 x y g s t) a) b = p
  pointwise
  done

theorem pay7_apply (h : FVec Ideal S512x1024 .bf16) (p : FVec Ideal S512x1024 .f32) (a b a' b' a'' b'' : Vec Ideal S1x1024x1024 .bf16) (r : Fin 512) (z : Fin 1024) :
    k0_pay7 h p a b a' b' a'' b'' (ix2 r z)
      = ((p (ix2 r z) + prodV (unitV h a) b (ix2 r z)) + prodV (unitV h a') b' (ix2 r z)) + prodV (unitV h a'') b'' (ix2 r z) := by
  change (addf (addf (addf p (prodV (unitV h a) b)) (prodV (unitV h a') b')) (prodV (unitV h a'') b'') : FVec Ideal S512x1024 .f32) (ix2 r z) = _
  rfl

theorem pay1_apply (x y : FVec Ideal S512x1024 .f32) (g : Vec Ideal S1x1x1024 .f32) (u : Fin 1) (r : Fin 512) (z : Fin 1024) :
    k0_pay1 x y g (ix3 u r z) = step (fun z => x (ix2 r z)) (fun z => g (ix3 0 0 z)) (fun z => y (ix2 r z)) z := by
  unfold step
  pointwise [k0_pay1]
  done

end Cert.Kernel5Ideal.Mid

end
-- ==== Proof.MidTile.lean ====
/- The tile a grid point of an earlier layer's projection and MLP leaves: its row is the token's result over the point's windows. -/
module

public import proofs.«01_k».proof.Proof.MidBody

@[expose] public section

set_option maxRecDepth 16384

noncomputable section

namespace Cert.Kernel5Ideal.Mid

open Idealize.ShloMosaic Gen Cert.Mlp

/-- A load through a unit-stride rectangle, at an index. -/
theorem ld_at {s : Shape} {e : EltTy} (x : Vec Ideal s e) (o n : Fin s.rank → ℕ) (inb : ∀ a, o a + n a ≤ s.size a)
    (i : (Rect.unit (s := s) o n inb).shape.Idx) (j : s.Idx) (h : ∀ a, o a + (i a).val = (j a).val) : View.ld x (Rect.unit (s := s) o n inb) i = x j :=
  congrArg x (funext fun a => Fin.ext ((Rect.idx_unit_val ..).trans (h a)))

/-- A tile stored whole is what was stored. -/
theorem canon_whole (v : Vec Ideal S1x512x1024 .f32) (i : S1x512x1024.Idx) :
    View.canon ([⟨r0_0, v⟩] : List (View.Piece (Elt Ideal) S1x512x1024 .f32)) i = v i := by
  refine View.canon_apply_of_pieces v _ ?_ i (cover0_9 v i)
  intro pc hpc x
  obtain rfl := List.mem_singleton.mp hpc
  refine congrArg v (funext fun a => Fin.ext ?_)
  match a with
  | ⟨0, _⟩ => exact (show (x 0).val = 0 + 1 * (x 0).val by omega)
  | ⟨1, _⟩ => exact (show (x 1).val = 0 + 1 * (x 1).val by omega)
  | ⟨2, _⟩ => exact (show (x 2).val = 0 + 1 * (x 2).val by omega)

section
variable (x0 : Vec Ideal S1x512x1024 .f32) (x1 x2 x3 x4 : Vec Ideal S1x512x256 .bf16) (x5 : Vec Ideal S1x6x1024 .f32) (x6 : Vec Ideal S1x1024x1024 .bf16)
  (x7 : Vec Ideal S1x1024x4096 .bf16) (x8 : Vec Ideal S1x4096x1024 .bf16)

theorem ldX (r : Fin 512) (z : Fin 1024) : View.ld x0 r0_0 (ix3 0 r z) = x0 (ix3 0 r z) :=
  ld_at x0 _ _ _ _ _ fun a => match a with | ⟨0, _⟩ => rfl | ⟨1, _⟩ => Nat.zero_add _ | ⟨2, _⟩ => Nat.zero_add _
theorem ldY (r : Fin 512) (l : Fin 256) : View.ld x1 r0_1 (ix3 0 r l) = x1 (ix3 0 r l) :=
  ld_at x1 _ _ _ _ _ fun a => match a with | ⟨0, _⟩ => rfl | ⟨1, _⟩ => Nat.zero_add _ | ⟨2, _⟩ => Nat.zero_add _
theorem ldO0 (l : Fin 256) (z : Fin 1024) : View.ld x6 r0_2 (ix3 0 l z) = x6 (ix3 0 ⟨l.val, by omega⟩ z) :=
  ld_at x6 _ _ _ _ _ fun a => match a with | ⟨0, _⟩ => rfl | ⟨1, _⟩ => Nat.zero_add _ | ⟨2, _⟩ => Nat.zero_add _
theorem ldO1 (l : Fin 256) (z : Fin 1024) : View.ld x6 r0_3 (ix3 0 l z) = x6 (ix3 0 ⟨256 + l.val, by omega⟩ z) :=
  ld_at x6 _ _ _ _ _ fun a => match a with | ⟨0, _⟩ => rfl | ⟨1, _⟩ => rfl | ⟨2, _⟩ => Nat.zero_add _
theorem ldO2 (l : Fin 256) (z : Fin 1024) : View.ld x6 r0_4 (ix3 0 l z) = x6 (ix3 0 ⟨512 + l.val, by omega⟩ z) :=
  ld_at x6 _ _ _ _ _ fun a => match a with | ⟨0, _⟩ => rfl | ⟨1, _⟩ => rfl | ⟨2, _⟩ => Nat.zero_add _
theorem ldO3 (l : Fin 256) (z : Fin 1024) : View.ld x6 r0_5 (ix3 0 l z) = x6 (ix3 0 ⟨768 + l.val, by omega⟩ z) :=
  ld_at x6 _ _ _ _ _ fun a => match a with | ⟨0, _⟩ => rfl | ⟨1, _⟩ => rfl | ⟨2, _⟩ => Nat.zero_add _
theorem ldM2 (z : Fin 1024) : View.ld x5 r0_6 (ix3 0 0 z) = x5 (ix3 0 2 z) :=
  ld_at x5 _ _ _ _ _ fun a => match a with | ⟨0, _⟩ => rfl | ⟨1, _⟩ => rfl | ⟨2, _⟩ => Nat.zero_add _
theorem ldM4 (z : Fin 1024) : View.ld x5 r0_7 (ix3 0 0 z) = x5 (ix3 0 4 z) :=
  ld_at x5 _ _ _ _ _ fun a => match a with | ⟨0, _⟩ => rfl | ⟨1, _⟩ => rfl | ⟨2, _⟩ => Nat.zero_add _
theorem ldM3 (z : Fin 1024) : View.ld x5 r0_8 (ix3 0 0 z) = x5 (ix3 0 3 z) :=
  ld_at x5 _ _ _ _ _ fun a => match a with | ⟨0, _⟩ => rfl | ⟨1, _⟩ => rfl | ⟨2, _⟩ => Nat.zero_add _
theorem ldM5 (z : Fin 1024) : View.ld x5 r0_17 (ix3 0 0 z) = x5 (ix3 0 5 z) :=
  ld_at x5 _ _ _ _ _ fun a => match a with | ⟨0, _⟩ => rfl | ⟨1, _⟩ => rfl | ⟨2, _⟩ => Nat.zero_add _
theorem ldA0 (j k : Fin 1024) : View.ld x7 r0_9 (ix3 0 j k) = x7 (ix3 0 j ⟨k.val, by omega⟩) :=
  ld_at x7 _ _ _ _ _ fun a => match a with | ⟨0, _⟩ => rfl | ⟨1, _⟩ => Nat.zero_add _ | ⟨2, _⟩ => Nat.zero_add _
theorem ldA1 (j k : Fin 1024) : View.ld x7 r0_11 (ix3 0 j k) = x7 (ix3 0 j ⟨1024 + k.val, by omega⟩) :=
  ld_at x7 _ _ _ _ _ fun a => match a with | ⟨0, _⟩ => rfl | ⟨1, _⟩ => Nat.zero_add _ | ⟨2, _⟩ => rfl
theorem ldA2 (j k : Fin 1024) : View.ld x7 r0_13 (ix3 0 j k) = x7 (ix3 0 j ⟨2048 + k.val, by omega⟩) :=
  ld_at x7 _ _ _ _ _ fun a => match a with | ⟨0, _⟩ => rfl | ⟨1, _⟩ => Nat.zero_add _ | ⟨2, _⟩ => rfl
theorem ldA3 (j k : Fin 1024) : View.ld x7 r0_15 (ix3 0 j k) = x7 (ix3 0 j ⟨3072 + k.val, by omega⟩) :=
  ld_at x7 _ _ _ _ _ fun a => match a with | ⟨0, _⟩ => rfl | ⟨1, _⟩ => Nat.zero_add _ | ⟨2, _⟩ => rfl
theorem ldB0 (k z : Fin 1024) : View.ld x8 r0_10 (ix3 0 k z) = x8 (ix3 0 ⟨k.val, by omega⟩ z) :=
  ld_at x8 _ _ _ _ _ fun a => match a with | ⟨0, _⟩ => rfl | ⟨1, _⟩ => Nat.zero_add _ | ⟨2, _⟩ => Nat.zero_add _
theorem ldB1 (k z : Fin 1024) : View.ld x8 r0_12 (ix3 0 k z) = x8 (ix3 0 ⟨1024 + k.val, by omega⟩ z) :=
  ld_at x8 _ _ _ _ _ fun a => match a with | ⟨0, _⟩ => rfl | ⟨1, _⟩ => rfl | ⟨2, _⟩ => Nat.zero_add _
theorem ldB2 (k z : Fin 1024) : View.ld x8 r0_14 (ix3 0 k z) = x8 (ix3 0 ⟨2048 + k.val, by omega⟩ z) :=
  ld_at x8 _ _ _ _ _ fun a => match a with | ⟨0, _⟩ => rfl | ⟨1, _⟩ => rfl | ⟨2, _⟩ => Nat.zero_add _
theorem ldB3 (k z : Fin 1024) : View.ld x8 r0_16 (ix3 0 k z) = x8 (ix3 0 ⟨3072 + k.val, by omega⟩ z) :=
  ld_at x8 _ _ _ _ _ fun a => match a with | ⟨0, _⟩ => rfl | ⟨1, _⟩ => rfl | ⟨2, _⟩ => Nat.zero_add _

/-- The residual stream after the mixers. -/
theorem mid_apply (r : Fin 512) (z : Fin 1024) :
    k0_pay4 (k0_pay8 x0 x1 x2 x3 x4 x5 x6 x7 x8) (k0_pay9 x0 x1 x2 x3 x4 x5 x6 x7 x8) (View.ld x5 r0_6) (ix2 r z)
      = step (fun z => x0 (ix3 0 r z)) (fun z => x5 (ix3 0 2 z)) (proj (fun l => x1 (ix3 0 r l)) (fun l => x2 (ix3 0 r l)) (fun l => x3 (ix3 0 r l))
          (fun l => x4 (ix3 0 r l)) fun k z => x6 (ix3 0 k z)) z := by
  rw [pay4_apply]
  unfold step k0_pay8 k0_pay9
  dsimp only
  rw [pay2_apply, pay3_apply, proj_split, ldX, ldM2]
  refine congrArg (x0 (ix3 0 r z) + x5 (ix3 0 2 z) * ·) (congrArg₂ (· + ·) (congrArg₂ (· + ·) (congrArg₂ (· + ·) ?_ ?_) ?_) ?_)
  · exact Finset.sum_congr rfl fun l _ => congrArg₂ (· * ·) (ldY x1 r l) (ldO0 x6 l z)
  · exact Finset.sum_congr rfl fun l _ => congrArg₂ (· * ·) (ldY x2 r l) (ldO1 x6 l z)
  · exact Finset.sum_congr rfl fun l _ => congrArg₂ (· * ·) (ldY x3 r l) (ldO2 x6 l z)
  · exact Finset.sum_congr rfl fun l _ => congrArg₂ (· * ·) (ldY x4 r l) (ldO3 x6 l z)

/-- The tile's row is the token's result. -/
theorem out_apply (u : Fin 1) (r : Fin 512) (z : Fin 1024) : out0_9 x0 x1 x2 x3 x4 x5 x6 x7 x8 (ix3 u r z)
    = tokenC (fun z => x0 (ix3 0 r z)) (fun l => x1 (ix3 0 r l)) (fun l => x2 (ix3 0 r l)) (fun l => x3 (ix3 0 r l)) (fun l => x4 (ix3 0 r l))
        (fun i z => x5 (ix3 0 i z)) (fun k z => x6 (ix3 0 k z)) (fun j k => x7 (ix3 0 j k)) (fun k z => x8 (ix3 0 k z)) z := by
  unfold out0_9
  have hm := mid_apply x0 x1 x2 x3 x4 x5 x6 x7 x8 r
  generalize k0_pay8 x0 x1 x2 x3 x4 x5 x6 x7 x8 = p at hm ⊢
  generalize k0_pay9 x0 x1 x2 x3 x4 x5 x6 x7 x8 = q at hm ⊢
  refine (canon_whole _ _).trans ?_
  rw [pay1_apply]
  unfold tokenC
  have h5 : (fun j => k0_pay5 p q (View.ld x5 r0_6) (View.ld x5 r0_7) (View.ld x5 r0_8) (ix2 r j))
      = modulated (fun z => k0_pay4 p q (View.ld x5 r0_6) (ix2 r z)) (fun z => x5 (ix3 0 4 z)) (fun z => x5 (ix3 0 3 z)) := by
    funext j
    rw [pay5_apply, funext (ldM4 x5), funext (ldM3 x5)]
  have a0 := funext fun j => funext (ldA0 x7 j)
  have a1 := funext fun j => funext (ldA1 x7 j)
  have a2 := funext fun j => funext (ldA2 x7 j)
  have a3 := funext fun j => funext (ldA3 x7 j)
  have b0 := funext fun k => funext (ldB0 x8 k)
  have b1 := funext fun k => funext (ldB1 x8 k)
  have b2 := funext fun k => funext (ldB2 x8 k)
  have b3 := funext fun k => funext (ldB3 x8 k)
  have hy : (fun z => k0_pay7 (k0_pay5 p q (View.ld x5 r0_6) (View.ld x5 r0_7) (View.ld x5 r0_8))
      (k0_pay6 p q (View.ld x5 r0_6) (View.ld x5 r0_7) (View.ld x5 r0_8) (View.ld x7 r0_9) (View.ld x8 r0_10))
      (View.ld x7 r0_11) (View.ld x8 r0_12) (View.ld x7 r0_13) (View.ld x8 r0_14) (View.ld x7 r0_15) (View.ld x8 r0_16) (ix2 r z))
      = mlp (modulated (fun z => k0_pay4 p q (View.ld x5 r0_6) (ix2 r z)) (fun z => x5 (ix3 0 4 z)) (fun z => x5 (ix3 0 3 z)))
        (fun j k => x7 (ix3 0 j k)) (fun k z => x8 (ix3 0 k z)) := by
    funext z
    rw [pay7_apply, pay6_apply, ffV_apply, ffV_apply, ffV_apply, ffV_apply, h5, a0, a1, a2, a3, b0, b1, b2, b3]
    exact (mlp_split _ (fun j k => x7 (ix3 0 j k)) (fun k z => x8 (ix3 0 k z)) z).symm
  rw [hy, funext hm, funext (ldM5 x5)]

end

end Cert.Kernel5Ideal.Mid

end
-- ==== Proof.MidArray.lean ====
/- The array an earlier layer's projection and MLP leave, over the arrays they are given. -/
module

public import proofs.«01_k».proof.Proof.MidTile
public import Idealize.ShloMosaic.Lib.Pipeline.Value

@[expose] public section

set_option maxRecDepth 16384

noncomputable section

namespace Cert.Kernel5Ideal.Mid

open Idealize.ShloMosaic Gen Cert.Mlp

/-- The layer's result, token by token, from the residual stream, the four mixers' outputs, the modulation and the weights. -/
def result (x : Vec Ideal S8x4096x1024 .f32) (a b c d : Vec Ideal S8x4096x256 .f32) (mods : Vec Ideal S8x6x1024 .f32) (wo : Vec Ideal S4x1024x1024 .f32)
    (w1 : Vec Ideal S4x1024x4096 .f32) (w2 : Vec Ideal S4x4096x1024 .f32) (n : Fin 8) (r : Fin 4096) (z : Fin 1024) : EReal :=
  tokenC (fun z => x (ix3 n r z)) (fun l => a (ix3 n r l)) (fun l => b (ix3 n r l)) (fun l => c (ix3 n r l)) (fun l => d (ix3 n r l))
    (fun i z => mods (ix3 n i z)) (fun k z => wo (ix3 2 k z)) (fun j k => w1 (ix3 2 j k)) (fun k z => w2 (ix3 2 k z)) z

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, 0, 0] := (by decide +kernel : ∀ t : Fin grid0.N, _)
theorem idx6 : ∀ t : Fin cfg0.N, win0_6.index t = ![2, 0, 0] := (by decide +kernel : ∀ t : Fin grid0.N, _)
theorem idx7 : ∀ t : Fin cfg0.N, win0_7.index t = ![2, 0, 0] := (by decide +kernel : ∀ t : Fin grid0.N, _)
theorem idx8 : ∀ t : Fin cfg0.N, win0_8.index t = ![2, 0, 0] := (by decide +kernel : ∀ t : Fin grid0.N, _)
theorem idx9 : ∀ t : Fin cfg0.N, win0_9.index t = ![t.val / 8, t.val % 8, 0] := (by decide +kernel : ∀ t : Fin grid0.N, _)
theorem flush9 : ∀ t : Fin cfg0.N, (cfg0.win 9).flush t = true := (by decide +kernel : ∀ t : Fin grid0.N, win0_9.flush t = true)

theorem lt64 (t : Fin cfg0.N) : t.val < 64 := lt_of_lt_of_eq t.isLt N_0

variable (m : (ℓ : Loc nD τ sig) → Buf (Elt Ideal) ℓ) (c : Dev nD)

/-- The rounded copies hold the arguments' values. -/
theorem given0 : V m c main_v0 = (m ((c.tc : Thread nD τ).loc main_arg1) : Vec Ideal S8x4096x256 .f32) := by
  show StableHlo.after (hostOps0 (F := Ideal)) (fun b => m (c, b)) (Proc.devRef .tc main_v0) = _
  simp only [hostOps0]
  after_results <;> rfl
theorem given1 : V m c main_v1 = (m ((c.tc : Thread nD τ).loc main_arg2) : Vec Ideal S8x4096x256 .f32) := by
  show StableHlo.after (hostOps0 (F := Ideal)) (fun b => m (c, b)) (Proc.devRef .tc main_v1) = _
  simp only [hostOps0]
  after_results <;> rfl
theorem given2 : V m c main_v2 = (m ((c.tc : Thread nD τ).loc main_arg3) : Vec Ideal S8x4096x256 .f32) := by
  show StableHlo.after (hostOps0 (F := Ideal)) (fun b => m (c, b)) (Proc.devRef .tc main_v2) = _
  simp only [hostOps0]
  after_results <;> rfl
theorem given3 : V m c main_v3 = (m ((c.tc : Thread nD τ).loc main_arg4) : Vec Ideal S8x4096x256 .f32) := by
  show StableHlo.after (hostOps0 (F := Ideal)) (fun b => m (c, b)) (Proc.devRef .tc main_v3) = _
  simp only [hostOps0]
  after_results <;> rfl
theorem given4 : V m c main_v4 = (m ((c.tc : Thread nD τ).loc main_arg6) : Vec Ideal S4x1024x1024 .f32) := by
  show StableHlo.after (hostOps0 (F := Ideal)) (fun b => m (c, b)) (Proc.devRef .tc main_v4) = _
  simp only [hostOps0]
  after_results <;> rfl
theorem given5 : V m c main_v5 = (m ((c.tc : Thread nD τ).loc main_arg7) : Vec Ideal S4x1024x4096 .f32) := by
  show StableHlo.after (hostOps0 (F := Ideal)) (fun b => m (c, b)) (Proc.devRef .tc main_v5) = _
  simp only [hostOps0]
  after_results <;> rfl
theorem given6 : V m c main_v6 = (m ((c.tc : Thread nD τ).loc main_arg8) : Vec Ideal S4x4096x1024 .f32) := by
  show StableHlo.after (hostOps0 (F := Ideal)) (fun b => m (c, b)) (Proc.devRef .tc main_v6) = _
  simp only [hostOps0]
  after_results <;> rfl

section
variable (t : Fin cfg0.N)

theorem blockX (r : Fin 512) (z : Fin 1024) : iblk (F := Ideal) m c 0 t (ix3 0 r z)
    = (m ((c.tc : Thread nD τ).loc main_arg0) : Vec Ideal S8x4096x1024 .f32) (ix3 ⟨t.val / 8 % 8, by omega⟩ ⟨512 * (t.val % 8) + r.val, by omega⟩ z) := by
  rw [← V_main_arg0 m c]
  refine congrArg (V m c main_arg0) (funext fun a => Fin.ext ?_)
  have e := congrFun (idx0 t)
  have h := lt64 t
  match a with
  | ⟨0, _⟩ => exact (show win0_0.index t 0 * 1 + 1 * 0 = t.val / 8 % 8 by rw [e 0]; simp; omega)
  | ⟨1, _⟩ => exact (show win0_0.index t 1 * 512 + 1 * r.val = 512 * (t.val % 8) + r.val by rw [e 1]; simp; omega)
  | ⟨2, _⟩ => exact (show win0_0.index t 2 * 1024 + 1 * z.val = z.val by rw [e 2]; simp)

theorem blockA (r : Fin 512) (l : Fin 256) : iblk (F := Ideal) m c 1 t (ix3 0 r l)
    = (m ((c.tc : Thread nD τ).loc main_arg1) : Vec Ideal S8x4096x256 .f32) (ix3 ⟨t.val / 8 % 8, by omega⟩ ⟨512 * (t.val % 8) + r.val, by omega⟩ l) := by
  rw [← given0 m c]
  refine congrArg (V m c main_v0) (funext fun a => Fin.ext ?_)
  have e := congrFun (idx1 t)
  have h := lt64 t
  match a with
  | ⟨0, _⟩ => exact (show win0_1.index t 0 * 1 + 1 * 0 = t.val / 8 % 8 by rw [e 0]; simp; omega)
  | ⟨1, _⟩ => exact (show win0_1.index t 1 * 512 + 1 * r.val = 512 * (t.val % 8) + r.val by rw [e 1]; simp; omega)
  | ⟨2, _⟩ => exact (show win0_1.index t 2 * 256 + 1 * l.val = l.val by rw [e 2]; simp)

theorem blockB (r : Fin 512) (l : Fin 256) : iblk (F := Ideal) m c 2 t (ix3 0 r l)
    = (m ((c.tc : Thread nD τ).loc main_arg2) : Vec Ideal S8x4096x256 .f32) (ix3 ⟨t.val / 8 % 8, by omega⟩ ⟨512 * (t.val % 8) + r.val, by omega⟩ l) := by
  rw [← given1 m c]
  refine congrArg (V m c main_v1) (funext fun a => Fin.ext ?_)
  have e := congrFun (idx2 t)
  have h := lt64 t
  match a with
  | ⟨0, _⟩ => exact (show win0_2.index t 0 * 1 + 1 * 0 = t.val / 8 % 8 by rw [e 0]; simp; omega)
  | ⟨1, _⟩ => exact (show win0_2.index t 1 * 512 + 1 * r.val = 512 * (t.val % 8) + r.val by rw [e 1]; simp; omega)
  | ⟨2, _⟩ => exact (show win0_2.index t 2 * 256 + 1 * l.val = l.val by rw [e 2]; simp)

theorem blockC (r : Fin 512) (l : Fin 256) : iblk (F := Ideal) m c 3 t (ix3 0 r l)
    = (m ((c.tc : Thread nD τ).loc main_arg3) : Vec Ideal S8x4096x256 .f32) (ix3 ⟨t.val / 8 % 8, by omega⟩ ⟨512 * (t.val % 8) + r.val, by omega⟩ l) := by
  rw [← given2 m c]
  refine congrArg (V m c main_v2) (funext fun a => Fin.ext ?_)
  have e := congrFun (idx3 t)
  have h := lt64 t
  match a with
  | ⟨0, _⟩ => exact (show win0_3.index t 0 * 1 + 1 * 0 = t.val / 8 % 8 by rw [e 0]; simp; omega)
  | ⟨1, _⟩ => exact (show win0_3.index t 1 * 512 + 1 * r.val = 512 * (t.val % 8) + r.val by rw [e 1]; simp; omega)
  | ⟨2, _⟩ => exact (show win0_3.index t 2 * 256 + 1 * l.val = l.val by rw [e 2]; simp)

theorem blockD (r : Fin 512) (l : Fin 256) : iblk (F := Ideal) m c 4 t (ix3 0 r l)
    = (m ((c.tc : Thread nD τ).loc main_arg4) : Vec Ideal S8x4096x256 .f32) (ix3 ⟨t.val / 8 % 8, by omega⟩ ⟨512 * (t.val % 8) + r.val, by omega⟩ l) := by
  rw [← given3 m c]
  refine congrArg (V m c main_v3) (funext fun a => Fin.ext ?_)
  have e := congrFun (idx4 t)
  have h := lt64 t
  match a with
  | ⟨0, _⟩ => exact (show win0_4.index t 0 * 1 + 1 * 0 = t.val / 8 % 8 by rw [e 0]; simp; omega)
  | ⟨1, _⟩ => exact (show win0_4.index t 1 * 512 + 1 * r.val = 512 * (t.val % 8) + r.val by rw [e 1]; simp; omega)
  | ⟨2, _⟩ => exact (show win0_4.index t 2 * 256 + 1 * l.val = l.val by rw [e 2]; simp)

theorem blockM (i : Fin 6) (z : Fin 1024) : iblk (F := Ideal) m c 5 t (ix3 0 i z)
    = (m ((c.tc : Thread nD τ).loc main_arg5) : Vec Ideal S8x6x1024 .f32) (ix3 ⟨t.val / 8 % 8, by omega⟩ i z) := by
  rw [← V_main_arg5 m c]
  refine congrArg (V m c main_arg5) (funext fun a => Fin.ext ?_)
  have e := congrFun (idx5 t)
  have h := lt64 t
  match a with
  | ⟨0, _⟩ => exact (show win0_5.index t 0 * 1 + 1 * 0 = t.val / 8 % 8 by rw [e 0]; simp; omega)
  | ⟨1, _⟩ => exact (show win0_5.index t 1 * 6 + 1 * i.val = i.val by rw [e 1]; simp)
  | ⟨2, _⟩ => exact (show win0_5.index t 2 * 1024 + 1 * z.val = z.val by rw [e 2]; simp)

theorem blockO (k z : Fin 1024) : iblk (F := Ideal) m c 6 t (ix3 0 k z)
    = (m ((c.tc : Thread nD τ).loc main_arg6) : Vec Ideal S4x1024x1024 .f32) (ix3 2 k z) := by
  rw [← given4 m c]
  refine congrArg (V m c main_v4) (funext fun a => Fin.ext ?_)
  have e := congrFun (idx6 t)
  match a with
  | ⟨0, _⟩ => exact (show win0_6.index t 0 * 1 + 1 * 0 = 2 by rw [e 0]; simp)
  | ⟨1, _⟩ => exact (show win0_6.index t 1 * 1024 + 1 * k.val = k.val by rw [e 1]; simp)
  | ⟨2, _⟩ => exact (show win0_6.index t 2 * 1024 + 1 * z.val = z.val by rw [e 2]; simp)

theorem blockP (j : Fin 1024) (k : Fin 4096) : iblk (F := Ideal) m c 7 t (ix3 0 j k)
    = (m ((c.tc : Thread nD τ).loc main_arg7) : Vec Ideal S4x1024x4096 .f32) (ix3 2 j k) := by
  rw [← given5 m c]
  refine congrArg (V m c main_v5) (funext fun a => Fin.ext ?_)
  have e := congrFun (idx7 t)
  match a with
  | ⟨0, _⟩ => exact (show win0_7.index t 0 * 1 + 1 * 0 = 2 by rw [e 0]; simp)
  | ⟨1, _⟩ => exact (show win0_7.index t 1 * 1024 + 1 * j.val = j.val by rw [e 1]; simp)
  | ⟨2, _⟩ => exact (show win0_7.index t 2 * 4096 + 1 * k.val = k.val by rw [e 2]; simp)

theorem blockQ (k : Fin 4096) (z : Fin 1024) : iblk (F := Ideal) m c 8 t (ix3 0 k z)
    = (m ((c.tc : Thread nD τ).loc main_arg8) : Vec Ideal S4x4096x1024 .f32) (ix3 2 k z) := by
  rw [← given6 m c]
  refine congrArg (V m c main_v6) (funext fun a => Fin.ext ?_)
  have e := congrFun (idx8 t)
  match a with
  | ⟨0, _⟩ => exact (show win0_8.index t 0 * 1 + 1 * 0 = 2 by rw [e 0]; simp)
  | ⟨1, _⟩ => exact (show win0_8.index t 1 * 4096 + 1 * k.val = k.val by rw [e 1]; simp)
  | ⟨2, _⟩ => exact (show win0_8.index t 2 * 1024 + 1 * z.val = z.val by rw [e 2]; simp)

end

/-- The result of the arguments as launched. -/
def resultAt (n : Fin 8) (r : Fin 4096) (z : Fin 1024) : EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) n r z

/-- A grid point's tile, element by element. -/
theorem tile_at (t : Fin cfg0.N) (r : Fin 512) (z : Fin 1024) : (dats m 0 c).after 9 t (ix3 0 r z)
    = resultAt m c ⟨t.val / 8 % 8, by omega⟩ ⟨512 * (t.val % 8) + r.val, by omega⟩ z := by
  rw [after0_9]
  refine (out_apply _ _ _ _ _ _ _ _ _ 0 r z).trans ?_
  unfold resultAt result
  rw [funext (blockX m c t r), funext (blockA m c t r), funext (blockB m c t r), funext (blockC m c t r), funext (blockD m c t r),
    funext fun i => funext (blockM m c t i), funext fun k => funext (blockO m c t k), funext fun j => funext (blockP m c t j),
    funext fun k => funext (blockQ m c t k)]

theorem mem9 (t : Fin cfg0.N) (i : S8x4096x1024.Idx) : i ∈ ((cfg0.win 9).blk t).view.set
    ↔ ∀ a : Fin 3, win0_9.index t a * S1x512x1024.size a ≤ (i a).val ∧ (i a).val < win0_9.index t a * S1x512x1024.size a + S1x512x1024.size a := by
  show i ∈ ((View.whole main_v7).slice (win0_9.rect t)).set ↔ _
  rw [View.set_slice_whole, Rect.mem_set_unit]
  exact Iff.rfl

theorem covered9 (i : S8x4096x1024.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 1024 := (i 2).isLt
  have hN : 8 * (i 0).val + (i 1).val / 512 < cfg0.N := lt_of_lt_of_eq (by omega) N_0.symm
  refine ⟨⟨8 * (i 0).val + (i 1).val / 512, hN⟩, flush9 _, ?_⟩
  rw [mem9, idx9]
  intro a
  match a with
  | ⟨0, _⟩ => show (8 * (i 0).val + (i 1).val / 512) / 8 * 1 ≤ (i 0).val ∧ (i 0).val < (8 * (i 0).val + (i 1).val / 512) / 8 * 1 + 1; omega
  | ⟨1, _⟩ => show (8 * (i 0).val + (i 1).val / 512) % 8 * 512 ≤ (i 1).val ∧ (i 1).val < (8 * (i 0).val + (i 1).val / 512) % 8 * 512 + 512; omega
  | ⟨2, _⟩ => show 0 * 1024 ≤ (i 2).val ∧ (i 2).val < 0 * 1024 + 1024; omega

/-- The array after the run. -/
theorem final : (dats m 0 c).arrAt 9 cfg0.N = (fun i => resultAt m c (i 0) (i 1) (i 2) : Vec Ideal S8x4096x1024 .f32) := by
  refine (dats m 0 c).arrAt_eq_of_cover 9 (fun i => resultAt m c (i 0) (i 1) (i 2) : Vec Ideal S8x4096x1024 .f32) (fun t _ => ?_) covered9
  show (cfg0.win 9).cut (grid0.coords t) ((dats m 0 c).after 9 t) = _
  have H := tile_at m c t
  generalize (dats m 0 c).after 9 t = y at H ⊢
  funext x
  have e := congrFun (idx9 t)
  have h := lt64 t
  have x0 : (x 0).val < 1 := (x 0).isLt
  have x1 : (x 1).val < 512 := (x 1).isLt
  have x2 : (x 2).val < 1024 := (x 2).isLt
  have b0 : (((cfg0.win 9).blk t).view.emb x 0).val = win0_9.index t (0 : Fin 3) * 1 + 1 * (x 0).val := rfl
  have b1 : (((cfg0.win 9).blk t).view.emb x 1).val = win0_9.index t (1 : Fin 3) * 512 + 1 * (x 1).val := rfl
  have b2 : (((cfg0.win 9).blk t).view.emb x 2).val = win0_9.index t (2 : Fin 3) * 1024 + 1 * (x 2).val := rfl
  have e0 : win0_9.index t (0 : Fin 3) = t.val / 8 := e 0
  have e1 : win0_9.index t (1 : Fin 3) = t.val % 8 := e 1
  have e2 : win0_9.index t (2 : Fin 3) = 0 := e 2
  have hl : (cfg0.win 9).xinj (grid0.coords t) x = ix3 0 ⟨(x 1).val, x1⟩ ⟨(x 2).val, x2⟩ := by
    funext a; apply Fin.ext
    match a with
    | ⟨0, _⟩ => show (x 0).val = 0; omega
    | ⟨1, _⟩ => rfl
    | ⟨2, _⟩ => rfl
  have hr : ((cfg0.win 9).blk t).view.emb x = ix3 ⟨t.val / 8 % 8, by omega⟩ ⟨512 * (t.val % 8) + (x 1).val, by omega⟩ ⟨(x 2).val, x2⟩ := by
    funext a; apply Fin.ext
    match a with
    | ⟨0, _⟩ => show (((cfg0.win 9).blk t).view.emb x 0).val = t.val / 8 % 8; omega
    | ⟨1, _⟩ => show (((cfg0.win 9).blk t).view.emb x 1).val = 512 * (t.val % 8) + (x 1).val; omega
    | ⟨2, _⟩ => show (((cfg0.win 9).blk t).view.emb x 2).val = (x 2).val; omega
  show y ((cfg0.win 9).xinj (grid0.coords t) x) = (fun i => resultAt m c (i 0) (i 1) (i 2) : Vec Ideal S8x4096x1024 .f32) (((cfg0.win 9).blk t).view.emb x)
  rw [hl, hr]
  exact H ⟨(x 1).val, x1⟩ ⟨(x 2).val, x2⟩

end Cert.Kernel5Ideal.Mid

end
-- ==== Proof.MidRefer.lean ====
/- The reference's projection and MLP of an earlier layer, read at an index. -/
module

public import proofs.«01_k».proof.Proof.MlpRow
public import proofs.«01_k».proof.Proof.Gen.Reference5Ideal.Run
public import Idealize.ShloMosaic.Lib.Pipeline.ValueKit

@[expose] public section

set_option maxRecDepth 16384

noncomputable section

namespace Cert.Reference5Ideal.Mid

open Idealize.ShloMosaic Gen Cert.Mlp

/-- A row of the modulation, for every token. -/
def rowV {o : ℕ} (h : S8x6x1024.Slices ![0, o, 0] S8x1x1024) (mods : FVec Ideal S8x6x1024 .f32) : FVec Ideal S8x1x1024 .f32 :=
  broadcastInDim S8x1x1024 ![0, 2] bcast_S8x1024_S8x1x1024_0_2 (shapeCast S8x1024 (extractStridedSlice S8x1x1024 ![0, o, 0] mods h) shapeCasts_S8x1x1024_S8x1024)

def wideV (g : FVec Ideal S8x1x1024 .f32) : FVec Ideal S8x4096x1024 .f32 :=
  broadcastInDim S8x4096x1024 ![0, 1, 2] bcast_S8x1x1024_S8x4096x1024_0_1_2 g

def stepV (x : FVec Ideal S8x4096x1024 .f32) (g : FVec Ideal S8x1x1024 .f32) (y : FVec Ideal S8x4096x1024 .f32) : FVec Ideal S8x4096x1024 .f32 :=
  addf x (mulf (wideV g) y)

def joinV (a b c d : FVec Ideal S8x4096x256 .f32) : FVec Ideal S8x4096x1024 .f32 :=
  concatenate S8x4096x1024 2 [⟨S8x4096x256, a⟩, ⟨S8x4096x256, b⟩, ⟨S8x4096x256, c⟩, ⟨S8x4096x256, d⟩] concatenates_S8x4096x256_S8x4096x256_S8x4096x256_S8x4096x256_S8x4096x1024_d2

def projV (y : FVec Ideal S8x4096x1024 .f32) (w : FVec Ideal S4x1024x1024 .f32) : FVec Ideal S8x4096x1024 .f32 :=
  Host.dotGeneral dot_S8x4096x1024_S1024x1024_S8x4096x1024_2_0_01_1_n_n none y
    (shapeCast S1024x1024 (extractStridedSlice S1x1024x1024 ![2, 0, 0] w slices_S4x1024x1024_S1x1024x1024_2_0_0) shapeCasts_S1x1024x1024_S1024x1024)

def normV (x : FVec Ideal S8x4096x1024 .f32) : FVec Ideal S8x4096x1024 .f32 :=
  mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))))

def modulatedV (x : FVec Ideal S8x4096x1024 .f32) (scale shift : FVec Ideal S8x1x1024 .f32) : FVec Ideal S8x4096x1024 .f32 :=
  addf (mulf x (wideV (addf (broadcastInDim S8x1x1024 ![] bcast_S_S8x1x1024 (constant S_ .f32 0x3F800000#32)) scale))) (wideV shift)

def hiddenV (h : FVec Ideal S8x4096x1024 .f32) (w : FVec Ideal S4x1024x4096 .f32) : FVec Ideal S8x4096x4096 .f32 :=
  maximumf (Host.dotGeneral dot_S8x4096x1024_S1024x4096_S8x4096x4096_2_0_01_1_n_n none h
    (shapeCast S1024x4096 (extractStridedSlice S1x1024x4096 ![2, 0, 0] w slices_S4x1024x4096_S1x1024x4096_2_0_0) shapeCasts_S1x1024x4096_S1024x4096))
    (broadcastInDim S8x4096x4096 ![] bcast_S_S8x4096x4096 (constant S_ .f32 0x00000000#32))

def mlpV (u : FVec Ideal S8x4096x4096 .f32) (w : FVec Ideal S4x4096x1024 .f32) : FVec Ideal S8x4096x1024 .f32 :=
  Host.dotGeneral dot_S8x4096x4096_S4096x1024_S8x4096x1024_2_0_01_1_n_n none (mulf u u)
    (shapeCast S4096x1024 (extractStridedSlice S1x4096x1024 ![2, 0, 0] w slices_S4x4096x1024_S1x4096x1024_2_0_0) shapeCasts_S1x4096x1024_S4096x1024)

section
variable (n : Fin 8) (r : Fin 4096) (z : Fin 1024)

theorem rowV_apply {o : ℕ} (h : S8x6x1024.Slices ![0, o, 0] S8x1x1024) (mods : FVec Ideal S8x6x1024 .f32) (ho : o < 6) :
    rowV h mods (ix3 n 0 z) = mods (ix3 n ⟨o, ho⟩ z) := by
  pointwise [rowV]
  done

theorem stepV_apply (x : FVec Ideal S8x4096x1024 .f32) (g : FVec Ideal S8x1x1024 .f32) (y : FVec Ideal S8x4096x1024 .f32) :
    stepV x g y (ix3 n r z) = step (fun z => x (ix3 n r z)) (fun z => g (ix3 n 0 z)) (fun z => y (ix3 n r z)) z := by
  pointwise [stepV, wideV, step]
  done

theorem joinV_apply (a b c d : FVec Ideal S8x4096x256 .f32) :
    joinV a b c d (ix3 n r z) = join (fun l => a (ix3 n r l)) (fun l => b (ix3 n r l)) (fun l => c (ix3 n r l)) (fun l => d (ix3 n r l)) z := by
  pointwise [joinV, join]
  simp only [Nat.sub_sub, Nat.reduceAdd]

theorem projV_apply (y : FVec Ideal S8x4096x1024 .f32) (w : FVec Ideal S4x1024x1024 .f32) :
    projV y w (ix3 n r z) = ∑ k, y (ix3 n r k) * w (ix3 2 k z) := by
  pointwise [projV]
  done

theorem normV_apply (x : FVec Ideal S8x4096x1024 .f32) : normV x (ix3 n r z) = rowNorm (fun z => x (ix3 n r z)) z := by
  pointwise [normV, rowNorm]
  done

theorem modulatedV_apply (x : FVec Ideal S8x4096x1024 .f32) (scale shift : FVec Ideal S8x1x1024 .f32) :
    modulatedV x scale shift (ix3 n r z) = x (ix3 n r z) * (1 + scale (ix3 n 0 z)) + shift (ix3 n 0 z) := by
  pointwise [modulatedV, wideV]
  done

theorem hiddenV_apply (h : FVec Ideal S8x4096x1024 .f32) (w : FVec Ideal S4x1024x4096 .f32) (k : Fin 4096) :
    hiddenV h w (ix3 n r k) = max (∑ j, h (ix3 n r j) * w (ix3 2 j k)) 0 := by
  pointwise [hiddenV]
  done

theorem mlpV_apply (u : FVec Ideal S8x4096x4096 .f32) (w : FVec Ideal S4x4096x1024 .f32) :
    mlpV u w (ix3 n r z) = ∑ k, u (ix3 n r k) * u (ix3 n r k) * w (ix3 2 k z) := by
  pointwise [mlpV]
  done

end

/-- The residual stream after the mixers. -/
def midV (x : FVec Ideal S8x4096x1024 .f32) (a b c d : FVec Ideal S8x4096x256 .f32) (mods : FVec Ideal S8x6x1024 .f32) (wo : FVec Ideal S4x1024x1024 .f32) :
    FVec Ideal S8x4096x1024 .f32 :=
  stepV x (rowV slices_S8x6x1024_S8x1x1024_0_2_0 mods) (projV (joinV a b c d) wo)

/-- What the MLP reads. -/
def entryV (x : FVec Ideal S8x4096x1024 .f32) (mods : FVec Ideal S8x6x1024 .f32) : FVec Ideal S8x4096x1024 .f32 :=
  modulatedV (normV x) (rowV slices_S8x6x1024_S8x1x1024_0_4_0 mods) (rowV slices_S8x6x1024_S8x1x1024_0_3_0 mods)

/-- The whole of the reference after the mixers. -/
def wholeV (x : FVec Ideal S8x4096x1024 .f32) (mods : FVec Ideal S8x6x1024 .f32) (w1 : FVec Ideal S4x1024x4096 .f32) (w2 : FVec Ideal S4x4096x1024 .f32) :
    FVec Ideal S8x4096x1024 .f32 :=
  stepV x (rowV slices_S8x6x1024_S8x1x1024_0_5_0 mods) (mlpV (hiddenV (entryV x mods) w1) w2)

theorem midV_apply (x : FVec Ideal S8x4096x1024 .f32) (a b c d : FVec Ideal S8x4096x256 .f32) (mods : FVec Ideal S8x6x1024 .f32) (wo : FVec Ideal S4x1024x1024 .f32)
    (n : Fin 8) (r : Fin 4096) (z : Fin 1024) : midV x a b c d mods wo (ix3 n r z)
      = step (fun z => x (ix3 n r z)) (fun z => mods (ix3 n 2 z)) (proj (fun l => a (ix3 n r l)) (fun l => b (ix3 n r l)) (fun l => c (ix3 n r l))
        (fun l => d (ix3 n r l)) fun k z => wo (ix3 2 k z)) z := by
  unfold midV
  rw [stepV_apply]
  unfold step proj
  simp only [projV_apply, joinV_apply]
  rw [rowV_apply n z _ mods (by omega)]
  rfl

theorem entryV_apply (x : FVec Ideal S8x4096x1024 .f32) (mods : FVec Ideal S8x6x1024 .f32) (n : Fin 8) (r : Fin 4096) (z : Fin 1024) : entryV x mods (ix3 n r z)
    = modulated (fun z => x (ix3 n r z)) (fun z => mods (ix3 n 4 z)) (fun z => mods (ix3 n 3 z)) z := by
  unfold entryV modulated
  rw [modulatedV_apply, normV_apply, rowV_apply n z _ mods (by omega), rowV_apply n z _ mods (by omega)]
  rfl

theorem wholeV_apply (x : FVec Ideal S8x4096x1024 .f32) (mods : FVec Ideal S8x6x1024 .f32) (w1 : FVec Ideal S4x1024x4096 .f32) (w2 : FVec Ideal S4x4096x1024 .f32)
    (n : Fin 8) (r : Fin 4096) (z : Fin 1024) : wholeV x mods w1 w2 (ix3 n r z)
      = step (fun z => x (ix3 n r z)) (fun z => mods (ix3 n 5 z))
          (mlp (modulated (fun z => x (ix3 n r z)) (fun z => mods (ix3 n 4 z)) (fun z => mods (ix3 n 3 z))) (fun j k => w1 (ix3 2 j k)) (fun k z => w2 (ix3 2 k z))) z := by
  unfold wholeV
  rw [stepV_apply]
  unfold step mlp Cert.Mlp.unit
  simp only [mlpV_apply, hiddenV_apply, entryV_apply]
  rw [rowV_apply n z _ mods (by omega)]
  rfl

variable (m : (ℓ : Loc nD τ sig) → Buf (Elt Ideal) ℓ) (c : Dev nD)

set_option maxHeartbeats 1000000 in
/-- The reference's result, stage by stage. -/
theorem result_eq : Cert.Reference5Ideal.Value.res_main_v51 m c
    = wholeV (midV (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) (m ((c.tc : Thread nD τ).loc main_arg5)) (m ((c.tc : Thread nD τ).loc main_arg7))
        (m ((c.tc : Thread nD τ).loc main_arg8)) := rfl

end Cert.Reference5Ideal.Mid

end
-- ==== Proof.MidResult.lean ====
/- The array an earlier layer's projection and MLP leave is the reference's. -/
module

public import proofs.«01_k».proof.Proof.MidArray
public import proofs.«01_k».proof.Proof.MidRefer

@[expose] public section

set_option maxRecDepth 16384

noncomputable section

namespace Cert.Kernel5Ideal.Mid

open Idealize.ShloMosaic Gen Cert.Mlp

/-- The reference's stages are the tokens' results. -/
theorem whole_result (x : Vec Ideal S8x4096x1024 .f32) (a b c d : Vec Ideal S8x4096x256 .f32) (mods : Vec Ideal S8x6x1024 .f32)
    (wo : Vec Ideal S4x1024x1024 .f32) (w1 : Vec Ideal S4x1024x4096 .f32) (w2 : Vec Ideal S4x4096x1024 .f32) :
    Cert.Reference5Ideal.Mid.wholeV (Cert.Reference5Ideal.Mid.midV x a b c d mods wo) mods w1 w2
      = (fun i => result x a b c d mods wo w1 w2 (i 0) (i 1) (i 2) : Vec Ideal S8x4096x1024 .f32) := by
  funext i
  obtain ⟨n, r, z, rfl⟩ : ∃ (n : Fin 8) (r : Fin 4096) (z : Fin 1024), i = ix3 n r z :=
    ⟨i 0, i 1, i 2, funext fun a => match a with | ⟨0, _⟩ => rfl | ⟨1, _⟩ => rfl | ⟨2, _⟩ => rfl⟩
  refine (Cert.Reference5Ideal.Mid.wholeV_apply _ mods w1 w2 n r z).trans ?_
  rw [funext (Cert.Reference5Ideal.Mid.midV_apply x a b c d mods wo n r)]
  rfl

end Cert.Kernel5Ideal.Mid

end
-- ==== Proof.lean ====
/- The claim: the frames, the idealizations, and the results of the attention, of the projection with the MLP over both kinds
   of tokens and of the modulation, array against array. -/
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Result
public import proofs.«01_k».proof.Proof.Finite
public import proofs.«01_k».proof.Proof.MlpResult
public import proofs.«01_k».proof.Proof.AdaRefer
public import proofs.«01_k».proof.Proof.CtxResult
public import proofs.«01_k».proof.Proof.MidResult
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs and leaves its arguments and every counter as they were. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

section
open Cert.KernelIdeal Cert.KernelIdeal.Gen

/-- An argument no window reads is as launched after the run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end

/-- With finite queries and keys the kernel's result is the reference's. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨_, kernel_run m ρ, ?_⟩
  refine (θ_run Cert.ReferenceIdeal.defs _ _).mono (fun _ h c => ⟨?_, (h c).2⟩) (Cert.ReferenceIdeal.Value.run (F := Ideal) m' ρ')
  obtain ⟨hq, hkc, hkl⟩ := Cert.Pre_finite.Attn.real _ _ _ _ _ (hpre c)
  refine (h c).1.trans ?_
  obtain ⟨h0, h1, h2, h3, h4⟩ := hagree c
  rw [h0, h1, h2, h3, h4]
  exact (Cert.KernelIdeal.Attn.final_mean m c hq hkc hkl).symm

/-- The second reference runs and leaves its arguments and every counter as they were. -/
theorem ref2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The last layer's projection, MLP and norm: the kernel's result is the reference's. -/
theorem values2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6, h7, h8, h9⟩ := hagree c
  refine (h c).1.trans ((Cert.Reference2Ideal.Mlp.result_eq m' c).trans ?_)
  rw [h0, h1, h2, h3, h4, h5, h6, h7, h8, h9]
  exact (Cert.Kernel2Ideal.Mlp.whole_result _ _ _ _ _ _ _ _ _ _).trans (Cert.Kernel2Ideal.Mlp.final m c).symm

/-- The third reference runs and leaves its arguments and every counter as they were. -/
theorem ref3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- Every layer's modulation: the kernel's result is the reference's. -/
theorem values3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨h0, h1, h2⟩ := hagree c
  refine (h c).1.trans ?_
  rw [h0, h1, h2]
  exact (Cert.Reference3Ideal.Ada.wholeV_result _ _ _).trans (Cert.Kernel3Ideal.Ada.final m c).symm

/-- The fourth reference runs and leaves its arguments and every counter as they were. -/
theorem ref4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The context's projection and MLP: the kernel's result is the reference's. -/
theorem values4 : Cert.algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨h0, h1, h2, h3, h4, h5, h6, h7, h8⟩ := hagree c
  refine (h c).1.trans ((Cert.Reference4Ideal.Ctx.result_eq m' c).trans ?_)
  rw [h0, h1, h2, h3, h4, h5, h6, h7, h8]
  exact (Cert.Kernel4Ideal.Ctx.whole_result _ _ _ _ _ _ _ _ _).trans (Cert.Kernel4Ideal.Ctx.final m c).symm

/-- The fifth reference runs and leaves its arguments and every counter as they were. -/
theorem ref5_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- An earlier layer's projection and MLP: the kernel's result is the reference's. -/
theorem values5 : Cert.algebraic_Kernel5Ideal_Reference5Ideal (hKernel5Ideal := Cert.Kernel5Ideal.Gen.facts)
    (hReference5Ideal := Cert.Reference5Ideal.Gen.facts) := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨h0, h1, h2, h3, h4, h5, h6, h7, h8⟩ := hagree c
  refine (h c).1.trans ((Cert.Reference5Ideal.Mid.result_eq m' c).trans ?_)
  rw [h0, h1, h2, h3, h4, h5, h6, h7, h8]
  exact (Cert.Kernel5Ideal.Mid.whole_result _ _ _ _ _ _ _ _ _).trans (Cert.Kernel5Ideal.Mid.final m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  fun m ρ _ => Cert.Kernel.Gen.frame m ρ, fun m ρ _ => Cert.KernelIdeal.Gen.frame m ρ, fun m ρ _ => Cert.KernelIdeal.Gen.frame m ρ, ref_frame,
  fun m ρ _ => ref_frame m ρ trivial, fun m ρ _ => Cert.Kernel2.Gen.frame m ρ, fun m ρ _ => Cert.Kernel2Ideal.Gen.frame m ρ, ref2_frame,
  fun m ρ _ => Cert.Kernel3.Gen.frame m ρ, fun m ρ _ => Cert.Kernel3Ideal.Gen.frame m ρ, ref3_frame,
  fun m ρ _ => Cert.Kernel4.Gen.frame m ρ, fun m ρ _ => Cert.Kernel4Ideal.Gen.frame m ρ, ref4_frame,
  fun m ρ _ => Cert.Kernel5.Gen.frame m ρ, fun m ρ _ => Cert.Kernel5Ideal.Gen.frame m ρ, ref5_frame,
  (trivial : Cert.preserves_Kernel_KernelIdeal), values, (trivial : Cert.preserves_Kernel2_Kernel2Ideal), values2,
  (trivial : Cert.preserves_Kernel3_Kernel3Ideal), values3,
  (trivial : Cert.preserves_Kernel4_Kernel4Ideal), values4,
  (trivial : Cert.preserves_Kernel5_Kernel5Ideal), values5⟩

end Cert.Proof

end
